-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_qkv [hPre_finite_qkv : Cert.Pre_finite_qkv.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_qkv.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6))).1 = (fun _ => 1#1)
    ∧ (Cert.Pre_finite_qkv.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6))).2.1 = (fun _ => 1#1)
    ∧ (Cert.Pre_finite_qkv.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6))).2.2 = (fun _ => 1#1)

def Pre_Prologue (m : (ℓ : Loc Cert.Prologue.nD Cert.Prologue.τ Cert.Prologue.sig) → Buf (Elt Bits) ℓ) : Prop :=
  True

def Pre_PrologueIdeal (m : (ℓ : Loc Cert.PrologueIdeal.nD Cert.PrologueIdeal.τ Cert.PrologueIdeal.sig) → Buf (Elt Ideal) ℓ) : Prop :=
  True

def Pre_PrologueIdeal_bounded_gn [hPre_bounded_gn : Cert.Pre_bounded_gn.Facts] (m : (ℓ : Loc Cert.PrologueIdeal.nD Cert.PrologueIdeal.τ Cert.PrologueIdeal.sig) → Buf (Elt Ideal) ℓ) : Prop :=
  ∀ c : Dev Cert.PrologueIdeal.nD,
    (Cert.Pre_bounded_gn.fn (F := Ideal) (m ((c.tc : Thread Cert.PrologueIdeal.nD Cert.PrologueIdeal.τ).loc Cert.PrologueIdeal.main_arg0)) (m ((c.tc : Thread Cert.PrologueIdeal.nD Cert.PrologueIdeal.τ).loc Cert.PrologueIdeal.main_arg1)) (m ((c.tc : Thread Cert.PrologueIdeal.nD Cert.PrologueIdeal.τ).loc Cert.PrologueIdeal.main_arg2)) (m ((c.tc : Thread Cert.PrologueIdeal.nD Cert.PrologueIdeal.τ).loc Cert.PrologueIdeal.main_arg3)) (m ((c.tc : Thread Cert.PrologueIdeal.nD Cert.PrologueIdeal.τ).loc Cert.PrologueIdeal.main_arg4)) (m ((c.tc : Thread Cert.PrologueIdeal.nD Cert.PrologueIdeal.τ).loc Cert.PrologueIdeal.main_arg5)) (m ((c.tc : Thread Cert.PrologueIdeal.nD Cert.PrologueIdeal.τ).loc Cert.PrologueIdeal.main_arg6)) (m ((c.tc : Thread Cert.PrologueIdeal.nD Cert.PrologueIdeal.τ).loc Cert.PrologueIdeal.main_arg7)) (m ((c.tc : Thread Cert.PrologueIdeal.nD Cert.PrologueIdeal.τ).loc Cert.PrologueIdeal.main_arg8)) (m ((c.tc : Thread Cert.PrologueIdeal.nD Cert.PrologueIdeal.τ).loc Cert.PrologueIdeal.main_arg9)) (m ((c.tc : Thread Cert.PrologueIdeal.nD Cert.PrologueIdeal.τ).loc Cert.PrologueIdeal.main_arg10))).1 = (fun _ => 1#1)
    ∧ (Cert.Pre_bounded_gn.fn (F := Ideal) (m ((c.tc : Thread Cert.PrologueIdeal.nD Cert.PrologueIdeal.τ).loc Cert.PrologueIdeal.main_arg0)) (m ((c.tc : Thread Cert.PrologueIdeal.nD Cert.PrologueIdeal.τ).loc Cert.PrologueIdeal.main_arg1)) (m ((c.tc : Thread Cert.PrologueIdeal.nD Cert.PrologueIdeal.τ).loc Cert.PrologueIdeal.main_arg2)) (m ((c.tc : Thread Cert.PrologueIdeal.nD Cert.PrologueIdeal.τ).loc Cert.PrologueIdeal.main_arg3)) (m ((c.tc : Thread Cert.PrologueIdeal.nD Cert.PrologueIdeal.τ).loc Cert.PrologueIdeal.main_arg4)) (m ((c.tc : Thread Cert.PrologueIdeal.nD Cert.PrologueIdeal.τ).loc Cert.PrologueIdeal.main_arg5)) (m ((c.tc : Thread Cert.PrologueIdeal.nD Cert.PrologueIdeal.τ).loc Cert.PrologueIdeal.main_arg6)) (m ((c.tc : Thread Cert.PrologueIdeal.nD Cert.PrologueIdeal.τ).loc Cert.PrologueIdeal.main_arg7)) (m ((c.tc : Thread Cert.PrologueIdeal.nD Cert.PrologueIdeal.τ).loc Cert.PrologueIdeal.main_arg8)) (m ((c.tc : Thread Cert.PrologueIdeal.nD Cert.PrologueIdeal.τ).loc Cert.PrologueIdeal.main_arg9)) (m ((c.tc : Thread Cert.PrologueIdeal.nD Cert.PrologueIdeal.τ).loc Cert.PrologueIdeal.main_arg10))).2 = (fun _ => 1#1)

def Pre_AttentionRefIdeal [hPre_finite_qkv : Cert.Pre_finite_qkv.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_qkv.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4)) (m ((c.tc : Thread Cert.AttentionRefIdeal.nD Cert.AttentionRefIdeal.τ).loc Cert.AttentionRefIdeal.main_arg5)) (m ((c.tc : Thread Cert.AttentionRefIdeal.nD Cert.AttentionRefIdeal.τ).loc Cert.AttentionRefIdeal.main_arg6))).1 = (fun _ => 1#1)
    ∧ (Cert.Pre_finite_qkv.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4)) (m ((c.tc : Thread Cert.AttentionRefIdeal.nD Cert.AttentionRefIdeal.τ).loc Cert.AttentionRefIdeal.main_arg5)) (m ((c.tc : Thread Cert.AttentionRefIdeal.nD Cert.AttentionRefIdeal.τ).loc Cert.AttentionRefIdeal.main_arg6))).2.1 = (fun _ => 1#1)
    ∧ (Cert.Pre_finite_qkv.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4)) (m ((c.tc : Thread Cert.AttentionRefIdeal.nD Cert.AttentionRefIdeal.τ).loc Cert.AttentionRefIdeal.main_arg5)) (m ((c.tc : Thread Cert.AttentionRefIdeal.nD Cert.AttentionRefIdeal.τ).loc Cert.AttentionRefIdeal.main_arg6))).2.2 = (fun _ => 1#1)

def Pre_PrologueRefIdeal [hPre_bounded_gn : Cert.Pre_bounded_gn.Facts] (m : (ℓ : Loc Cert.PrologueRefIdeal.nD Cert.PrologueRefIdeal.τ Cert.PrologueRefIdeal.sig) → Buf (Elt Ideal) ℓ) : Prop :=
  ∀ c : Dev Cert.PrologueRefIdeal.nD,
    (Cert.Pre_bounded_gn.fn (F := Ideal) (m ((c.tc : Thread Cert.PrologueRefIdeal.nD Cert.PrologueRefIdeal.τ).loc Cert.PrologueRefIdeal.main_arg0)) (m ((c.tc : Thread Cert.PrologueRefIdeal.nD Cert.PrologueRefIdeal.τ).loc Cert.PrologueRefIdeal.main_arg1)) (m ((c.tc : Thread Cert.PrologueRefIdeal.nD Cert.PrologueRefIdeal.τ).loc Cert.PrologueRefIdeal.main_arg2)) (m ((c.tc : Thread Cert.PrologueRefIdeal.nD Cert.PrologueRefIdeal.τ).loc Cert.PrologueRefIdeal.main_arg3)) (m ((c.tc : Thread Cert.PrologueRefIdeal.nD Cert.PrologueRefIdeal.τ).loc Cert.PrologueRefIdeal.main_arg4)) (m ((c.tc : Thread Cert.PrologueRefIdeal.nD Cert.PrologueRefIdeal.τ).loc Cert.PrologueRefIdeal.main_arg5)) (m ((c.tc : Thread Cert.PrologueRefIdeal.nD Cert.PrologueRefIdeal.τ).loc Cert.PrologueRefIdeal.main_arg6)) (m ((c.tc : Thread Cert.PrologueRefIdeal.nD Cert.PrologueRefIdeal.τ).loc Cert.PrologueRefIdeal.main_arg7)) (m ((c.tc : Thread Cert.PrologueRefIdeal.nD Cert.PrologueRefIdeal.τ).loc Cert.PrologueRefIdeal.main_arg8)) (m ((c.tc : Thread Cert.PrologueRefIdeal.nD Cert.PrologueRefIdeal.τ).loc Cert.PrologueRefIdeal.main_arg9)) (m ((c.tc : Thread Cert.PrologueRefIdeal.nD Cert.PrologueRefIdeal.τ).loc Cert.PrologueRefIdeal.main_arg10))).1 = (fun _ => 1#1)
    ∧ (Cert.Pre_bounded_gn.fn (F := Ideal) (m ((c.tc : Thread Cert.PrologueRefIdeal.nD Cert.PrologueRefIdeal.τ).loc Cert.PrologueRefIdeal.main_arg0)) (m ((c.tc : Thread Cert.PrologueRefIdeal.nD Cert.PrologueRefIdeal.τ).loc Cert.PrologueRefIdeal.main_arg1)) (m ((c.tc : Thread Cert.PrologueRefIdeal.nD Cert.PrologueRefIdeal.τ).loc Cert.PrologueRefIdeal.main_arg2)) (m ((c.tc : Thread Cert.PrologueRefIdeal.nD Cert.PrologueRefIdeal.τ).loc Cert.PrologueRefIdeal.main_arg3)) (m ((c.tc : Thread Cert.PrologueRefIdeal.nD Cert.PrologueRefIdeal.τ).loc Cert.PrologueRefIdeal.main_arg4)) (m ((c.tc : Thread Cert.PrologueRefIdeal.nD Cert.PrologueRefIdeal.τ).loc Cert.PrologueRefIdeal.main_arg5)) (m ((c.tc : Thread Cert.PrologueRefIdeal.nD Cert.PrologueRefIdeal.τ).loc Cert.PrologueRefIdeal.main_arg6)) (m ((c.tc : Thread Cert.PrologueRefIdeal.nD Cert.PrologueRefIdeal.τ).loc Cert.PrologueRefIdeal.main_arg7)) (m ((c.tc : Thread Cert.PrologueRefIdeal.nD Cert.PrologueRefIdeal.τ).loc Cert.PrologueRefIdeal.main_arg8)) (m ((c.tc : Thread Cert.PrologueRefIdeal.nD Cert.PrologueRefIdeal.τ).loc Cert.PrologueRefIdeal.main_arg9)) (m ((c.tc : Thread Cert.PrologueRefIdeal.nD Cert.PrologueRefIdeal.τ).loc Cert.PrologueRefIdeal.main_arg10))).2 = (fun _ => 1#1)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6))
      ∧ r.2.sem = fun _ => 0)

def quiescent_AttentionIdeal_pre_finite_qkv [hAttentionIdeal : Cert.AttentionIdeal.Facts] [hPre_finite_qkv : Cert.Pre_finite_qkv.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_qkv m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6))
      ∧ r.2.sem = fun _ => 0)

def quiescent_Prologue [hPrologue : Cert.Prologue.Facts] : Prop :=
  ∀ (m : (ℓ : Loc Cert.Prologue.nD Cert.Prologue.τ Cert.Prologue.sig) → Buf (Elt Bits) ℓ) (g : Dev Cert.Prologue.nD → PrngReg), Pre_Prologue m →
    θ_run (Cert.Prologue.defs (F := Bits)) (onTc (τ := Cert.Prologue.τ) (Cert.Prologue.main (F := Bits))) ⟨m, fun _ => 0, g⟩ (fun r => (∀ c : Dev Cert.Prologue.nD,
      r.2.mem ((c.tc : Thread Cert.Prologue.nD Cert.Prologue.τ).loc Cert.Prologue.main_arg0) = m ((c.tc : Thread Cert.Prologue.nD Cert.Prologue.τ).loc Cert.Prologue.main_arg0)
      ∧ r.2.mem ((c.tc : Thread Cert.Prologue.nD Cert.Prologue.τ).loc Cert.Prologue.main_arg1) = m ((c.tc : Thread Cert.Prologue.nD Cert.Prologue.τ).loc Cert.Prologue.main_arg1)
      ∧ r.2.mem ((c.tc : Thread Cert.Prologue.nD Cert.Prologue.τ).loc Cert.Prologue.main_arg2) = m ((c.tc : Thread Cert.Prologue.nD Cert.Prologue.τ).loc Cert.Prologue.main_arg2)
      ∧ r.2.mem ((c.tc : Thread Cert.Prologue.nD Cert.Prologue.τ).loc Cert.Prologue.main_arg3) = m ((c.tc : Thread Cert.Prologue.nD Cert.Prologue.τ).loc Cert.Prologue.main_arg3)
      ∧ r.2.mem ((c.tc : Thread Cert.Prologue.nD Cert.Prologue.τ).loc Cert.Prologue.main_arg4) = m ((c.tc : Thread Cert.Prologue.nD Cert.Prologue.τ).loc Cert.Prologue.main_arg4)
      ∧ r.2.mem ((c.tc : Thread Cert.Prologue.nD Cert.Prologue.τ).loc Cert.Prologue.main_arg5) = m ((c.tc : Thread Cert.Prologue.nD Cert.Prologue.τ).loc Cert.Prologue.main_arg5)
      ∧ r.2.mem ((c.tc : Thread Cert.Prologue.nD Cert.Prologue.τ).loc Cert.Prologue.main_arg6) = m ((c.tc : Thread Cert.Prologue.nD Cert.Prologue.τ).loc Cert.Prologue.main_arg6)
      ∧ r.2.mem ((c.tc : Thread Cert.Prologue.nD Cert.Prologue.τ).loc Cert.Prologue.main_arg7) = m ((c.tc : Thread Cert.Prologue.nD Cert.Prologue.τ).loc Cert.Prologue.main_arg7)
      ∧ r.2.mem ((c.tc : Thread Cert.Prologue.nD Cert.Prologue.τ).loc Cert.Prologue.main_arg8) = m ((c.tc : Thread Cert.Prologue.nD Cert.Prologue.τ).loc Cert.Prologue.main_arg8)
      ∧ r.2.mem ((c.tc : Thread Cert.Prologue.nD Cert.Prologue.τ).loc Cert.Prologue.main_arg9) = m ((c.tc : Thread Cert.Prologue.nD Cert.Prologue.τ).loc Cert.Prologue.main_arg9)
      ∧ r.2.mem ((c.tc : Thread Cert.Prologue.nD Cert.Prologue.τ).loc Cert.Prologue.main_arg10) = m ((c.tc : Thread Cert.Prologue.nD Cert.Prologue.τ).loc Cert.Prologue.main_arg10))
      ∧ r.2.sem = fun _ => 0)

def quiescent_PrologueIdeal [hPrologueIdeal : Cert.PrologueIdeal.Facts] : Prop :=
  ∀ (m : (ℓ : Loc Cert.PrologueIdeal.nD Cert.PrologueIdeal.τ Cert.PrologueIdeal.sig) → Buf (Elt Ideal) ℓ) (g : Dev Cert.PrologueIdeal.nD → PrngReg), Pre_PrologueIdeal m →
    θ_run (Cert.PrologueIdeal.defs (F := Ideal)) (onTc (τ := Cert.PrologueIdeal.τ) (Cert.PrologueIdeal.main (F := Ideal))) ⟨m, fun _ => 0, g⟩ (fun r => (∀ c : Dev Cert.PrologueIdeal.nD,
      r.2.mem ((c.tc : Thread Cert.PrologueIdeal.nD Cert.PrologueIdeal.τ).loc Cert.PrologueIdeal.main_arg0) = m ((c.tc : Thread Cert.PrologueIdeal.nD Cert.PrologueIdeal.τ).loc Cert.PrologueIdeal.main_arg0)
      ∧ r.2.mem ((c.tc : Thread Cert.PrologueIdeal.nD Cert.PrologueIdeal.τ).loc Cert.PrologueIdeal.main_arg1) = m ((c.tc : Thread Cert.PrologueIdeal.nD Cert.PrologueIdeal.τ).loc Cert.PrologueIdeal.main_arg1)
      ∧ r.2.mem ((c.tc : Thread Cert.PrologueIdeal.nD Cert.PrologueIdeal.τ).loc Cert.PrologueIdeal.main_arg2) = m ((c.tc : Thread Cert.PrologueIdeal.nD Cert.PrologueIdeal.τ).loc Cert.PrologueIdeal.main_arg2)
      ∧ r.2.mem ((c.tc : Thread Cert.PrologueIdeal.nD Cert.PrologueIdeal.τ).loc Cert.PrologueIdeal.main_arg3) = m ((c.tc : Thread Cert.PrologueIdeal.nD Cert.PrologueIdeal.τ).loc Cert.PrologueIdeal.main_arg3)
      ∧ r.2.mem ((c.tc : Thread Cert.PrologueIdeal.nD Cert.PrologueIdeal.τ).loc Cert.PrologueIdeal.main_arg4) = m ((c.tc : Thread Cert.PrologueIdeal.nD Cert.PrologueIdeal.τ).loc Cert.PrologueIdeal.main_arg4)
      ∧ r.2.mem ((c.tc : Thread Cert.PrologueIdeal.nD Cert.PrologueIdeal.τ).loc Cert.PrologueIdeal.main_arg5) = m ((c.tc : Thread Cert.PrologueIdeal.nD Cert.PrologueIdeal.τ).loc Cert.PrologueIdeal.main_arg5)
      ∧ r.2.mem ((c.tc : Thread Cert.PrologueIdeal.nD Cert.PrologueIdeal.τ).loc Cert.PrologueIdeal.main_arg6) = m ((c.tc : Thread Cert.PrologueIdeal.nD Cert.PrologueIdeal.τ).loc Cert.PrologueIdeal.main_arg6)
      ∧ r.2.mem ((c.tc : Thread Cert.PrologueIdeal.nD Cert.PrologueIdeal.τ).loc Cert.PrologueIdeal.main_arg7) = m ((c.tc : Thread Cert.PrologueIdeal.nD Cert.PrologueIdeal.τ).loc Cert.PrologueIdeal.main_arg7)
      ∧ r.2.mem ((c.tc : Thread Cert.PrologueIdeal.nD Cert.PrologueIdeal.τ).loc Cert.PrologueIdeal.main_arg8) = m ((c.tc : Thread Cert.PrologueIdeal.nD Cert.PrologueIdeal.τ).loc Cert.PrologueIdeal.main_arg8)
      ∧ r.2.mem ((c.tc : Thread Cert.PrologueIdeal.nD Cert.PrologueIdeal.τ).loc Cert.PrologueIdeal.main_arg9) = m ((c.tc : Thread Cert.PrologueIdeal.nD Cert.PrologueIdeal.τ).loc Cert.PrologueIdeal.main_arg9)
      ∧ r.2.mem ((c.tc : Thread Cert.PrologueIdeal.nD Cert.PrologueIdeal.τ).loc Cert.PrologueIdeal.main_arg10) = m ((c.tc : Thread Cert.PrologueIdeal.nD Cert.PrologueIdeal.τ).loc Cert.PrologueIdeal.main_arg10))
      ∧ r.2.sem = fun _ => 0)

def quiescent_PrologueIdeal_pre_bounded_gn [hPrologueIdeal : Cert.PrologueIdeal.Facts] [hPre_bounded_gn : Cert.Pre_bounded_gn.Facts] : Prop :=
  ∀ (m : (ℓ : Loc Cert.PrologueIdeal.nD Cert.PrologueIdeal.τ Cert.PrologueIdeal.sig) → Buf (Elt Ideal) ℓ) (g : Dev Cert.PrologueIdeal.nD → PrngReg), Pre_PrologueIdeal_bounded_gn m →
    θ_run (Cert.PrologueIdeal.defs (F := Ideal)) (onTc (τ := Cert.PrologueIdeal.τ) (Cert.PrologueIdeal.main (F := Ideal))) ⟨m, fun _ => 0, g⟩ (fun r => (∀ c : Dev Cert.PrologueIdeal.nD,
      r.2.mem ((c.tc : Thread Cert.PrologueIdeal.nD Cert.PrologueIdeal.τ).loc Cert.PrologueIdeal.main_arg0) = m ((c.tc : Thread Cert.PrologueIdeal.nD Cert.PrologueIdeal.τ).loc Cert.PrologueIdeal.main_arg0)
      ∧ r.2.mem ((c.tc : Thread Cert.PrologueIdeal.nD Cert.PrologueIdeal.τ).loc Cert.PrologueIdeal.main_arg1) = m ((c.tc : Thread Cert.PrologueIdeal.nD Cert.PrologueIdeal.τ).loc Cert.PrologueIdeal.main_arg1)
      ∧ r.2.mem ((c.tc : Thread Cert.PrologueIdeal.nD Cert.PrologueIdeal.τ).loc Cert.PrologueIdeal.main_arg2) = m ((c.tc : Thread Cert.PrologueIdeal.nD Cert.PrologueIdeal.τ).loc Cert.PrologueIdeal.main_arg2)
      ∧ r.2.mem ((c.tc : Thread Cert.PrologueIdeal.nD Cert.PrologueIdeal.τ).loc Cert.PrologueIdeal.main_arg3) = m ((c.tc : Thread Cert.PrologueIdeal.nD Cert.PrologueIdeal.τ).loc Cert.PrologueIdeal.main_arg3)
      ∧ r.2.mem ((c.tc : Thread Cert.PrologueIdeal.nD Cert.PrologueIdeal.τ).loc Cert.PrologueIdeal.main_arg4) = m ((c.tc : Thread Cert.PrologueIdeal.nD Cert.PrologueIdeal.τ).loc Cert.PrologueIdeal.main_arg4)
      ∧ r.2.mem ((c.tc : Thread Cert.PrologueIdeal.nD Cert.PrologueIdeal.τ).loc Cert.PrologueIdeal.main_arg5) = m ((c.tc : Thread Cert.PrologueIdeal.nD Cert.PrologueIdeal.τ).loc Cert.PrologueIdeal.main_arg5)
      ∧ r.2.mem ((c.tc : Thread Cert.PrologueIdeal.nD Cert.PrologueIdeal.τ).loc Cert.PrologueIdeal.main_arg6) = m ((c.tc : Thread Cert.PrologueIdeal.nD Cert.PrologueIdeal.τ).loc Cert.PrologueIdeal.main_arg6)
      ∧ r.2.mem ((c.tc : Thread Cert.PrologueIdeal.nD Cert.PrologueIdeal.τ).loc Cert.PrologueIdeal.main_arg7) = m ((c.tc : Thread Cert.PrologueIdeal.nD Cert.PrologueIdeal.τ).loc Cert.PrologueIdeal.main_arg7)
      ∧ r.2.mem ((c.tc : Thread Cert.PrologueIdeal.nD Cert.PrologueIdeal.τ).loc Cert.PrologueIdeal.main_arg8) = m ((c.tc : Thread Cert.PrologueIdeal.nD Cert.PrologueIdeal.τ).loc Cert.PrologueIdeal.main_arg8)
      ∧ r.2.mem ((c.tc : Thread Cert.PrologueIdeal.nD Cert.PrologueIdeal.τ).loc Cert.PrologueIdeal.main_arg9) = m ((c.tc : Thread Cert.PrologueIdeal.nD Cert.PrologueIdeal.τ).loc Cert.PrologueIdeal.main_arg9)
      ∧ r.2.mem ((c.tc : Thread Cert.PrologueIdeal.nD Cert.PrologueIdeal.τ).loc Cert.PrologueIdeal.main_arg10) = m ((c.tc : Thread Cert.PrologueIdeal.nD Cert.PrologueIdeal.τ).loc Cert.PrologueIdeal.main_arg10))
      ∧ r.2.sem = fun _ => 0)

def quiescent_AttentionRefIdeal [hAttentionRefIdeal : Cert.AttentionRefIdeal.Facts] [hPre_finite_qkv : Cert.Pre_finite_qkv.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6))
      ∧ r.2.sem = fun _ => 0)

def quiescent_PrologueRefIdeal [hPrologueRefIdeal : Cert.PrologueRefIdeal.Facts] [hPre_bounded_gn : Cert.Pre_bounded_gn.Facts] : Prop :=
  ∀ (m : (ℓ : Loc Cert.PrologueRefIdeal.nD Cert.PrologueRefIdeal.τ Cert.PrologueRefIdeal.sig) → Buf (Elt Ideal) ℓ) (g : Dev Cert.PrologueRefIdeal.nD → PrngReg), Pre_PrologueRefIdeal m →
    θ_run (Cert.PrologueRefIdeal.defs (F := Ideal)) (onTc (τ := Cert.PrologueRefIdeal.τ) (Cert.PrologueRefIdeal.main (F := Ideal))) ⟨m, fun _ => 0, g⟩ (fun r => (∀ c : Dev Cert.PrologueRefIdeal.nD,
      r.2.mem ((c.tc : Thread Cert.PrologueRefIdeal.nD Cert.PrologueRefIdeal.τ).loc Cert.PrologueRefIdeal.main_arg0) = m ((c.tc : Thread Cert.PrologueRefIdeal.nD Cert.PrologueRefIdeal.τ).loc Cert.PrologueRefIdeal.main_arg0)
      ∧ r.2.mem ((c.tc : Thread Cert.PrologueRefIdeal.nD Cert.PrologueRefIdeal.τ).loc Cert.PrologueRefIdeal.main_arg1) = m ((c.tc : Thread Cert.PrologueRefIdeal.nD Cert.PrologueRefIdeal.τ).loc Cert.PrologueRefIdeal.main_arg1)
      ∧ r.2.mem ((c.tc : Thread Cert.PrologueRefIdeal.nD Cert.PrologueRefIdeal.τ).loc Cert.PrologueRefIdeal.main_arg2) = m ((c.tc : Thread Cert.PrologueRefIdeal.nD Cert.PrologueRefIdeal.τ).loc Cert.PrologueRefIdeal.main_arg2)
      ∧ r.2.mem ((c.tc : Thread Cert.PrologueRefIdeal.nD Cert.PrologueRefIdeal.τ).loc Cert.PrologueRefIdeal.main_arg3) = m ((c.tc : Thread Cert.PrologueRefIdeal.nD Cert.PrologueRefIdeal.τ).loc Cert.PrologueRefIdeal.main_arg3)
      ∧ r.2.mem ((c.tc : Thread Cert.PrologueRefIdeal.nD Cert.PrologueRefIdeal.τ).loc Cert.PrologueRefIdeal.main_arg4) = m ((c.tc : Thread Cert.PrologueRefIdeal.nD Cert.PrologueRefIdeal.τ).loc Cert.PrologueRefIdeal.main_arg4)
      ∧ r.2.mem ((c.tc : Thread Cert.PrologueRefIdeal.nD Cert.PrologueRefIdeal.τ).loc Cert.PrologueRefIdeal.main_arg5) = m ((c.tc : Thread Cert.PrologueRefIdeal.nD Cert.PrologueRefIdeal.τ).loc Cert.PrologueRefIdeal.main_arg5)
      ∧ r.2.mem ((c.tc : Thread Cert.PrologueRefIdeal.nD Cert.PrologueRefIdeal.τ).loc Cert.PrologueRefIdeal.main_arg6) = m ((c.tc : Thread Cert.PrologueRefIdeal.nD Cert.PrologueRefIdeal.τ).loc Cert.PrologueRefIdeal.main_arg6)
      ∧ r.2.mem ((c.tc : Thread Cert.PrologueRefIdeal.nD Cert.PrologueRefIdeal.τ).loc Cert.PrologueRefIdeal.main_arg7) = m ((c.tc : Thread Cert.PrologueRefIdeal.nD Cert.PrologueRefIdeal.τ).loc Cert.PrologueRefIdeal.main_arg7)
      ∧ r.2.mem ((c.tc : Thread Cert.PrologueRefIdeal.nD Cert.PrologueRefIdeal.τ).loc Cert.PrologueRefIdeal.main_arg8) = m ((c.tc : Thread Cert.PrologueRefIdeal.nD Cert.PrologueRefIdeal.τ).loc Cert.PrologueRefIdeal.main_arg8)
      ∧ r.2.mem ((c.tc : Thread Cert.PrologueRefIdeal.nD Cert.PrologueRefIdeal.τ).loc Cert.PrologueRefIdeal.main_arg9) = m ((c.tc : Thread Cert.PrologueRefIdeal.nD Cert.PrologueRefIdeal.τ).loc Cert.PrologueRefIdeal.main_arg9)
      ∧ r.2.mem ((c.tc : Thread Cert.PrologueRefIdeal.nD Cert.PrologueRefIdeal.τ).loc Cert.PrologueRefIdeal.main_arg10) = m ((c.tc : Thread Cert.PrologueRefIdeal.nD Cert.PrologueRefIdeal.τ).loc Cert.PrologueRefIdeal.main_arg10))
      ∧ r.2.sem = fun _ => 0)

def preserves_Attention_AttentionIdeal : Prop :=
  IdealRules.named_const.Statement Cert.AttentionIdeal.κ "c2" .f32 0x3D8293EE#32 (((Real.sqrt 512)⁻¹ * (Real.log 2)⁻¹ : ℝ) : EReal)
  ∧ IdealRules.named_const.Statement Cert.AttentionIdeal.κ "inv_448" .f32 0x3B124925#32 ((1 / 448 : ℝ) : EReal)

def preserves_Prologue_PrologueIdeal : Prop :=
  IdealRules.named_const.Statement Cert.PrologueIdeal.κ "inv_98304" .f32 0x372AAAAB#32 ((1 / 98304 : ℝ) : EReal)
  ∧ IdealRules.named_const.Statement Cert.PrologueIdeal.κ "inv_448" .f32 0x3B124925#32 ((1 / 448 : ℝ) : EReal)

def algebraic_AttentionIdeal_AttentionRefIdeal_pre_finite_qkv [hAttentionIdeal : Cert.AttentionIdeal.Facts] [hAttentionRefIdeal : Cert.AttentionRefIdeal.Facts] [hPre_finite_qkv : Cert.Pre_finite_qkv.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_qkv m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)
      ∧ m' ((c.tc : Thread Cert.AttentionRefIdeal.nD Cert.AttentionRefIdeal.τ).loc Cert.AttentionRefIdeal.main_arg5) = m ((c.tc : Thread Cert.AttentionIdeal.nD Cert.AttentionIdeal.τ).loc Cert.AttentionIdeal.main_arg5)
      ∧ m' ((c.tc : Thread Cert.AttentionRefIdeal.nD Cert.AttentionRefIdeal.τ).loc Cert.AttentionRefIdeal.main_arg6) = m ((c.tc : Thread Cert.AttentionIdeal.nD Cert.AttentionIdeal.τ).loc Cert.AttentionIdeal.main_arg6)) →
    ∃ (v0 : (c : Dev Cert.AttentionIdeal.nD) → Buf (Elt Ideal) ((c.tc : Thread Cert.AttentionIdeal.nD Cert.AttentionIdeal.τ).loc Cert.AttentionIdeal.main_v2_0)) (v1 : (c : Dev Cert.AttentionIdeal.nD) → Buf (Elt Ideal) ((c.tc : Thread Cert.AttentionIdeal.nD Cert.AttentionIdeal.τ).loc Cert.AttentionIdeal.main_v2_1)) (v2 : (c : Dev Cert.AttentionIdeal.nD) → Buf (Elt Ideal) ((c.tc : Thread Cert.AttentionIdeal.nD Cert.AttentionIdeal.τ).loc Cert.AttentionIdeal.main_v2_2)) (v3 : (c : Dev Cert.AttentionIdeal.nD) → Buf (Elt Ideal) ((c.tc : Thread Cert.AttentionIdeal.nD Cert.AttentionIdeal.τ).loc Cert.AttentionIdeal.main_v2_3)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v2_0) = v0 c
          ∧ r.2.mem ((c.tc : Thread Cert.AttentionIdeal.nD Cert.AttentionIdeal.τ).loc Cert.AttentionIdeal.main_v2_1) = v1 c
          ∧ r.2.mem ((c.tc : Thread Cert.AttentionIdeal.nD Cert.AttentionIdeal.τ).loc Cert.AttentionIdeal.main_v2_2) = v2 c
          ∧ r.2.mem ((c.tc : Thread Cert.AttentionIdeal.nD Cert.AttentionIdeal.τ).loc Cert.AttentionIdeal.main_v2_3) = v3 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v42_0) = v0 c
          ∧ r.2.mem ((c.tc : Thread Cert.AttentionRefIdeal.nD Cert.AttentionRefIdeal.τ).loc Cert.AttentionRefIdeal.main_v42_1) = v1 c
          ∧ r.2.mem ((c.tc : Thread Cert.AttentionRefIdeal.nD Cert.AttentionRefIdeal.τ).loc Cert.AttentionRefIdeal.main_v42_2) = v2 c
          ∧ r.2.mem ((c.tc : Thread Cert.AttentionRefIdeal.nD Cert.AttentionRefIdeal.τ).loc Cert.AttentionRefIdeal.main_v34) = v3 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4)
          ∧ r.2.mem ((c.tc : Thread Cert.AttentionRefIdeal.nD Cert.AttentionRefIdeal.τ).loc Cert.AttentionRefIdeal.main_arg5) = m' ((c.tc : Thread Cert.AttentionRefIdeal.nD Cert.AttentionRefIdeal.τ).loc Cert.AttentionRefIdeal.main_arg5)
          ∧ r.2.mem ((c.tc : Thread Cert.AttentionRefIdeal.nD Cert.AttentionRefIdeal.τ).loc Cert.AttentionRefIdeal.main_arg6) = m' ((c.tc : Thread Cert.AttentionRefIdeal.nD Cert.AttentionRefIdeal.τ).loc Cert.AttentionRefIdeal.main_arg6))

def algebraic_PrologueIdeal_PrologueRefIdeal_pre_bounded_gn [hPrologueIdeal : Cert.PrologueIdeal.Facts] [hPrologueRefIdeal : Cert.PrologueRefIdeal.Facts] [hPre_bounded_gn : Cert.Pre_bounded_gn.Facts] : Prop :=
  ∀ (m : (ℓ : Loc Cert.PrologueIdeal.nD Cert.PrologueIdeal.τ Cert.PrologueIdeal.sig) → Buf (Elt Ideal) ℓ) (g : Dev Cert.PrologueIdeal.nD → PrngReg)
    (m' : (ℓ : Loc Cert.PrologueRefIdeal.nD Cert.PrologueRefIdeal.τ Cert.PrologueRefIdeal.sig) → Buf (Elt Ideal) ℓ) (g' : Dev Cert.PrologueRefIdeal.nD → PrngReg), Pre_PrologueIdeal_bounded_gn m →
    (∀ c : Dev Cert.PrologueIdeal.nD,
      m' ((c.tc : Thread Cert.PrologueRefIdeal.nD Cert.PrologueRefIdeal.τ).loc Cert.PrologueRefIdeal.main_arg0) = m ((c.tc : Thread Cert.PrologueIdeal.nD Cert.PrologueIdeal.τ).loc Cert.PrologueIdeal.main_arg0)
      ∧ m' ((c.tc : Thread Cert.PrologueRefIdeal.nD Cert.PrologueRefIdeal.τ).loc Cert.PrologueRefIdeal.main_arg1) = m ((c.tc : Thread Cert.PrologueIdeal.nD Cert.PrologueIdeal.τ).loc Cert.PrologueIdeal.main_arg1)
      ∧ m' ((c.tc : Thread Cert.PrologueRefIdeal.nD Cert.PrologueRefIdeal.τ).loc Cert.PrologueRefIdeal.main_arg2) = m ((c.tc : Thread Cert.PrologueIdeal.nD Cert.PrologueIdeal.τ).loc Cert.PrologueIdeal.main_arg2)
      ∧ m' ((c.tc : Thread Cert.PrologueRefIdeal.nD Cert.PrologueRefIdeal.τ).loc Cert.PrologueRefIdeal.main_arg3) = m ((c.tc : Thread Cert.PrologueIdeal.nD Cert.PrologueIdeal.τ).loc Cert.PrologueIdeal.main_arg3)
      ∧ m' ((c.tc : Thread Cert.PrologueRefIdeal.nD Cert.PrologueRefIdeal.τ).loc Cert.PrologueRefIdeal.main_arg4) = m ((c.tc : Thread Cert.PrologueIdeal.nD Cert.PrologueIdeal.τ).loc Cert.PrologueIdeal.main_arg4)
      ∧ m' ((c.tc : Thread Cert.PrologueRefIdeal.nD Cert.PrologueRefIdeal.τ).loc Cert.PrologueRefIdeal.main_arg5) = m ((c.tc : Thread Cert.PrologueIdeal.nD Cert.PrologueIdeal.τ).loc Cert.PrologueIdeal.main_arg5)
      ∧ m' ((c.tc : Thread Cert.PrologueRefIdeal.nD Cert.PrologueRefIdeal.τ).loc Cert.PrologueRefIdeal.main_arg6) = m ((c.tc : Thread Cert.PrologueIdeal.nD Cert.PrologueIdeal.τ).loc Cert.PrologueIdeal.main_arg6)
      ∧ m' ((c.tc : Thread Cert.PrologueRefIdeal.nD Cert.PrologueRefIdeal.τ).loc Cert.PrologueRefIdeal.main_arg7) = m ((c.tc : Thread Cert.PrologueIdeal.nD Cert.PrologueIdeal.τ).loc Cert.PrologueIdeal.main_arg7)
      ∧ m' ((c.tc : Thread Cert.PrologueRefIdeal.nD Cert.PrologueRefIdeal.τ).loc Cert.PrologueRefIdeal.main_arg8) = m ((c.tc : Thread Cert.PrologueIdeal.nD Cert.PrologueIdeal.τ).loc Cert.PrologueIdeal.main_arg8)
      ∧ m' ((c.tc : Thread Cert.PrologueRefIdeal.nD Cert.PrologueRefIdeal.τ).loc Cert.PrologueRefIdeal.main_arg9) = m ((c.tc : Thread Cert.PrologueIdeal.nD Cert.PrologueIdeal.τ).loc Cert.PrologueIdeal.main_arg9)
      ∧ m' ((c.tc : Thread Cert.PrologueRefIdeal.nD Cert.PrologueRefIdeal.τ).loc Cert.PrologueRefIdeal.main_arg10) = m ((c.tc : Thread Cert.PrologueIdeal.nD Cert.PrologueIdeal.τ).loc Cert.PrologueIdeal.main_arg10)) →
    ∃ (v0 : (c : Dev Cert.PrologueIdeal.nD) → Buf (Elt Ideal) ((c.tc : Thread Cert.PrologueIdeal.nD Cert.PrologueIdeal.τ).loc Cert.PrologueIdeal.main_v7_0)) (v1 : (c : Dev Cert.PrologueIdeal.nD) → Buf (Elt Ideal) ((c.tc : Thread Cert.PrologueIdeal.nD Cert.PrologueIdeal.τ).loc Cert.PrologueIdeal.main_v7_1)) (v2 : (c : Dev Cert.PrologueIdeal.nD) → Buf (Elt Ideal) ((c.tc : Thread Cert.PrologueIdeal.nD Cert.PrologueIdeal.τ).loc Cert.PrologueIdeal.main_v7_2)) (v3 : (c : Dev Cert.PrologueIdeal.nD) → Buf (Elt Ideal) ((c.tc : Thread Cert.PrologueIdeal.nD Cert.PrologueIdeal.τ).loc Cert.PrologueIdeal.main_v7_3)) (v4 : (c : Dev Cert.PrologueIdeal.nD) → Buf (Elt Ideal) ((c.tc : Thread Cert.PrologueIdeal.nD Cert.PrologueIdeal.τ).loc Cert.PrologueIdeal.main_v7_4)),
      θ_run (Cert.PrologueIdeal.defs (F := Ideal)) (onTc (τ := Cert.PrologueIdeal.τ) (Cert.PrologueIdeal.main (F := Ideal))) ⟨m, fun _ => 0, g⟩ (fun r => ∀ c : Dev Cert.PrologueIdeal.nD,
          r.2.mem ((c.tc : Thread Cert.PrologueIdeal.nD Cert.PrologueIdeal.τ).loc Cert.PrologueIdeal.main_v7_0) = v0 c
          ∧ r.2.mem ((c.tc : Thread Cert.PrologueIdeal.nD Cert.PrologueIdeal.τ).loc Cert.PrologueIdeal.main_v7_1) = v1 c
          ∧ r.2.mem ((c.tc : Thread Cert.PrologueIdeal.nD Cert.PrologueIdeal.τ).loc Cert.PrologueIdeal.main_v7_2) = v2 c
          ∧ r.2.mem ((c.tc : Thread Cert.PrologueIdeal.nD Cert.PrologueIdeal.τ).loc Cert.PrologueIdeal.main_v7_3) = v3 c
          ∧ r.2.mem ((c.tc : Thread Cert.PrologueIdeal.nD Cert.PrologueIdeal.τ).loc Cert.PrologueIdeal.main_v7_4) = v4 c
          ∧ r.2.mem ((c.tc : Thread Cert.PrologueIdeal.nD Cert.PrologueIdeal.τ).loc Cert.PrologueIdeal.main_arg0) = m ((c.tc : Thread Cert.PrologueIdeal.nD Cert.PrologueIdeal.τ).loc Cert.PrologueIdeal.main_arg0)
          ∧ r.2.mem ((c.tc : Thread Cert.PrologueIdeal.nD Cert.PrologueIdeal.τ).loc Cert.PrologueIdeal.main_arg1) = m ((c.tc : Thread Cert.PrologueIdeal.nD Cert.PrologueIdeal.τ).loc Cert.PrologueIdeal.main_arg1)
          ∧ r.2.mem ((c.tc : Thread Cert.PrologueIdeal.nD Cert.PrologueIdeal.τ).loc Cert.PrologueIdeal.main_arg2) = m ((c.tc : Thread Cert.PrologueIdeal.nD Cert.PrologueIdeal.τ).loc Cert.PrologueIdeal.main_arg2)
          ∧ r.2.mem ((c.tc : Thread Cert.PrologueIdeal.nD Cert.PrologueIdeal.τ).loc Cert.PrologueIdeal.main_arg3) = m ((c.tc : Thread Cert.PrologueIdeal.nD Cert.PrologueIdeal.τ).loc Cert.PrologueIdeal.main_arg3)
          ∧ r.2.mem ((c.tc : Thread Cert.PrologueIdeal.nD Cert.PrologueIdeal.τ).loc Cert.PrologueIdeal.main_arg4) = m ((c.tc : Thread Cert.PrologueIdeal.nD Cert.PrologueIdeal.τ).loc Cert.PrologueIdeal.main_arg4)
          ∧ r.2.mem ((c.tc : Thread Cert.PrologueIdeal.nD Cert.PrologueIdeal.τ).loc Cert.PrologueIdeal.main_arg5) = m ((c.tc : Thread Cert.PrologueIdeal.nD Cert.PrologueIdeal.τ).loc Cert.PrologueIdeal.main_arg5)
          ∧ r.2.mem ((c.tc : Thread Cert.PrologueIdeal.nD Cert.PrologueIdeal.τ).loc Cert.PrologueIdeal.main_arg6) = m ((c.tc : Thread Cert.PrologueIdeal.nD Cert.PrologueIdeal.τ).loc Cert.PrologueIdeal.main_arg6)
          ∧ r.2.mem ((c.tc : Thread Cert.PrologueIdeal.nD Cert.PrologueIdeal.τ).loc Cert.PrologueIdeal.main_arg7) = m ((c.tc : Thread Cert.PrologueIdeal.nD Cert.PrologueIdeal.τ).loc Cert.PrologueIdeal.main_arg7)
          ∧ r.2.mem ((c.tc : Thread Cert.PrologueIdeal.nD Cert.PrologueIdeal.τ).loc Cert.PrologueIdeal.main_arg8) = m ((c.tc : Thread Cert.PrologueIdeal.nD Cert.PrologueIdeal.τ).loc Cert.PrologueIdeal.main_arg8)
          ∧ r.2.mem ((c.tc : Thread Cert.PrologueIdeal.nD Cert.PrologueIdeal.τ).loc Cert.PrologueIdeal.main_arg9) = m ((c.tc : Thread Cert.PrologueIdeal.nD Cert.PrologueIdeal.τ).loc Cert.PrologueIdeal.main_arg9)
          ∧ r.2.mem ((c.tc : Thread Cert.PrologueIdeal.nD Cert.PrologueIdeal.τ).loc Cert.PrologueIdeal.main_arg10) = m ((c.tc : Thread Cert.PrologueIdeal.nD Cert.PrologueIdeal.τ).loc Cert.PrologueIdeal.main_arg10))
      ∧ θ_run (Cert.PrologueRefIdeal.defs (F := Ideal)) (onTc (τ := Cert.PrologueRefIdeal.τ) (Cert.PrologueRefIdeal.main (F := Ideal))) ⟨m', fun _ => 0, g'⟩ (fun r => ∀ c : Dev Cert.PrologueRefIdeal.nD,
          r.2.mem ((c.tc : Thread Cert.PrologueRefIdeal.nD Cert.PrologueRefIdeal.τ).loc Cert.PrologueRefIdeal.main_v52_0) = v0 c
          ∧ r.2.mem ((c.tc : Thread Cert.PrologueRefIdeal.nD Cert.PrologueRefIdeal.τ).loc Cert.PrologueRefIdeal.main_v44) = v1 c
          ∧ r.2.mem ((c.tc : Thread Cert.PrologueRefIdeal.nD Cert.PrologueRefIdeal.τ).loc Cert.PrologueRefIdeal.main_v52_1) = v2 c
          ∧ r.2.mem ((c.tc : Thread Cert.PrologueRefIdeal.nD Cert.PrologueRefIdeal.τ).loc Cert.PrologueRefIdeal.main_v52_2) = v3 c
          ∧ r.2.mem ((c.tc : Thread Cert.PrologueRefIdeal.nD Cert.PrologueRefIdeal.τ).loc Cert.PrologueRefIdeal.main_v52_3) = v4 c
          ∧ r.2.mem ((c.tc : Thread Cert.PrologueRefIdeal.nD Cert.PrologueRefIdeal.τ).loc Cert.PrologueRefIdeal.main_arg0) = m' ((c.tc : Thread Cert.PrologueRefIdeal.nD Cert.PrologueRefIdeal.τ).loc Cert.PrologueRefIdeal.main_arg0)
          ∧ r.2.mem ((c.tc : Thread Cert.PrologueRefIdeal.nD Cert.PrologueRefIdeal.τ).loc Cert.PrologueRefIdeal.main_arg1) = m' ((c.tc : Thread Cert.PrologueRefIdeal.nD Cert.PrologueRefIdeal.τ).loc Cert.PrologueRefIdeal.main_arg1)
          ∧ r.2.mem ((c.tc : Thread Cert.PrologueRefIdeal.nD Cert.PrologueRefIdeal.τ).loc Cert.PrologueRefIdeal.main_arg2) = m' ((c.tc : Thread Cert.PrologueRefIdeal.nD Cert.PrologueRefIdeal.τ).loc Cert.PrologueRefIdeal.main_arg2)
          ∧ r.2.mem ((c.tc : Thread Cert.PrologueRefIdeal.nD Cert.PrologueRefIdeal.τ).loc Cert.PrologueRefIdeal.main_arg3) = m' ((c.tc : Thread Cert.PrologueRefIdeal.nD Cert.PrologueRefIdeal.τ).loc Cert.PrologueRefIdeal.main_arg3)
          ∧ r.2.mem ((c.tc : Thread Cert.PrologueRefIdeal.nD Cert.PrologueRefIdeal.τ).loc Cert.PrologueRefIdeal.main_arg4) = m' ((c.tc : Thread Cert.PrologueRefIdeal.nD Cert.PrologueRefIdeal.τ).loc Cert.PrologueRefIdeal.main_arg4)
          ∧ r.2.mem ((c.tc : Thread Cert.PrologueRefIdeal.nD Cert.PrologueRefIdeal.τ).loc Cert.PrologueRefIdeal.main_arg5) = m' ((c.tc : Thread Cert.PrologueRefIdeal.nD Cert.PrologueRefIdeal.τ).loc Cert.PrologueRefIdeal.main_arg5)
          ∧ r.2.mem ((c.tc : Thread Cert.PrologueRefIdeal.nD Cert.PrologueRefIdeal.τ).loc Cert.PrologueRefIdeal.main_arg6) = m' ((c.tc : Thread Cert.PrologueRefIdeal.nD Cert.PrologueRefIdeal.τ).loc Cert.PrologueRefIdeal.main_arg6)
          ∧ r.2.mem ((c.tc : Thread Cert.PrologueRefIdeal.nD Cert.PrologueRefIdeal.τ).loc Cert.PrologueRefIdeal.main_arg7) = m' ((c.tc : Thread Cert.PrologueRefIdeal.nD Cert.PrologueRefIdeal.τ).loc Cert.PrologueRefIdeal.main_arg7)
          ∧ r.2.mem ((c.tc : Thread Cert.PrologueRefIdeal.nD Cert.PrologueRefIdeal.τ).loc Cert.PrologueRefIdeal.main_arg8) = m' ((c.tc : Thread Cert.PrologueRefIdeal.nD Cert.PrologueRefIdeal.τ).loc Cert.PrologueRefIdeal.main_arg8)
          ∧ r.2.mem ((c.tc : Thread Cert.PrologueRefIdeal.nD Cert.PrologueRefIdeal.τ).loc Cert.PrologueRefIdeal.main_arg9) = m' ((c.tc : Thread Cert.PrologueRefIdeal.nD Cert.PrologueRefIdeal.τ).loc Cert.PrologueRefIdeal.main_arg9)
          ∧ r.2.mem ((c.tc : Thread Cert.PrologueRefIdeal.nD Cert.PrologueRefIdeal.τ).loc Cert.PrologueRefIdeal.main_arg10) = m' ((c.tc : Thread Cert.PrologueRefIdeal.nD Cert.PrologueRefIdeal.τ).loc Cert.PrologueRefIdeal.main_arg10))

def Claim : Prop :=
  ∃ (hAttention : Cert.Attention.Facts) (hAttentionIdeal : Cert.AttentionIdeal.Facts) (hPrologue : Cert.Prologue.Facts) (hPrologueIdeal : Cert.PrologueIdeal.Facts) (hAttentionRefIdeal : Cert.AttentionRefIdeal.Facts) (hPrologueRefIdeal : Cert.PrologueRefIdeal.Facts) (hPre_finite_qkv : Cert.Pre_finite_qkv.Facts) (hPre_bounded_gn : Cert.Pre_bounded_gn.Facts),
    quiescent_Attention (hAttention := hAttention)
    ∧ quiescent_AttentionIdeal (hAttentionIdeal := hAttentionIdeal)
    ∧ quiescent_AttentionIdeal_pre_finite_qkv (hAttentionIdeal := hAttentionIdeal) (hPre_finite_qkv := hPre_finite_qkv)
    ∧ quiescent_Prologue (hPrologue := hPrologue)
    ∧ quiescent_PrologueIdeal (hPrologueIdeal := hPrologueIdeal)
    ∧ quiescent_PrologueIdeal_pre_bounded_gn (hPrologueIdeal := hPrologueIdeal) (hPre_bounded_gn := hPre_bounded_gn)
    ∧ quiescent_AttentionRefIdeal (hAttentionRefIdeal := hAttentionRefIdeal) (hPre_finite_qkv := hPre_finite_qkv)
    ∧ quiescent_PrologueRefIdeal (hPrologueRefIdeal := hPrologueRefIdeal) (hPre_bounded_gn := hPre_bounded_gn)
    ∧ preserves_Attention_AttentionIdeal
    ∧ preserves_Prologue_PrologueIdeal
    ∧ algebraic_AttentionIdeal_AttentionRefIdeal_pre_finite_qkv (hAttentionIdeal := hAttentionIdeal) (hAttentionRefIdeal := hAttentionRefIdeal) (hPre_finite_qkv := hPre_finite_qkv)
    ∧ algebraic_PrologueIdeal_PrologueRefIdeal_pre_bounded_gn (hPrologueIdeal := hPrologueIdeal) (hPrologueRefIdeal := hPrologueRefIdeal) (hPre_bounded_gn := hPre_bounded_gn)
-- ==== Pre_bounded_gn.lean ====
abbrev S6x512x6144 : Shape := ⟨3, ![6, 512, 6144]⟩
abbrev S512 : Shape := ⟨1, ![512]⟩
abbrev S512x512 : Shape := ⟨2, ![512, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S6x512x6144 .bf16) (main_arg1 : FVec F S512 .f32) (main_arg2 : FVec F S512 .f32) (main_arg3 : FVec F S512x512 .fp8e4m3) (main_arg4 : FVec F S512x512 .fp8e4m3) (main_arg5 : FVec F S512x512 .fp8e4m3) (main_arg6 : FVec F S512 .f32) (main_arg7 : FVec F S512 .f32) (main_arg8 : FVec F S512 .f32) (main_arg9 : FVec F S512 .f32) (main_arg10 : FVec F S512 .f32) : IVec S512 1 × IVec S512 1 :=
  let main_v0 : FVec F S512 .f32 := Host.absf main_arg1
  let main_cst : FVec F S_ .f32 := constant S_ .f32 0x7E800000#32
  let main_v1 : FVec F S512 .f32 := broadcastInDim S512 ![] bcast_S_S512 main_cst
  let main_v2 : IVec S512 1 := cmpf .ole main_v0 main_v1
  let main_v3 : FVec F S512 .f32 := Host.absf main_arg2
  let main_cst_0 : FVec F S_ .f32 := constant S_ .f32 0x7E800000#32
  let main_v4 : FVec F S512 .f32 := broadcastInDim S512 ![] bcast_S_S512 main_cst_0
  let main_v5 : IVec S512 1 := cmpf .ole main_v3 main_v4
  (main_v2, main_v5)
-- ==== Pre_finite_qkv.lean ====
abbrev S6x512x6144 : Shape := ⟨3, ![6, 512, 6144]⟩
abbrev S6x6144x512 : Shape := ⟨3, ![6, 6144, 512]⟩
abbrev S512x512 : Shape := ⟨2, ![512, 512]⟩
abbrev S512 : Shape := ⟨1, ![512]⟩
abbrev S_ : Shape := ⟨0, ![]⟩

class Facts : Prop where
  bitsLt_bf16_f32 : FTy.bits .bf16 < FTy.bits .f32
  bcast_S_S6x512x6144 : S_.BroadcastsInDim S6x512x6144 (![] : Fin 0 → Fin S6x512x6144.rank)
  bcast_S_S6x6144x512 : S_.BroadcastsInDim S6x6144x512 (![] : Fin 0 → Fin S6x6144x512.rank)

variable [Facts]

def fn {F : FTy → Type} [FloatOps F] (main_arg0 : FVec F S6x512x6144 .bf16) (main_arg1 : FVec F S6x6144x512 .bf16) (main_arg2 : FVec F S6x512x6144 .bf16) (main_arg3 : FVec F S6x512x6144 .bf16) (main_arg4 : FVec F S512x512 .fp8e4m3) (main_arg5 : FVec F S512 .f32) (main_arg6 : FVec F S512 .f32) : IVec S6x512x6144 1 × IVec S6x6144x512 1 × IVec S6x512x6144 1 :=
  let main_v0 : FVec F S6x512x6144 .f32 := (extf .f32 · bitsLt_bf16_f32) main_arg0
  let main_v1 : FVec F S6x512x6144 .f32 := Host.absf main_v0
  let main_cst : FVec F S_ .f32 := constant S_ .f32 0x7F7F0000#32
  let main_v2 : FVec F S6x512x6144 .f32 := broadcastInDim S6x512x6144 ![] bcast_S_S6x512x6144 main_cst
  let main_v3 : IVec S6x512x6144 1 := cmpf .ole main_v1 main_v2
  let main_v4 : FVec F S6x6144x512 .f32 := (extf .f32 · bitsLt_bf16_f32) main_arg1
  let main_v5 : FVec F S6x6144x512 .f32 := Host.absf main_v4
  let main_cst_0 : FVec F S_ .f32 := constant S_ .f32 0x7F7F0000#32
  let main_v6 : FVec F S6x6144x512 .f32 := broadcastInDim S6x6144x512 ![] bcast_S_S6x6144x512 main_cst_0
  let main_v7 : IVec S6x6144x512 1 := cmpf .ole main_v5 main_v6
  let main_v8 : FVec F S6x512x6144 .f32 := (extf .f32 · bitsLt_bf16_f32) main_arg2
  let main_v9 : FVec F S6x512x6144 .f32 := Host.absf main_v8
  let main_cst_1 : FVec F S_ .f32 := constant S_ .f32 0x7F7F0000#32
  let main_v10 : FVec F S6x512x6144 .f32 := broadcastInDim S6x512x6144 ![] bcast_S_S6x512x6144 main_cst_1
  let main_v11 : IVec S6x512x6144 1 := cmpf .ole main_v9 main_v10
  (main_v3, main_v7, main_v11)
-- ==== Attention.lean ====
abbrev S6x512x6144 : Shape := ⟨3, ![6, 512, 6144]⟩
abbrev S6x6144x512 : Shape := ⟨3, ![6, 6144, 512]⟩
abbrev S512x512 : Shape := ⟨2, ![512, 512]⟩
abbrev S512 : Shape := ⟨1, ![512]⟩
abbrev S512x1 : Shape := ⟨2, ![512, 1]⟩
abbrev S6x6144 : Shape := ⟨2, ![6, 6144]⟩
abbrev S1x512x512 : Shape := ⟨3, ![1, 512, 512]⟩
abbrev S1x6144x512 : Shape := ⟨3, ![1, 6144, 512]⟩
abbrev S1x512x6144 : Shape := ⟨3, ![1, 512, 6144]⟩
abbrev S1x512 : Shape := ⟨2, ![1, 512]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 13
  | .vmem => 19
  | .smem => 0
  | _ => 0

abbrev bufTy : (tb : Table) → Fin (tcTables nBuf tb) → BufTy
  | .hbm, ⟨0, _⟩ => ⟨S6x512x6144, .bf16⟩
  | .hbm, ⟨1, _⟩ => ⟨S6x6144x512, .bf16⟩
  | .hbm, ⟨2, _⟩ => ⟨S6x512x6144, .bf16⟩
  | .hbm, ⟨3, _⟩ => ⟨S6x512x6144, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S6x512x6144, .bf16⟩
  | .hbm, ⟨10, _⟩ => ⟨S6x512x6144, .bf16⟩
  | .hbm, ⟨11, _⟩ => ⟨S6x512x6144, .fp8e4m3⟩
  | .hbm, ⟨12, _⟩ => ⟨S6x6144, .f32⟩
  | .local _ .vmem, ⟨0, _⟩ => ⟨S1x512x512, .bf16⟩
  | .local _ .vmem, ⟨1, _⟩ => ⟨S1x512x512, .bf16⟩
  | .local _ .vmem, ⟨2, _⟩ => ⟨S1x6144x512, .bf16⟩
  | .local _ .vmem, ⟨3, _⟩ => ⟨S1x6144x512, .bf16⟩
  | .local _ .vmem, ⟨4, _⟩ => ⟨S1x512x6144, .bf16⟩
  | .local _ .vmem, ⟨5, _⟩ => ⟨S1x512x6144, .bf16⟩
  | .local _ .vmem, ⟨6, _⟩ => ⟨S1x512x512, .bf16⟩
  | .local _ .vmem, ⟨7, _⟩ => ⟨S1x512x512, .bf16⟩
  | .local _ .vmem, ⟨8, _⟩ => ⟨S512x512, .fp8e4m3⟩
  | .local _ .vmem, ⟨9, _⟩ => ⟨S512x1, .f32⟩
  | .local _ .vmem, ⟨10, _⟩ => ⟨S512x1, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .fp8e4m3⟩
  | .local _ .vmem, ⟨16, _⟩ => ⟨S1x512x512, .fp8e4m3⟩
  | .local _ .vmem, ⟨17, _⟩ => ⟨S6x6144, .f32⟩
  | .local _ .vmem, ⟨18, _⟩ => ⟨S512x512, .f32⟩
  | _, _ => ⟨S6x512x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![6, 12], ![false, false]⟩

@[reducible] def k0_t1_loop : Scf.Loop 32 :=
  let c0_i32 : BitVec 32 := 0#32
  let c6_i32 : BitVec 32 := 6#32
  let v8 : BitVec 32 := Scalar.addi c0_i32 c6_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c1024_i32 : BitVec 32 := 1024#32
  let v134 : BitVec 32 := Scalar.muli arg14 c1024_i32
  v134
def k0_off1 (k0_t1 : Fin k0_t1_loop.trips) : Fin 3 → Nat :=
  let c0_48 : Index := 0#32
  let c0_i32 : BitVec 32 := 0#32
  let c1_i32 : BitVec 32 := 1#32
  let arg14 : BitVec 32 := Scf.iv c0_i32 c1_i32 k0_t1
  let c1024_i32 : BitVec 32 := 1024#32
  let v134 : BitVec 32 := Scalar.muli arg14 c1024_i32
  let v135 : BitVec 32 := v134
  let v136 : Index := Scalar.indexCast v135
  let c0_49 : Index := 0#32
  ![0, v136.toNat, 0]
def k0_off2 (k0_t1 : Fin k0_t1_loop.trips) : Fin 3 → Nat :=
  let c0_55 : Index := 0#32
  let c0_56 : Index := 0#32
  let c0_i32 : BitVec 32 := 0#32
  let c1_i32 : BitVec 32 := 1#32
  let arg14 : BitVec 32 := Scf.iv c0_i32 c1_i32 k0_t1
  let c1024_i32 : BitVec 32 := 1024#32
  let v134 : BitVec 32 := Scalar.muli arg14 c1024_i32
  let v135 : BitVec 32 := v134
  let v156 : Index := Scalar.indexCast v135
  ![0, 0, v156.toNat]
def k0_mult2 (i : grid0.Coords) : BitVec 32 :=
  let arg1 : BitVec 32 := BitVec.ofNat 32 (i 1).val
  let c512_i32 : BitVec 32 := 512#32
  let v105 : BitVec 32 := Scalar.muli arg1 c512_i32
  v105
def k0_off3 (i : grid0.Coords) : Fin 2 → Nat :=
  let arg0 : BitVec 32 := BitVec.ofNat 32 (i 0).val
  let v107 : Index := Scalar.indexCast arg0
  let arg1 : BitVec 32 := BitVec.ofNat 32 (i 1).val
  let c512_i32 : BitVec 32 := 512#32
  let v105 : BitVec 32 := Scalar.muli arg1 c512_i32
  let v106 : BitVec 32 := v105
  let v108 : Index := Scalar.indexCast v106
  ![v107.toNat, v108.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S6x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== AttentionIdeal.lean ====
variable {F : FTy → Type} [FloatOps F] [Named F]
def κ : String → Option EReal := fun
  | "c2" => some (((Real.sqrt 512)⁻¹ * (Real.log 2)⁻¹ : ℝ) : EReal)
  | "inv_448" => some ((1 / 448 : ℝ) : EReal)
  | _ => none
-- ==== Prologue.lean ====
abbrev S6x512x6144 : Shape := ⟨3, ![6, 512, 6144]⟩
abbrev S512 : Shape := ⟨1, ![512]⟩
abbrev S512x512 : Shape := ⟨2, ![512, 512]⟩
abbrev S512x1 : Shape := ⟨2, ![512, 1]⟩
abbrev S6x6144 : Shape := ⟨2, ![6, 6144]⟩
abbrev S6x6144x512 : Shape := ⟨3, ![6, 6144, 512]⟩
abbrev S1x512x6144 : Shape := ⟨3, ![1, 512, 6144]⟩
abbrev S1x512x512 : Shape := ⟨3, ![1, 512, 512]⟩
abbrev S512x128 : Shape := ⟨2, ![512, 128]⟩
abbrev S1x512x128 : Shape := ⟨3, ![1, 512, 128]⟩
abbrev S32x16x128 : Shape := ⟨3, ![32, 16, 128]⟩
abbrev S32x128 : Shape := ⟨2, ![32, 128]⟩
abbrev S32 : Shape := ⟨1, ![32]⟩
abbrev S32x1 : Shape := ⟨2, ![32, 1]⟩
abbrev S32x1x1 : Shape := ⟨3, ![32, 1, 1]⟩
abbrev S32x16x1 : Shape := ⟨3, ![32, 16, 1]⟩
abbrev S1x512 : Shape := ⟨2, ![1, 512]⟩

abbrev nBuf : Space → Nat
  | .hbm => 23
  | .vmem => 23
  | .smem => 0
  | _ => 0

abbrev bufTy : (tb : Table) → Fin (tcTables nBuf tb) → BufTy
  | .hbm, ⟨0, _⟩ => ⟨S6x512x6144, .bf16⟩
  | .hbm, ⟨1, _⟩ => ⟨S512, .f32⟩
  | .hbm, ⟨2, _⟩ => ⟨S512, .f32⟩
  | .hbm, ⟨3, _⟩ => ⟨S512x512, .fp8e4m3⟩
  | .hbm, ⟨4, _⟩ => ⟨S512x512, .fp8e4m3⟩
  | .hbm, ⟨5, _⟩ => ⟨S512x512, .fp8e4m3⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S6x512x6144, .fp8e4m3⟩
  | .hbm, ⟨19, _⟩ => ⟨S6x6144, .f32⟩
  | .hbm, ⟨20, _⟩ => ⟨S6x512x6144, .bf16⟩
  | .hbm, ⟨21, _⟩ => ⟨S6x6144x512, .bf16⟩
  | .hbm, ⟨22, _⟩ => ⟨S6x512x6144, .bf16⟩
  | .local _ .vmem, ⟨0, _⟩ => ⟨S1x512x6144, .bf16⟩
  | .local _ .vmem, ⟨1, _⟩ => ⟨S1x512x6144, .bf16⟩
  | .local _ .vmem, ⟨2, _⟩ => ⟨S512x1, .f32⟩
  | .local _ .vmem, ⟨3, _⟩ => ⟨S512x1, .f32⟩
  | .local _ .vmem, ⟨4, _⟩ => ⟨S512x512, .fp8e4m3⟩
  | .local _ .vmem, ⟨5, _⟩ => ⟨S512x512, .fp8e4m3⟩
  | .local _ .vmem, ⟨6, _⟩ => ⟨S512x512, .fp8e4m3⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S1x512x512, .fp8e4m3⟩
  | .local _ .vmem, ⟨13, _⟩ => ⟨S1x512x512, .fp8e4m3⟩
  | .local _ .vmem, ⟨14, _⟩ => ⟨S6x6144, .f32⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S512x1, .f32⟩
  | .local _ .vmem, ⟨22, _⟩ => ⟨S512x1, .f32⟩
  | _, _ => ⟨S6x512x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨2, ![6, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_58 : BitVec 32 := 0#32
  let c48_i32 : BitVec 32 := 48#32
  let v160 : BitVec 32 := Scalar.addi c0_i32_58 c48_i32
  let c1_i32_59 : BitVec 32 := 1#32
  ⟨c0_i32_58, v160, c1_i32_59⟩
def k0_mult1 (k0_t1 : Fin k0_t1_loop.trips) : BitVec 32 :=
  let c0_i32_58 : BitVec 32 := 0#32
  let c1_i32_59 : BitVec 32 := 1#32
  let arg20 : BitVec 32 := Scf.iv c0_i32_58 c1_i32_59 k0_t1
  let c128_i32_78 : BitVec 32 := 128#32
  let v196 : BitVec 32 := Scalar.muli arg20 c128_i32_78
  v196
def k0_off1 (k0_t1 : Fin k0_t1_loop.trips) : Fin 3 → Nat :=
  let c0_79 : Index := 0#32
  let c0_80 : Index := 0#32
  let c0_i32_58 : BitVec 32 := 0#32
  let c1_i32_59 : BitVec 32 := 1#32
  let arg20 : BitVec 32 := Scf.iv c0_i32_58 c1_i32_59 k0_t1
  let c128_i32_78 : BitVec 32 := 128#32
  let v196 : BitVec 32 := Scalar.muli arg20 c128_i32_78
  let v197 : BitVec 32 := v196
  let v198 : Index := Scalar.indexCast v197
  ![0, 0, v198.toNat]
@[reducible] def k0_t2_loop : Scf.Loop 32 :=
  let c0_i32_64 : BitVec 32 := 0#32
  let c48_i32_65 : BitVec 32 := 48#32
  let v172 : BitVec 32 := Scalar.addi c0_i32_64 c48_i32_65
  let c1_i32_66 : BitVec 32 := 1#32
  ⟨c0_i32_64, v172, c1_i32_66⟩
def k0_mult2 (k0_t2 : Fin k0_t2_loop.trips) : BitVec 32 :=
  let c0_i32_64 : BitVec 32 := 0#32
  let c1_i32_66 : BitVec 32 := 1#32
  let arg20 : BitVec 32 := Scf.iv c0_i32_64 c1_i32_66 k0_t2
  let c128_i32_78 : BitVec 32 := 128#32
  let v196 : BitVec 32 := Scalar.muli arg20 c128_i32_78
  v196
def k0_off2 (k0_t2 : Fin k0_t2_loop.trips) : Fin 3 → Nat :=
  let c0_79 : Index := 0#32
  let c0_80 : Index := 0#32
  let c0_i32_64 : BitVec 32 := 0#32
  let c1_i32_66 : BitVec 32 := 1#32
  let arg20 : BitVec 32 := Scf.iv c0_i32_64 c1_i32_66 k0_t2
  let c128_i32_78 : BitVec 32 := 128#32
  let v196 : BitVec 32 := Scalar.muli arg20 c128_i32_78
  let v197 : BitVec 32 := v196
  let v198 : Index := Scalar.indexCast v197
  ![0, 0, v198.toNat]
def k0_mult3 (i : grid0.Coords) : BitVec 32 :=
  let arg1 : BitVec 32 := BitVec.ofNat 32 (i 1).val
  let c512_i32 : BitVec 32 := 512#32
  let v3 : BitVec 32 := Scalar.muli arg1 c512_i32
  v3
def k0_off3 (i : grid0.Coords) : Fin 3 → Nat :=
  let c0 : Index := 0#32
  let c0_1 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, 0, v5.toNat]
def k0_mult4 (i : grid0.Coords) : BitVec 32 :=
  let arg1 : BitVec 32 := BitVec.ofNat 32 (i 1).val
  let c512_i32_28 : BitVec 32 := 512#32
  let v109 : BitVec 32 := Scalar.muli arg1 c512_i32_28
  v109
def k0_off4 (i : grid0.Coords) : Fin 2 → Nat :=
  let arg0 : BitVec 32 := BitVec.ofNat 32 (i 0).val
  let v111 : Index := Scalar.indexCast arg0
  let arg1 : BitVec 32 := BitVec.ofNat 32 (i 1).val
  let c512_i32_28 : BitVec 32 := 512#32
  let v109 : BitVec 32 := Scalar.muli arg1 c512_i32_28
  let v110 : BitVec 32 := v109
  let v112 : Index := Scalar.indexCast v110
  ![v111.toNat, v112.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S6x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PrologueIdeal.lean ====
variable {F : FTy → Type} [FloatOps F] [Named F]
def κ : String → Option EReal := fun
  | "inv_448" => some ((1 / 448 : ℝ) : EReal)
  | "inv_98304" => some ((1 / 98304 : ℝ) : EReal)
  | _ => none
-- ==== AttentionRefIdeal.lean ====
abbrev S6x512x6144 : Shape := ⟨3, ![6, 512, 6144]⟩
abbrev S6x6144x512 : Shape := ⟨3, ![6, 6144, 512]⟩
abbrev S512x512 : Shape := ⟨2, ![512, 512]⟩
abbrev S512 : Shape := ⟨1, ![512]⟩
abbrev S6x6144x6144 : Shape := ⟨3, ![6, 6144, 6144]⟩
abbrev S_ : Shape := ⟨0, ![]⟩
abbrev S6x6144 : Shape := ⟨2, ![6, 6144]⟩
abbrev S6x6144x1 : Shape := ⟨3, ![6, 6144, 1]⟩
abbrev S6x1x6144 : Shape := ⟨3, ![6, 1, 6144]⟩
abbrev S512x6x6144 : Shape := ⟨3, ![512, 6, 6144]⟩
abbrev S1x512x1 : Shape := ⟨3, ![1, 512, 1]⟩

abbrev nBuf : Space → Nat
  | .hbm => 74
  | .vmem => 9
  | .smem => 0
  | _ => 0

abbrev bufTy : (tb : Table) → Fin (tcTables nBuf tb) → BufTy
  | .hbm, ⟨0, _⟩ => ⟨S6x512x6144, .bf16⟩
  | .hbm, ⟨1, _⟩ => ⟨S6x6144x512, .bf16⟩
  | .hbm, ⟨2, _⟩ => ⟨S6x512x6144, .bf16⟩
  | .hbm, ⟨3, _⟩ => ⟨S6x512x6144, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S6x6144x6144, .f32⟩
  | .hbm, ⟨8, _⟩ => ⟨S_, .f32⟩
  | .hbm, ⟨9, _⟩ => ⟨S_, .f32⟩
  | .hbm, ⟨10, _⟩ => ⟨S6x6144x6144, .f32⟩
  | .hbm, ⟨11, _⟩ => ⟨S6x6144x6144, .f32⟩
  | .hbm, ⟨12, _⟩ => ⟨S_, .f32⟩
  | .hbm, ⟨13, _⟩ => ⟨S6x6144, .f32⟩
  | .hbm, ⟨14, _⟩ => ⟨S_, .f32⟩
  | .hbm, ⟨15, _⟩ => ⟨S6x6144, .f32⟩
  | .hbm, ⟨16, _⟩ => ⟨S6x6144, .f32⟩
  | .hbm, ⟨17, _⟩ => ⟨S6x6144x1, .f32⟩
  | .hbm, ⟨18, _⟩ => ⟨S6x6144x6144, .f32⟩
  | .hbm, ⟨19, _⟩ => ⟨S6x6144x6144, .f32⟩
  | .hbm, ⟨20, _⟩ => ⟨S6x6144x6144, .f32⟩
  | .hbm, ⟨21, _⟩ => ⟨S_, .f32⟩
  | .hbm, ⟨22, _⟩ => ⟨S6x6144, .f32⟩
  | .hbm, ⟨23, _⟩ => ⟨S6x6144x1, .f32⟩
  | .hbm, ⟨24, _⟩ => ⟨S6x6144x6144, .f32⟩
  | .hbm, ⟨25, _⟩ => ⟨S6x6144x6144, .f32⟩
  | .hbm, ⟨26, _⟩ => ⟨S6x6144x6144, .bf16⟩
  | .hbm, ⟨27, _⟩ => ⟨S6x512x6144, .f32⟩
  | .hbm, ⟨28, _⟩ => ⟨S6x512x6144, .f32⟩
  | .hbm, ⟨29, _⟩ => ⟨S_, .f32⟩
  | .hbm, ⟨30, _⟩ => ⟨S6x6144, .f32⟩
  | .hbm, ⟨31, _⟩ => ⟨S_, .f32⟩
  | .hbm, ⟨32, _⟩ => ⟨S6x6144, .f32⟩
  | .hbm, ⟨33, _⟩ => ⟨S6x6144, .f32⟩
  | .hbm, ⟨34, _⟩ => ⟨S6x6144, .f32⟩
  | .hbm, ⟨35, _⟩ => ⟨S_, .f32⟩
  | .hbm, ⟨36, _⟩ => ⟨S_, .f32⟩
  | .hbm, ⟨37, _⟩ => ⟨S6x6144, .f32⟩
  | .hbm, ⟨38, _⟩ => ⟨S6x6144, .f32⟩
  | .hbm, ⟨39, _⟩ => ⟨S6x6144, .f32⟩
  | .hbm, ⟨40, _⟩ => ⟨S_, .f32⟩
  | .hbm, ⟨41, _⟩ => ⟨S6x6144, .f32⟩
  | .hbm, ⟨42, _⟩ => ⟨S6x6144, .f32⟩
  | .hbm, ⟨43, _⟩ => ⟨S_, .f32⟩
  | .hbm, ⟨44, _⟩ => ⟨S6x6144, .f32⟩
  | .hbm, ⟨45, _⟩ => ⟨S6x6144, .i1⟩
  | .hbm, ⟨46, _⟩ => ⟨S_, .f32⟩
  | .hbm, ⟨47, _⟩ => ⟨S6x6144, .f32⟩
  | .hbm, ⟨48, _⟩ => ⟨S6x6144, .f32⟩
  | .hbm, ⟨49, _⟩ => ⟨S_, .f32⟩
  | .hbm, ⟨50, _⟩ => ⟨S_, .f32⟩
  | .hbm, ⟨51, _⟩ => ⟨S6x6144, .f32⟩
  | .hbm, ⟨52, _⟩ => ⟨S6x6144, .f32⟩
  | .hbm, ⟨53, _⟩ => ⟨S_, .f32⟩
  | .hbm, ⟨54, _⟩ => ⟨S6x6144, .f32⟩
  | .hbm, ⟨55, _⟩ => ⟨S6x6144, .f32⟩
  | .hbm, ⟨56, _⟩ => ⟨S6x6144, .f32⟩
  | .hbm, ⟨57, _⟩ => ⟨S_, .f32⟩
  | .hbm, ⟨58, _⟩ => ⟨S6x6144, .f32⟩
  | .hbm, ⟨59, _⟩ => ⟨S6x6144, .f32⟩
  | .hbm, ⟨60, _⟩ => ⟨S6x1x6144, .f32⟩
  | .hbm, ⟨61, _⟩ => ⟨S6x512x6144, .f32⟩
  | .hbm, ⟨62, _⟩ => ⟨S6x512x6144, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S6x512x6144, .f32⟩
  | .hbm, ⟨67, _⟩ => ⟨S6x512x6144, .f32⟩
  | .hbm, ⟨68, _⟩ => ⟨S_, .f32⟩
  | .hbm, ⟨69, _⟩ => ⟨S6x512x6144, .f32⟩
  | .hbm, ⟨70, _⟩ => ⟨S6x512x6144, .f32⟩
  | .hbm, ⟨71, _⟩ => ⟨S6x512x6144, .bf16⟩
  | .hbm, ⟨72, _⟩ => ⟨S6x512x6144, .bf16⟩
  | .hbm, ⟨73, _⟩ => ⟨S6x512x6144, .fp8e4m3⟩
  | .local _ .vmem, ⟨0, _⟩ => ⟨S6x512x6144, .f32⟩
  | .local _ .vmem, ⟨1, _⟩ => ⟨S6x6144, .f32⟩
  | .local _ .vmem, ⟨2, _⟩ => ⟨S6x512x6144, .bf16⟩
  | .local _ .vmem, ⟨3, _⟩ => ⟨S512x512, .fp8e4m3⟩
  | .local _ .vmem, ⟨4, _⟩ => ⟨S512, .f32⟩
  | .local _ .vmem, ⟨5, _⟩ => ⟨S512, .f32⟩
  | .local _ .vmem, ⟨6, _⟩ => ⟨S6x512x6144, .bf16⟩
  | .local _ .vmem, ⟨7, _⟩ => ⟨S6x512x6144, .bf16⟩
  | .local _ .vmem, ⟨8, _⟩ => ⟨S6x512x6144, .fp8e4m3⟩
  | _, _ => ⟨S6x512x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_call0_v0 : Ref sig .tc := ⟨.hbm, 50, rfl⟩
abbrev main_call0_v1 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_12 : Ref sig .tc := ⟨.hbm, 63, rfl⟩
abbrev main_cst_13 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v41 : Ref sig .tc := ⟨.hbm, 70, rfl⟩
abbrev main_v42_0 : Ref sig .tc := ⟨.hbm, 71, rfl⟩
abbrev main_v42_1 : Ref sig .tc := ⟨.hbm, 72, rfl⟩
abbrev main_v42_2 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6x512x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x512x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x512x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x512x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x512x6144 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== PrologueRefIdeal.lean ====
abbrev S6x512x6144 : Shape := ⟨3, ![6, 512, 6144]⟩
abbrev S512 : Shape := ⟨1, ![512]⟩
abbrev S512x512 : Shape := ⟨2, ![512, 512]⟩
abbrev S6x32x16x6144 : Shape := ⟨4, ![6, 32, 16, 6144]⟩
abbrev S_ : Shape := ⟨0, ![]⟩
abbrev S6x32 : Shape := ⟨2, ![6, 32]⟩
abbrev S6x32x1x1 : Shape := ⟨4, ![6, 32, 1, 1]⟩
abbrev S1x512x1 : Shape := ⟨3, ![1, 512, 1]⟩
abbrev S6x6144 : Shape := ⟨2, ![6, 6144]⟩
abbrev S6x1x6144 : Shape := ⟨3, ![6, 1, 6144]⟩
abbrev S6x6144x512 : Shape := ⟨3, ![6, 6144, 512]⟩
abbrev S512x6x6144 : Shape := ⟨3, ![512, 6, 6144]⟩

abbrev nBuf : Space → Nat
  | .hbm => 90
  | .vmem => 14
  | .smem => 0
  | _ => 0

abbrev bufTy : (tb : Table) → Fin (tcTables nBuf tb) → BufTy
  | .hbm, ⟨0, _⟩ => ⟨S6x512x6144, .bf16⟩
  | .hbm, ⟨1, _⟩ => ⟨S512, .f32⟩
  | .hbm, ⟨2, _⟩ => ⟨S512, .f32⟩
  | .hbm, ⟨3, _⟩ => ⟨S512x512, .fp8e4m3⟩
  | .hbm, ⟨4, _⟩ => ⟨S512x512, .fp8e4m3⟩
  | .hbm, ⟨5, _⟩ => ⟨S512x512, .fp8e4m3⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S6x512x6144, .f32⟩
  | .hbm, ⟨12, _⟩ => ⟨S6x32x16x6144, .f32⟩
  | .hbm, ⟨13, _⟩ => ⟨S_, .f32⟩
  | .hbm, ⟨14, _⟩ => ⟨S6x32, .f32⟩
  | .hbm, ⟨15, _⟩ => ⟨S6x32x1x1, .f32⟩
  | .hbm, ⟨16, _⟩ => ⟨S_, .f32⟩
  | .hbm, ⟨17, _⟩ => ⟨S6x32x1x1, .f32⟩
  | .hbm, ⟨18, _⟩ => ⟨S6x32x1x1, .f32⟩
  | .hbm, ⟨19, _⟩ => ⟨S6x32x16x6144, .f32⟩
  | .hbm, ⟨20, _⟩ => ⟨S6x32x16x6144, .f32⟩
  | .hbm, ⟨21, _⟩ => ⟨S6x32x16x6144, .f32⟩
  | .hbm, ⟨22, _⟩ => ⟨S_, .f32⟩
  | .hbm, ⟨23, _⟩ => ⟨S6x32, .f32⟩
  | .hbm, ⟨24, _⟩ => ⟨S6x32x1x1, .f32⟩
  | .hbm, ⟨25, _⟩ => ⟨S_, .f32⟩
  | .hbm, ⟨26, _⟩ => ⟨S6x32x1x1, .f32⟩
  | .hbm, ⟨27, _⟩ => ⟨S6x32x1x1, .f32⟩
  | .hbm, ⟨28, _⟩ => ⟨S6x32x16x6144, .f32⟩
  | .hbm, ⟨29, _⟩ => ⟨S6x32x16x6144, .f32⟩
  | .hbm, ⟨30, _⟩ => ⟨S_, .f32⟩
  | .hbm, ⟨31, _⟩ => ⟨S6x32x1x1, .f32⟩
  | .hbm, ⟨32, _⟩ => ⟨S6x32x1x1, .f32⟩
  | .hbm, ⟨33, _⟩ => ⟨S6x32x1x1, .f32⟩
  | .hbm, ⟨34, _⟩ => ⟨S6x32x16x6144, .f32⟩
  | .hbm, ⟨35, _⟩ => ⟨S6x32x16x6144, .f32⟩
  | .hbm, ⟨36, _⟩ => ⟨S6x512x6144, .f32⟩
  | .hbm, ⟨37, _⟩ => ⟨S1x512x1, .f32⟩
  | .hbm, ⟨38, _⟩ => ⟨S6x512x6144, .f32⟩
  | .hbm, ⟨39, _⟩ => ⟨S6x512x6144, .f32⟩
  | .hbm, ⟨40, _⟩ => ⟨S1x512x1, .f32⟩
  | .hbm, ⟨41, _⟩ => ⟨S6x512x6144, .f32⟩
  | .hbm, ⟨42, _⟩ => ⟨S6x512x6144, .f32⟩
  | .hbm, ⟨43, _⟩ => ⟨S6x512x6144, .f32⟩
  | .hbm, ⟨44, _⟩ => ⟨S_, .f32⟩
  | .hbm, ⟨45, _⟩ => ⟨S6x6144, .f32⟩
  | .hbm, ⟨46, _⟩ => ⟨S_, .f32⟩
  | .hbm, ⟨47, _⟩ => ⟨S6x6144, .f32⟩
  | .hbm, ⟨48, _⟩ => ⟨S6x6144, .f32⟩
  | .hbm, ⟨49, _⟩ => ⟨S6x6144, .f32⟩
  | .hbm, ⟨50, _⟩ => ⟨S_, .f32⟩
  | .hbm, ⟨51, _⟩ => ⟨S_, .f32⟩
  | .hbm, ⟨52, _⟩ => ⟨S6x6144, .f32⟩
  | .hbm, ⟨53, _⟩ => ⟨S6x6144, .f32⟩
  | .hbm, ⟨54, _⟩ => ⟨S6x6144, .f32⟩
  | .hbm, ⟨55, _⟩ => ⟨S_, .f32⟩
  | .hbm, ⟨56, _⟩ => ⟨S6x6144, .f32⟩
  | .hbm, ⟨57, _⟩ => ⟨S6x6144, .f32⟩
  | .hbm, ⟨58, _⟩ => ⟨S_, .f32⟩
  | .hbm, ⟨59, _⟩ => ⟨S6x6144, .f32⟩
  | .hbm, ⟨60, _⟩ => ⟨S6x6144, .i1⟩
  | .hbm, ⟨61, _⟩ => ⟨S_, .f32⟩
  | .hbm, ⟨62, _⟩ => ⟨S6x6144, .f32⟩
  | .hbm, ⟨63, _⟩ => ⟨S6x6144, .f32⟩
  | .hbm, ⟨64, _⟩ => ⟨S_, .f32⟩
  | .hbm, ⟨65, _⟩ => ⟨S_, .f32⟩
  | .hbm, ⟨66, _⟩ => ⟨S6x6144, .f32⟩
  | .hbm, ⟨67, _⟩ => ⟨S6x6144, .f32⟩
  | .hbm, ⟨68, _⟩ => ⟨S_, .f32⟩
  | .hbm, ⟨69, _⟩ => ⟨S6x6144, .f32⟩
  | .hbm, ⟨70, _⟩ => ⟨S6x6144, .f32⟩
  | .hbm, ⟨71, _⟩ => ⟨S6x6144, .f32⟩
  | .hbm, ⟨72, _⟩ => ⟨S_, .f32⟩
  | .hbm, ⟨73, _⟩ => ⟨S6x6144, .f32⟩
  | .hbm, ⟨74, _⟩ => ⟨S6x6144, .f32⟩
  | .hbm, ⟨75, _⟩ => ⟨S6x1x6144, .f32⟩
  | .hbm, ⟨76, _⟩ => ⟨S6x512x6144, .f32⟩
  | .hbm, ⟨77, _⟩ => ⟨S6x512x6144, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S6x512x6144, .f32⟩
  | .hbm, ⟨82, _⟩ => ⟨S6x512x6144, .f32⟩
  | .hbm, ⟨83, _⟩ => ⟨S_, .f32⟩
  | .hbm, ⟨84, _⟩ => ⟨S6x512x6144, .f32⟩
  | .hbm, ⟨85, _⟩ => ⟨S6x512x6144, .f32⟩
  | .hbm, ⟨86, _⟩ => ⟨S6x512x6144, .fp8e4m3⟩
  | .hbm, ⟨87, _⟩ => ⟨S6x512x6144, .bf16⟩
  | .hbm, ⟨88, _⟩ => ⟨S6x6144x512, .bf16⟩
  | .hbm, ⟨89, _⟩ => ⟨S6x512x6144, .bf16⟩
  | .local _ .vmem, ⟨0, _⟩ => ⟨S6x512x6144, .f32⟩
  | .local _ .vmem, ⟨1, _⟩ => ⟨S6x6144, .f32⟩
  | .local _ .vmem, ⟨2, _⟩ => ⟨S512x512, .fp8e4m3⟩
  | .local _ .vmem, ⟨3, _⟩ => ⟨S512x512, .fp8e4m3⟩
  | .local _ .vmem, ⟨4, _⟩ => ⟨S512x512, .fp8e4m3⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S6x512x6144, .fp8e4m3⟩
  | .local _ .vmem, ⟨11, _⟩ => ⟨S6x512x6144, .bf16⟩
  | .local _ .vmem, ⟨12, _⟩ => ⟨S6x6144x512, .bf16⟩
  | .local _ .vmem, ⟨13, _⟩ => ⟨S6x512x6144, .bf16⟩
  | _, _ => ⟨S6x512x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_call0_v0 : Ref sig .tc := ⟨.hbm, 65, rfl⟩
abbrev main_call0_v1 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_cst_14 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v51 : Ref sig .tc := ⟨.hbm, 85, rfl⟩
abbrev main_v52_0 : Ref sig .tc := ⟨.hbm, 86, rfl⟩
abbrev main_v52_1 : Ref sig .tc := ⟨.hbm, 87, rfl⟩
abbrev main_v52_2 : Ref sig .tc := ⟨.hbm, 88, rfl⟩
abbrev main_v52_3 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S6x512x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x512x6144 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x512x6144 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x6144x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x512x6144 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.AttentionRuns.lean ====
/- The frame of the attention call: what the runs share: the buffers, the blocks and the branch conditions. -/
module

public import proofs.«01_k».proof.Proof.Gen.Attention.Launch
public import proofs.«01_k».proof.Proof.Gen.Attention.Skeleton
public import proofs.«01_k».proof.Proof.Gen.Attention.Loops
public import proofs.«01_k».proof.Proof.Gen.Attention.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Attention.Quiet

open Cert.Attention Cert.Attention.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Attention`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x512 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S6x6144 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S512x512 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Attention.Quiet

end
-- ==== Proof.AttentionRunA.lean ====
/- The frame of the attention call: the run of the body, first case. -/
module

public import proofs.«01_k».proof.Proof.AttentionRuns

@[expose] public section

-- membership in a rectangle of production extents (`View.cover_of_tiled`): the elaborator's structural look
-- recurses once per coordinate of the long axes
set_option maxRecDepth 16384

noncomputable section

namespace Cert.Attention.Quiet

open Cert.Attention Cert.Attention.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (7, 8, 9, 10) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x512x512 .bf16) (harg2 : arg2.IsWhole) (arg3 : Memref sig .tc .vmem S1x6144x512 .bf16) (harg3 : arg3.IsWhole) (arg4 : Memref sig .tc .vmem S1x512x6144 .bf16) (harg4 : arg4.IsWhole) (arg5 : Memref sig .tc .vmem S1x512x512 .bf16) (harg5 : arg5.IsWhole) (arg6 : Memref sig .tc .vmem S512x512 .fp8e4m3) (harg6 : arg6.IsWhole) (arg7 : Memref sig .tc .vmem S512x1 .f32) (harg7 : arg7.IsWhole) (arg8 : Memref sig .tc .vmem S512x1 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .fp8e4m3) (harg11 : arg11.IsWhole) (arg12 : Memref sig .tc .vmem S6x6144 .f32) (harg12 : arg12.IsWhole) (arg13 : Memref sig .tc .vmem S512x512 .f32) (harg13 : arg13.IsWhole)
    (x0 : Vec F S1x512x512 .bf16) (x1 : Vec F S1x6144x512 .bf16) (x2 : Vec F S1x512x6144 .bf16) (x3 : Vec F S1x512x512 .bf16) (x4 : Vec F S512x512 .fp8e4m3) (x5 : Vec F S512x1 .f32) (x6 : Vec F S512x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12 arg13 harg13) K := by
    intro E K
    simp only [cc0_attention_eq_skeleton]; unfold cc0_attention_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact HS0
    ipureintro; rfl

end Cert.Attention.Quiet

end
-- ==== Proof.AttentionFrame.lean ====
/- The frame of the attention call: the pipeline over the runs, and the arguments unchanged. -/
module

public import proofs.«01_k».proof.Proof.AttentionRunA
public import Idealize.ShloMosaic.Lib.Claim

@[expose] public section

-- membership in a rectangle of production extents (`View.cover_of_tiled`): the elaborator's structural look
-- recurses once per coordinate of the long axes
set_option maxRecDepth 16384

noncomputable section

namespace Cert.Attention.Quiet

open Cert.Attention Cert.Attention.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9, 10): nothing reads what the kernel leaves in them, so nothing
    of it is named (Lib/Pipeline/Dat.lean `Dat.toRForget`). -/
def forgets0 : Fin 11 → Bool := fun w => w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Attention`'s statement (Defs.lean) at any `F` — Proof.lean cites it at `Bits`:
    `theorem Cert.Proof.claim : Cert.Claim := ⟨Cert.Attention.Gen.facts, fun m ρ _ => Cert.Attention.Quiet.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Attention.Quiet

end
-- ==== Proof.PrologueRuns.lean ====
/- The frame of the prologue call: what the runs share: the buffers, the blocks and the branch conditions. -/
module

public import proofs.«01_k».proof.Proof.Gen.Prologue.Launch
public import proofs.«01_k».proof.Proof.Gen.Prologue.Skeleton
public import proofs.«01_k».proof.Proof.Gen.Prologue.Loops
public import proofs.«01_k».proof.Proof.Gen.Prologue.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Prologue.Quiet

open Cert.Prologue Cert.Prologue.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Prologue`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 12) — by arithmetic of the point. -/
theorem hcond0_0 : ∀ t : Fin cfg0.N, cond0_0 (grid0.coords t) ↔ t.val % 12 = 0 :=
  (fun t => by
    have ht : t.val < 72 := Nat.lt_of_lt_of_eq t.isLt N_0
    have e0 : (grid0.coords t 0).val = t.val / 12 % 6 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x512x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x512 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S6x6144 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x512 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x512x512 .bf16 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S512x1 .f32 := Memref.whole cc0_scratch0
abbrev scM0_1 : Memref sig .tc .vmem S512x1 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Prologue.Quiet

end
-- ==== Proof.PrologueRunA.lean ====
/- The frame of the prologue call: the run of the body, first case. -/
module

public import proofs.«01_k».proof.Proof.PrologueRuns

@[expose] public section

-- membership in a rectangle of production extents (`View.cover_of_tiled`): the elaborator's structural look
-- recurses once per coordinate of the long axes
set_option maxRecDepth 16384

noncomputable section

namespace Cert.Prologue.Quiet

open Cert.Prologue Cert.Prologue.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 12, 24, 36, 48, 60): on whole staging memrefs — the inputs' at their contents,
    the FORGOTTEN outputs' (11, 12, 13, 14, 15) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x512x6144 .bf16) (harg2 : arg2.IsWhole) (arg3 : Memref sig .tc .vmem S512x1 .f32) (harg3 : arg3.IsWhole) (arg4 : Memref sig .tc .vmem S512x1 .f32) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S1x512x512 .fp8e4m3) (harg13 : arg13.IsWhole) (arg14 : Memref sig .tc .vmem S6x6144 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S512x1 .f32) (harg18 : arg18.IsWhole) (arg19 : Memref sig .tc .vmem S512x1 .f32) (harg19 : arg19.IsWhole) (hc0 : cond0_0 i)
    (x0 : Vec F S1x512x6144 .bf16) (x1 : Vec F S512x1 .f32) (x2 : Vec F S512x1 .f32) (x3 : Vec F S512x512 .fp8e4m3) (x4 : Vec F S512x512 .fp8e4m3) (x5 : Vec F S512x512 .fp8e4m3) (x6 : Vec F S512x1 .f32) (x7 : Vec F S512x1 .f32) (x8 : Vec F S512x1 .f32) (x9 : Vec F S512x1 .f32) (x10 : Vec F S512x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_gn_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_gn_qkv_eq_skeleton]; unfold cc0_gn_qkv_skel
    simp only [k0_part5_eq_skeleton, k0_part2_eq_skeleton, k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    iexists _, _; isplitr; swap; · iexact HS1
    ipureintro; rfl

end Cert.Prologue.Quiet

end
-- ==== Proof.PrologueRunB.lean ====
/- The frame of the prologue call: the run of the body, second case. -/
module

public import proofs.«01_k».proof.Proof.PrologueRunA

@[expose] public section

-- membership in a rectangle of production extents (`View.cover_of_tiled`): the elaborator's structural look
-- recurses once per coordinate of the long axes
set_option maxRecDepth 16384

noncomputable section

namespace Cert.Prologue.Quiet

open Cert.Prologue Cert.Prologue.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 71: 66 of 72): on whole staging memrefs — the inputs' at their contents,
    the FORGOTTEN outputs' (11, 12, 13, 14, 15) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x512x6144 .bf16) (harg2 : arg2.IsWhole) (arg3 : Memref sig .tc .vmem S512x1 .f32) (harg3 : arg3.IsWhole) (arg4 : Memref sig .tc .vmem S512x1 .f32) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S1x512x512 .fp8e4m3) (harg13 : arg13.IsWhole) (arg14 : Memref sig .tc .vmem S6x6144 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S512x1 .f32) (harg18 : arg18.IsWhole) (arg19 : Memref sig .tc .vmem S512x1 .f32) (harg19 : arg19.IsWhole) (hc0 : ¬cond0_0 i)
    (x0 : Vec F S1x512x6144 .bf16) (x1 : Vec F S512x1 .f32) (x2 : Vec F S512x1 .f32) (x3 : Vec F S512x512 .fp8e4m3) (x4 : Vec F S512x512 .fp8e4m3) (x5 : Vec F S512x512 .fp8e4m3) (x6 : Vec F S512x1 .f32) (x7 : Vec F S512x1 .f32) (x8 : Vec F S512x1 .f32) (x9 : Vec F S512x1 .f32) (x10 : Vec F S512x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_gn_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_gn_qkv_eq_skeleton]; unfold cc0_gn_qkv_skel
    simp only [k0_part5_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    iexists _, _; isplitr; swap; · iexact HS1
    ipureintro; rfl

end Cert.Prologue.Quiet

end
-- ==== Proof.PrologueFrame.lean ====
/- The frame of the prologue call: the pipeline over the runs, and the arguments unchanged. -/
module

public import proofs.«01_k».proof.Proof.PrologueRunB
public import Idealize.ShloMosaic.Lib.Claim

@[expose] public section

-- membership in a rectangle of production extents (`View.cover_of_tiled`): the elaborator's structural look
-- recurses once per coordinate of the long axes
set_option maxRecDepth 16384

noncomputable section

namespace Cert.Prologue.Quiet

open Cert.Prologue Cert.Prologue.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (11, 12, 13, 14, 15): nothing reads what the kernel leaves in them, so nothing
    of it is named (Lib/Pipeline/Dat.lean `Dat.toRForget`). -/
def forgets0 : Fin 16 → Bool := fun w => w.val == 11 || w.val == 12 || w.val == 13 || w.val == 14 || w.val == 15

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  have hN : t.val < 72 := lt_of_lt_of_eq t.isLt (show cfg0.N = 72 from N_0)
  by_cases h0 : t.val % 12 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    iintro ⟨H0, H1, H2, H3, H4, H5, H6, H7, H8, H9, H10, H11, H12, H13, H14, H15, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    iintro ⟨H0, H1, H2, H3, H4, H5, H6, H7, H8, H9, H10, H11, H12, H13, H14, H15, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 11, 12, 13, 14, 15) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (fun c => (dats m 0 c).toRForget forgets0) (A_eq m) (run_main m ρ)

/-- THE FRAME: `Cert.quiescent_Prologue`'s statement (Defs.lean) at any `F` — Proof.lean cites it at `Bits`:
    `theorem Cert.Proof.claim : Cert.Claim := ⟨Cert.Prologue.Gen.facts, fun m ρ _ => Cert.Prologue.Quiet.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Prologue.Quiet

end
-- ==== Proof.AttnRun.lean ====
/- What the attention kernel's body computes from its blocks, and its run: the online softmax as a recursion over
   the six key chunks, the quantised output block, its scale strip, the projection and the residual. -/
module

public import proofs.«01_k».proof.Proof.Gen.AttentionIdeal.Launch
public import proofs.«01_k».proof.Proof.Gen.AttentionIdeal.Skeleton
public import proofs.«01_k».proof.Proof.Gen.AttentionIdeal.Points
public import proofs.«01_k».proof.Proof.Gen.AttentionIdeal.Frame
public import Idealize.ShloMosaic.Lib.Pipeline.FrameBody
public import Idealize.ShloMosaic.Lib.Tactic
public import Idealize.ShloMosaic.Lib.VecWindow
public import Idealize.ShloMosaic.Lib.WholeRead
public import Idealize.ShloMosaic.Lib.WordCmp

@[expose] public section

set_option maxRecDepth 16384

noncomputable section

namespace Cert.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Trip `k`'s 1024 rows of the keys. -/
def keys (x1 : Vec F S1x6144x512 .bf16) (k : Fin k0_t1_loop.trips) : Vec F S1x1024x512 .bf16 := fun x =>
  x1 ((Rect.unit (s := S1x6144x512) (k0_off1 k) S1x1024x512.size (k0_off1_inb k)).toLoadRect.idx x)

/-- Trip `k`'s 1024 columns of the values. -/
def vals (x2 : Vec F S1x512x6144 .bf16) (k : Fin k0_t1_loop.trips) : Vec F S1x512x1024 .bf16 := fun x =>
  x2 ((Rect.unit (s := S1x512x6144) (k0_off2 k) S1x512x1024.size (k0_off2_inb k)).toLoadRect.idx x)

/-- The running maximum, the running sum and the accumulator before trip `k`. -/
def st (x0 : Vec F S1x512x512 .bf16) (x1 : Vec F S1x6144x512 .bf16) (x2 : Vec F S1x512x6144 .bf16) :
    ℕ → (FVec F S1x512 .f32 × FVec F S1x512 .f32) × FVec F S512x512 .f32
  | 0 => ((k0_pay5, k0_pay6), k0_pay4)
  | k + 1 =>
    if h : k < k0_t1_loop.trips then
      ((k0_pay8 x0 (st x0 x1 x2 k).1.1 (keys x1 ⟨k, h⟩),
        k0_pay11 x0 (st x0 x1 x2 k).1.1 (st x0 x1 x2 k).1.2 (keys x1 ⟨k, h⟩)),
        k0_pay12 x0 (st x0 x1 x2 k).1.1 (keys x1 ⟨k, h⟩) (vals x2 ⟨k, h⟩) (st x0 x1 x2 k).2)
    else st x0 x1 x2 k

theorem st_succ (x0 : Vec F S1x512x512 .bf16) (x1 : Vec F S1x6144x512 .bf16) (x2 : Vec F S1x512x6144 .bf16)
    (k : Fin k0_t1_loop.trips) : st x0 x1 x2 (k.val + 1)
      = ((k0_pay8 x0 (st x0 x1 x2 k.val).1.1 (keys x1 k),
        k0_pay11 x0 (st x0 x1 x2 k.val).1.1 (st x0 x1 x2 k.val).1.2 (keys x1 k)),
        k0_pay12 x0 (st x0 x1 x2 k.val).1.1 (keys x1 k) (vals x2 k) (st x0 x1 x2 k.val).2) := by
  rw [st, dif_pos k.isLt]

section Values

variable (x0 : Vec F S1x512x512 .bf16) (x1 : Vec F S1x6144x512 .bf16) (x2 : Vec F S1x512x6144 .bf16)

/-- The running sum after the last trip. -/
def fin_l : FVec F S1x512 .f32 := (st x0 x1 x2 k0_t1_loop.trips).1.2
/-- The accumulator after the last trip. -/
def fin_acc : FVec F S512x512 .f32 := (st x0 x1 x2 k0_t1_loop.trips).2
/-- The attention output block. -/
def outO : FVec F S512x512 .f32 := k0_pay13 (fin_l x0 x1 x2) (fin_acc x0 x1 x2)
/-- Each query's largest absolute value, over 448. -/
def vMax : FVec F S1x512 .f32 := k0_pay14 (fin_l x0 x1 x2) (fin_acc x0 x1 x2)
/-- Each query's scale exponent, before the case of a zero column. -/
def expo : IVec S1x512 32 := k0_pay16 (vMax x0 x1 x2) (k0_pay15 (fin_l x0 x1 x2) (fin_acc x0 x1 x2))
/-- Whether a query's column is zero. -/
def isZ : IVec S1x512 1 := k0_pay17 (vMax x0 x1 x2)
/-- The scale strip. -/
def outS : FVec F S1x512 .f32 := k0_pay20 (expo x0 x1 x2) (isZ x0 x1 x2)
/-- The codes block. -/
def outC : FVec F S1x512x512 .fp8e4m3 := k0_pay21 (outO x0 x1 x2) (expo x0 x1 x2) (isZ x0 x1 x2)
/-- The projection before the bias. -/
def outW (x4 : Vec F S512x512 .fp8e4m3) (x5 : Vec F S512x1 .f32) : FVec F S512x512 .f32 :=
  k0_pay22 (outO x0 x1 x2) (expo x0 x1 x2) (isZ x0 x1 x2) x4 x5
/-- The projection block. -/
def outP (x4 : Vec F S512x512 .fp8e4m3) (x5 x6 : Vec F S512x1 .f32) : FVec F S1x512x512 .bf16 :=
  k0_pay2 (outW x0 x1 x2 x4 x5) (k0_pay23 x6)
/-- The result block: the residual and the projection. -/
def outY (x3 : Vec F S1x512x512 .bf16) (x4 : Vec F S512x512 .fp8e4m3) (x5 x6 : Vec F S512x1 .f32) : FVec F S1x512x512 .bf16 :=
  k0_pay3 (outW x0 x1 x2 x4 x5) (k0_pay23 x6) x3

end Values

section Run

variable (c : Dev nD) (i : grid0.Coords) (arg2 : Memref sig .tc .vmem S1x512x512 .bf16) (harg2 : arg2.IsWhole) (arg3 : Memref sig .tc .vmem S1x6144x512 .bf16) (harg3 : arg3.IsWhole) (arg4 : Memref sig .tc .vmem S1x512x6144 .bf16) (harg4 : arg4.IsWhole) (arg5 : Memref sig .tc .vmem S1x512x512 .bf16) (harg5 : arg5.IsWhole) (arg6 : Memref sig .tc .vmem S512x512 .fp8e4m3) (harg6 : arg6.IsWhole) (arg7 : Memref sig .tc .vmem S512x1 .f32) (harg7 : arg7.IsWhole) (arg8 : Memref sig .tc .vmem S512x1 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .fp8e4m3) (harg11 : arg11.IsWhole) (arg12 : Memref sig .tc .vmem S6x6144 .f32) (harg12 : arg12.IsWhole) (arg13 : Memref sig .tc .vmem S512x512 .f32) (harg13 : arg13.IsWhole)

/-- Before trip `k`: the keys and the values as they were, the accumulator's buffer and the carried pair at the
    recursion's state. -/
abbrev loopI (x0 : Vec F S1x512x512 .bf16) (x1 : Vec F S1x6144x512 .bf16) (x2 : Vec F S1x512x6144 .bf16) (k : ℕ)
    (acc : FVec F S1x512 .f32 × FVec F S1x512 .f32) : sProp 𝕄 :=
  iprop((arg3.view.loc (c : Thread nD τ) ↦[arg3.view.set]{fullShare} harg3.unread x1)
    ∗ (arg4.view.loc (c : Thread nD τ) ↦[arg4.view.set]{fullShare} harg4.unread x2)
    ∗ (∃ f, (arg13.view.loc (c : Thread nD τ) ↦[arg13.view.set]{fullShare} f) ∗ ⌜arg13.view.read (Elt F) f = (st x0 x1 x2 k).2⌝)
    ∗ ⌜acc = (st x0 x1 x2 k).1⌝)

set_option warn.classDefReducibility false in
set_option maxHeartbeats 1000000 in
/-- The loop by its invariant. -/
@[sl_loop] def attnLoop (E : Set ℕ) (x0 : Vec F S1x512x512 .bf16) (x1 : Vec F S1x6144x512 .bf16) (x2 : Vec F S1x512x6144 .bf16) :
    Idealize.ShloMosaic.LoopInv (M := 𝕄) Idealize.ShloMosaic.frame (wpE (defs₀ (F := F)) Variants.none (c : Thread nD τ) none) E
      k0_t1_loop.lb k0_t1_loop.ub k0_t1_loop.st k0_t1_ok (k0_pay5 (F := F), k0_pay6 (F := F))
      (k0_t1_body (F := F) i arg2 harg2 arg3 harg3 arg4 harg4 arg5 harg5 arg6 harg6 arg7 harg7 arg8 harg8 arg9 harg9 arg10 harg10 arg11 harg11 arg12 harg12 arg13 harg13 x0) where
  inv := loopI (F := F) c arg3 harg3 arg4 harg4 arg13 x0 x1 x2
  step k acc := by
    have hk : k.val < 6 := Nat.lt_of_lt_of_le k.isLt k0_t1_abs.2.1
    unfold loopI k0_t1_body
    iintro ⟨H3, H4, ⟨%f, H13, %hf⟩, %hacc⟩
    subst hacc
    sl_exec
    sl_step
    have h3 : View.readAt (Elt F) arg3.view (Rect.unit (s := S1x6144x512) (k0_off1 k) S1x1024x512.size (k0_off1_inb k)).toLoadRect (harg3.unread x1) = keys x1 k :=
      funext fun x => harg3.readAt_unread x1 _ x
    have h4 : View.readAt (Elt F) arg4.view (Rect.unit (s := S1x512x6144) (k0_off2 k) S1x512x1024.size (k0_off2_inb k)).toLoadRect (harg4.unread x2) = vals x2 k :=
      funext fun x => harg4.readAt_unread x2 _ x
    have h13 : View.readAt (Elt F) arg13.view (Rect.unit (s := S512x512) ![0, 0] S512x512.size inb_S512x512_S512x512_0_0).toLoadRect f = (st x0 x1 x2 k.val).2 :=
      (View.readAt_full arg13.view f _).trans hf
    isplitl [H3]; · iexact H3
    isplitl [H4]; · iexact H4
    isplitl [H13]
    · iexists _; isplitl [H13]; · iexact H13
      ipureintro
      rw [View.read_writes_full, st_succ, h3, h4, h13]
    ipureintro
    rw [st_succ, h3]

set_option maxHeartbeats 4000000 in
/-- The body's run: on whole buffers, the inputs' at their contents, the scales' at `y`, the others' at anything, it ends
    with the inputs' as they were, the output buffers at the values of the inputs, and the scales' at `y` with its strip put in. -/
theorem bodyRun (x0 : Vec F S1x512x512 .bf16) (x1 : Vec F S1x6144x512 .bf16) (x2 : Vec F S1x512x6144 .bf16) (x3 : Vec F S1x512x512 .bf16) (x4 : Vec F S512x512 .fp8e4m3) (x5 : Vec F S512x1 .f32) (x6 : Vec F S512x1 .f32) (y : Vec F S6x6144 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outY x0 x1 x2 x3 x4 x5 x6) ∗ owns (c : Thread nD τ) arg10 fullShare (outP x0 x1 x2 x4 x5 x6) ∗ owns (c : Thread nD τ) arg11 fullShare (outC x0 x1 x2) ∗ owns (c : Thread nD τ) arg12 fullShare (VecWindow.put y (k0_off3 i) S1x512.size (outS x0 x1 x2)) ∗ (∃ d, owns (c : Thread nD τ) arg13 fullShare d)) -∗ K ⟨⟩))
          ⊢ wp frame (wpE (defs₀ (F := F)) Variants.none (c : Thread nD τ) none) E (cc0_attention i arg2 harg2 arg3 harg3 arg4 harg4 arg5 harg5 arg6 harg6 arg7 harg7 arg8 harg8 arg9 harg9 arg10 harg10 arg11 harg11 arg12 harg12 arg13 harg13) K := by
  simp only [cc0_attention_eq_skeleton]; unfold cc0_attention_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10
  have hinit : View.read (Elt F) arg13.view (arg13.view.writes (Elt F) arg13.view.junk [⟨Rect.unit (s := S512x512) ![0, 0] S512x512.size inb_S512x512_S512x512_0_0, k0_pay4⟩])
      = (st (View.readAt (Elt F) arg2.view (Rect.unit (s := S1x512x512) ![0, 0, 0] S1x512x512.size inb_S1x512x512_S1x512x512_0_0_0).toLoadRect (harg2.unread x0)) x1 x2 0).2 :=
    View.read_writes_full _ _ _ _ _
  sl_exec
  sl_step
  have h2 : View.readAt (Elt F) arg2.view (Rect.unit (s := S1x512x512) ![0, 0, 0] S1x512x512.size inb_S1x512x512_S1x512x512_0_0_0).toLoadRect (harg2.unread x0) = x0 :=
    (View.readAt_full arg2.view _ _).trans (harg2.read_unread _)
  have h5 : View.readAt (Elt F) arg5.view (Rect.unit (s := S1x512x512) ![0, 0, 0] S1x512x512.size inb_S1x512x512_S1x512x512_0_0_0).toLoadRect (harg5.unread x3) = x3 :=
    (View.readAt_full arg5.view _ _).trans (harg5.read_unread _)
  have h6 : View.readAt (Elt F) arg6.view (Rect.unit (s := S512x512) ![0, 0] S512x512.size inb_S512x512_S512x512_0_0).toLoadRect (harg6.unread x4) = x4 :=
    (View.readAt_full arg6.view _ _).trans (harg6.read_unread _)
  have h7 : View.readAt (Elt F) arg7.view (Rect.unit (s := S512x1) ![0, 0] S512x1.size inb_S512x1_S512x1_0_0).toLoadRect (harg7.unread x5) = x5 :=
    (View.readAt_full arg7.view _ _).trans (harg7.read_unread _)
  have h8 : View.readAt (Elt F) arg8.view (Rect.unit (s := S512x1) ![0, 0] S512x1.size inb_S512x1_S512x1_0_0).toLoadRect (harg8.unread x6) = x6 :=
    (View.readAt_full arg8.view _ _).trans (harg8.read_unread _)
  have h13 : View.readAt (Elt F) arg13.view (Rect.unit (s := S512x512) ![0, 0] S512x512.size inb_S512x512_S512x512_0_0).toLoadRect fL0 = fin_acc x0 x1 x2 := by
    rw [h2] at hL3
    exact (View.readAt_full arg13.view _ _).trans hL3
  have hS : ∀ X A, X = x0 → A = fin_acc x0 x1 x2 → k0_pay20 (k0_pay16 (k0_pay14 (st X x1 x2 k0_t1_loop.trips).1.2 A) (k0_pay15 (st X x1 x2 k0_t1_loop.trips).1.2 A)) (k0_pay17 (k0_pay14 (st X x1 x2 k0_t1_loop.trips).1.2 A)) = outS x0 x1 x2 := by
    rintro _ _ rfl rfl; rfl
  have hC : ∀ X A, X = x0 → A = fin_acc x0 x1 x2 → k0_pay21 (k0_pay13 (st X x1 x2 k0_t1_loop.trips).1.2 A) (k0_pay16 (k0_pay14 (st X x1 x2 k0_t1_loop.trips).1.2 A) (k0_pay15 (st X x1 x2 k0_t1_loop.trips).1.2 A)) (k0_pay17 (k0_pay14 (st X x1 x2 k0_t1_loop.trips).1.2 A)) = outC x0 x1 x2 := by
    rintro _ _ rfl rfl; rfl
  have hP : ∀ X A B C D, X = x0 → A = fin_acc x0 x1 x2 → B = x4 → C = x5 → D = x6 →
      k0_pay2 (k0_pay22 (k0_pay13 (st X x1 x2 k0_t1_loop.trips).1.2 A) (k0_pay16 (k0_pay14 (st X x1 x2 k0_t1_loop.trips).1.2 A) (k0_pay15 (st X x1 x2 k0_t1_loop.trips).1.2 A)) (k0_pay17 (k0_pay14 (st X x1 x2 k0_t1_loop.trips).1.2 A)) B C) (k0_pay23 D) = outP x0 x1 x2 x4 x5 x6 := by
    rintro _ _ _ _ _ rfl rfl rfl rfl rfl; rfl
  have hY : ∀ X A B C D G, X = x0 → A = fin_acc x0 x1 x2 → B = x4 → C = x5 → D = x6 → G = x3 →
      k0_pay3 (k0_pay22 (k0_pay13 (st X x1 x2 k0_t1_loop.trips).1.2 A) (k0_pay16 (k0_pay14 (st X x1 x2 k0_t1_loop.trips).1.2 A) (k0_pay15 (st X x1 x2 k0_t1_loop.trips).1.2 A)) (k0_pay17 (k0_pay14 (st X x1 x2 k0_t1_loop.trips).1.2 A)) B C) (k0_pay23 D) G = outY x0 x1 x2 x3 x4 x5 x6 := by
    rintro _ _ _ _ _ _ rfl rfl rfl rfl rfl rfl; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (View.read_writes_full _ _ _ _ _).trans ?_
    exact (hY _ _ _ _ _ _ h2 h13 h6 h7 h8 h5 :)
  isplitl [H8]
  · iexists _; isplitr; swap; · iexact H8
    ipureintro
    refine (View.read_writes_full _ _ _ _ _).trans ?_
    exact (hP _ _ _ _ _ h2 h13 h6 h7 h8 :)
  isplitl [H9]
  · iexists _; isplitr; swap; · iexact H9
    ipureintro
    refine (View.read_writes_full _ _ _ _ _).trans ?_
    exact (hC _ _ h2 h13 :)
  isplitl [H10]
  · iexists _; isplitr; swap; · iexact H10
    ipureintro
    refine (View.read_writes_cons_put _ _ _ _ _ rfl).trans ?_
    rw [View.writes_nil, harg12.read_unread]
    exact congrArg (VecWindow.put y (k0_off3 i) S1x512.size) (hS _ _ h2 h13 :)
  iexists _, _; isplitr; swap; · iexact HS0
  ipureintro; rfl

end Run

end Cert.Attn

end
-- ==== Proof.AttnFrame.lean ====
/- The attention call's run: what each output block holds after its grid point (the scales' strip by strip), the body's
   obligation, the launch, and the arrays the call ends with. -/
module

public import proofs.«01_k».proof.Proof.AttnRun
public import Idealize.ShloMosaic.Lib.Claim
public import Idealize.ShloMosaic.Lib.Pipeline.DatRel
public import Idealize.ShloMosaic.Lib.Pipeline.ArrRel
public import Idealize.ShloMosaic.Lib.Pipeline.ValueKit
public import Idealize.ShloMosaic.Lib.ValueIdx

@[expose] public section

set_option maxRecDepth 16384

noncomputable section

namespace Cert.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's current staging memref at point `t`. -/
abbrev ms0 (t : Fin cfg0.N) : Memref sig .tc .vmem S1x512x512 .bf16 := win0_0.stage (cfg0.slots t 0)
abbrev ms1 (t : Fin cfg0.N) : Memref sig .tc .vmem S1x6144x512 .bf16 := win0_1.stage (cfg0.slots t 1)
abbrev ms2 (t : Fin cfg0.N) : Memref sig .tc .vmem S1x512x6144 .bf16 := win0_2.stage (cfg0.slots t 2)
abbrev ms3 (t : Fin cfg0.N) : Memref sig .tc .vmem S1x512x512 .bf16 := win0_3.stage (cfg0.slots t 3)
abbrev ms4 (t : Fin cfg0.N) : Memref sig .tc .vmem S512x512 .fp8e4m3 := win0_4.stage (cfg0.slots t 4)
abbrev ms5 (t : Fin cfg0.N) : Memref sig .tc .vmem S512x1 .f32 := win0_5.stage (cfg0.slots t 5)
abbrev ms6 (t : Fin cfg0.N) : Memref sig .tc .vmem S512x1 .f32 := win0_6.stage (cfg0.slots t 6)
abbrev ms7 (t : Fin cfg0.N) : Memref sig .tc .vmem S1x512x512 .bf16 := win0_7.stage (cfg0.slots t 7)
abbrev ms8 (t : Fin cfg0.N) : Memref sig .tc .vmem S1x512x512 .bf16 := win0_8.stage (cfg0.slots t 8)
abbrev ms9 (t : Fin cfg0.N) : Memref sig .tc .vmem S1x512x512 .fp8e4m3 := win0_9.stage (cfg0.slots t 9)
abbrev ms10 (t : Fin cfg0.N) : Memref sig .tc .vmem S6x6144 .f32 := win0_10.stage (cfg0.slots t 10)
/-- The accumulator's buffer. -/
abbrev scM : Memref sig .tc .vmem S512x512 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The blocks that the body leaves -/

/-- The result block of point `t`. -/
def blkY (c : Dev nD) (t : Fin cfg0.N) : FVec F S1x512x512 .bf16 :=
  outY (iblk m c 0 t) (iblk m c 1 t) (iblk m c 2 t) (iblk m c 3 t) (iblk m c 4 t) (iblk m c 5 t) (iblk m c 6 t)
/-- The projection block of point `t`. -/
def blkP (c : Dev nD) (t : Fin cfg0.N) : FVec F S1x512x512 .bf16 :=
  outP (iblk m c 0 t) (iblk m c 1 t) (iblk m c 2 t) (iblk m c 4 t) (iblk m c 5 t) (iblk m c 6 t)
/-- The codes block of point `t`. -/
def blkC (c : Dev nD) (t : Fin cfg0.N) : FVec F S1x512x512 .fp8e4m3 := outC (iblk m c 0 t) (iblk m c 1 t) (iblk m c 2 t)
/-- The scale strip of point `t`. -/
def blkS (c : Dev nD) (t : Fin cfg0.N) : FVec F S1x512 .f32 := outS (iblk m c 0 t) (iblk m c 1 t) (iblk m c 2 t)

/-- The strips of the points up to `t` hold their scales. -/
def Strips (c : Dev nD) (t : Fin cfg0.N) (X : Vec F S6x6144 .f32) : Prop :=
  ∀ s : Fin cfg0.N, s.val ≤ t.val →
    VecWindow.window X (k0_off3 (grid0.coords s)) S1x512.size (k0_off3_inb (grid0.coords s)) = blkS m c s

theorem off3_eq : ∀ t : Fin 72, k0_off3 (grid0.coords t) = ![t.val / 12, 512 * (t.val % 12)] := by decide +kernel

/-- Point `t`'s strip put in, the strips up to `t` are there. -/
theorem strips_put (c : Dev nD) (t : Fin cfg0.N) (Y : Vec F S6x6144 .f32)
    (h : ∀ s : Fin cfg0.N, s.val < t.val →
      VecWindow.window Y (k0_off3 (grid0.coords s)) S1x512.size (k0_off3_inb (grid0.coords s)) = blkS m c s) :
    Strips m c t (VecWindow.put Y (k0_off3 (grid0.coords t)) S1x512.size (blkS m c t)) := by
  intro s hs
  rcases Nat.lt_or_eq_of_le hs with hlt | heq
  · rw [← h s hlt]
    by_cases hr : s.val / 12 = t.val / 12
    · refine VecWindow.window_put_of_disjoint (s := S6x6144) _ _ _ _ _ _ _ 1 ?_
      rw [off3_eq s, off3_eq t]
      show 512 * (s.val % 12) + 512 ≤ 512 * (t.val % 12) ∨ 512 * (t.val % 12) + 512 ≤ 512 * (s.val % 12)
      omega
    · refine VecWindow.window_put_of_disjoint (s := S6x6144) _ _ _ _ _ _ _ 0 ?_
      rw [off3_eq s, off3_eq t]
      show s.val / 12 + 1 ≤ t.val / 12 ∨ t.val / 12 + 1 ≤ s.val / 12
      omega
  · obtain rfl : s = t := Fin.ext heq
    exact VecWindow.window_put_same (s := S6x6144) _ _ _ _ _

/-! ## The pipeline's data -/

/-- The output windows. -/
def outs : Fin 11 → Bool := fun w => w.val == 7 || w.val == 8 || w.val == 9 || w.val == 10

/-- What the body leaves in the outputs' buffers at point `t`. -/
def Lv (c : Dev nD) : (w : Fin cfg0.W) → Fin cfg0.N → ((cfg0.win w).block.Idx → Elt F (cfg0.win w).elt) → Prop
  | ⟨7, _⟩ => fun t X => X = blkY m c t
  | ⟨8, _⟩ => fun t X => X = blkP m c t
  | ⟨9, _⟩ => fun t X => X = blkC m c t
  | ⟨10, _⟩ => fun t X => Strips m c t X
  | _ => fun _ _ => True

/-- The pipeline's data: the arrays as the region finds them, the inputs' buffers at their blocks after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- The data with the outputs' buffers known by `Lv`. -/
abbrev rdat (c : Dev nD) : RDat τ (Elt F) Unit ℕ (UR sig nD τ) ℕ cfg0 c := (dats m 0 c).toRRel outs (Lv m c)

/-- The scales' buffer as point `t` finds it: the strips of the points before it. -/
theorem finds10 (c : Dev nD) (t : Fin cfg0.N) (Y : Vec F S6x6144 .f32) (h : (rdat m c).Finds 10 t Y) :
    ∀ s : Fin cfg0.N, s.val < t.val →
      VecWindow.window Y (k0_off3 (grid0.coords s)) S1x512.size (k0_off3_inb (grid0.coords s)) = blkS m c s := by
  intro s hs
  have ht : t.val ≠ 0 := by omega
  have hN : t.val < 72 := t.isLt
  have hp : t.val - 1 < cfg0.N := Nat.lt_of_le_of_lt (Nat.sub_le _ _) t.isLt
  rcases ((rdat m c).finds_of_pos (w := 10) (t := t) rfl ht Y).mp h with hf | hl
  · have := (flush0_10 ⟨t.val - 1, hp⟩).mp hf
    simp only at this
    omega
  · have h' : Lv m c 10 ⟨t.val - 1, hp⟩ Y := (dats m 0 c).toRRel_leaves (w := 10) rfl hl
    exact (show Strips m c ⟨t.val - 1, hp⟩ Y from h') s (by simp only; omega)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ Y, ⌜(rdat m c).Finds 7 t Y⌝ ∗ owns (c : Thread nD τ) (ms7 t) fullShare Y)
    ∗ (∃ Y, ⌜(rdat m c).Finds 8 t Y⌝ ∗ owns (c : Thread nD τ) (ms8 t) fullShare Y)
    ∗ (∃ Y, ⌜(rdat m c).Finds 9 t Y⌝ ∗ owns (c : Thread nD τ) (ms9 t) fullShare Y)
    ∗ (∃ Y, ⌜(rdat m c).Finds 10 t Y⌝ ∗ owns (c : Thread nD τ) (ms10 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ X, ⌜Lv m c 7 t X⌝ ∗ owns (c : Thread nD τ) (ms7 t) fullShare X)
    ∗ (∃ X, ⌜Lv m c 8 t X⌝ ∗ owns (c : Thread nD τ) (ms8 t) fullShare X)
    ∗ (∃ X, ⌜Lv m c 9 t X⌝ ∗ owns (c : Thread nD τ) (ms9 t) fullShare X)
    ∗ (∃ X, ⌜Lv m c 10 t X⌝ ∗ owns (c : Thread nD τ) (ms10 t) fullShare X))

set_option maxHeartbeats 1200000 in
/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = Pipeline.ΦA spec0 c from rfl, PhiA_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩, ⟨%d8, -, H8⟩, ⟨%d9, -, H9⟩, ⟨%d10, %hd10, H10⟩⟩
  iapply (bodyRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) d10 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  iexists _; isplitr; swap; · iexact H10
  ipureintro
  exact strips_put m c t d10 (finds10 m c t d10 hd10)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ outs (Lv m c) := fun t => by
  rw [bigSep_W0, bigSep_W0, defs₀_row]
  exact triple_restated (sound_body m c t) rfl .rfl fun _ => .rfl

set_option backward.isDefEq.respectTransparency.types false in
/-- The launch: every execution ends, the arrays as the data say, every counter at zero. -/
theorem run_main : θ_run defs (onTc (τ := τ) (main (F := F))) (s₀ m ρ)
    (fun r => (Pipeline.RDat.FramePost (cfgs 0) (fun c => rdat m c) (V m)) r ∧ r.2.sem = fun _ => 0) :=
  Pipeline.RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.Attn

end
-- ==== Proof.AttnEnds.lean ====
/- The arrays that the attention call ends with, element by element: each is a block of the point that covers it. -/
module

public import proofs.«01_k».proof.Proof.AttnFrame

@[expose] public section

set_option maxRecDepth 16384

noncomputable section

namespace Cert.Attn

open Cert.AttentionIdeal Cert.AttentionIdeal.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat RDat Cfg Window BodyObligationRel cellOf)

variable {F : FTy → Type} [FloatOps F] [Named F]

variable (m : (ℓ : Loc nD τ sig) → Buf (Elt F) ℓ) (ρ : Dev nD → PrngReg)

/-- The grid point of batch `b` and query `n`. -/
def pt (b : Fin 6) (n : Fin 6144) : Fin cfg0.N := ⟨12 * b.val + n.val / 512, by
  have := b.isLt; have := n.isLt; show _ < 72; omega⟩

/-- A query's place within its block. -/
def lane (n : Fin 6144) : Fin 512 := ⟨n.val % 512, Nat.mod_lt _ (by decide)⟩

def arrY (c : Dev nD) : S6x512x6144.Idx → Elt F .bf16 := fun i => blkY m c (pt (i 0) (i 2)) (ix3 0 (i 1) (lane (i 2)))
def arrP (c : Dev nD) : S6x512x6144.Idx → Elt F .bf16 := fun i => blkP m c (pt (i 0) (i 2)) (ix3 0 (i 1) (lane (i 2)))
def arrC (c : Dev nD) : S6x512x6144.Idx → Elt F .fp8e4m3 := fun i => blkC m c (pt (i 0) (i 2)) (ix3 0 (i 1) (lane (i 2)))
def arrS (c : Dev nD) : S6x6144.Idx → Elt F .f32 := fun i => blkS m c (pt (i 0) (i 1)) (ix2 0 (lane (i 1)))

/-- Where each window's block lies at point `t`. -/
theorem idx : ∀ t : Fin cfg0.N,
    win0_0.index t = ![t.val / 12, 0, t.val % 12] ∧ win0_1.index t = ![t.val / 12, 0, 0] ∧ win0_2.index t = ![t.val / 12, 0, 0]
    ∧ win0_3.index t = ![t.val / 12, 0, t.val % 12] ∧ win0_4.index t = ![0, 0] ∧ win0_5.index t = ![0, 0] ∧ win0_6.index t = ![0, 0]
    ∧ win0_7.index t = ![t.val / 12, 0, t.val % 12] ∧ win0_8.index t = ![t.val / 12, 0, t.val % 12]
    ∧ win0_9.index t = ![t.val / 12, 0, t.val % 12] ∧ win0_10.index t = ![0, 0] :=
  (by decide +kernel : ∀ t : Fin grid0.N, _)

/-- The last point. -/
abbrev tLast : Fin cfg0.N := ⟨71, by decide⟩

theorem blk_at {α : Type} (f : Fin cfg0.N → S1x512x512.Idx → α) (t : Fin cfg0.N) (y : S1x512x512.Idx) (b : Fin 6) (d : Fin 512) (n : Fin 6144)
    (hb : b.val = t.val / 12) (hd : d.val = (y 1).val) (hn : n.val = t.val % 12 * 512 + (y 2).val) :
    f t y = f (pt b n) (ix3 0 d (lane n)) := by
  have ht : t.val < 72 := t.isLt
  have h2 : (y 2).val < 512 := (y 2).isLt
  have h0 : (y 0).val < 1 := (y 0).isLt
  have e : t = pt b n := Fin.ext (by simp only [pt]; omega)
  rw [← e]
  refine congrArg (f t) ?_
  rw [eq_ix3 y]
  have e0 : y 0 = (0 : Fin 1) := Fin.ext (by simp only [Fin.val_zero]; omega)
  have e1 : y 1 = d := Fin.ext hd.symm
  have e2 : y 2 = lane n := Fin.ext (by simp only [lane]; omega)
  rw [e0, e1, e2]

set_option maxHeartbeats 1000000 in
/-- What the run leaves, from its post. -/
theorem ends (r : PUnit × MemSt nD τ sig (Elt F))
    (h : (Pipeline.RDat.FramePost (cfgs 0) (fun c => rdat m c) (V m)) r) (c : Dev nD) :
    r.2.mem ((c.tc : Thread nD τ).loc main_v2_0) = arrY m c
    ∧ r.2.mem ((c.tc : Thread nD τ).loc main_v2_1) = arrP m c
    ∧ r.2.mem ((c.tc : Thread nD τ).loc main_v2_2) = arrC m c
    ∧ r.2.mem ((c.tc : Thread nD τ).loc main_v2_3) = arrS m c := by
  obtain ⟨after, hL, hA⟩ := Pipeline.RDat.FramePost.exists_exact h c
  have h7 : ∀ t, after 7 t = blkY m c t := fun t => (dats m 0 c).toRRel_leaves (w := 7) rfl (hL 7 t (flush0_7 t))
  have h8 : ∀ t, after 8 t = blkP m c t := fun t => (dats m 0 c).toRRel_leaves (w := 8) rfl (hL 8 t (flush0_8 t))
  have h9 : ∀ t, after 9 t = blkC m c t := fun t => (dats m 0 c).toRRel_leaves (w := 9) rfl (hL 9 t (flush0_9 t))
  have h10 : Strips m c tLast (after 10 tLast) := (dats m 0 c).toRRel_leaves (w := 10) rfl (hL 10 tLast ((flush0_10 tLast).mpr rfl))
  refine ⟨(hA 7).trans ?_, (hA 8).trans ?_, (hA 9).trans ?_, (hA 10).trans ?_⟩
  · refine ((rdat m c).withAfter after).arrAt_eq_of_covers 7 _ (by decide +kernel) fun t _ y => ?_
    rw [RDat.withAfter_after, h7]
    refine blk_at (blkY m c) t y _ _ _ ?_ ?_ ?_
    · blk_simp [idx t]; first | done | (idx_bounds y; omega)
    · blk_simp [idx t]
    · blk_simp [idx t]
  · refine ((rdat m c).withAfter after).arrAt_eq_of_covers 8 _ (by decide +kernel) fun t _ y => ?_
    rw [RDat.withAfter_after, h8]
    refine blk_at (blkP m c) t y _ _ _ ?_ ?_ ?_
    · blk_simp [idx t]; first | done | (idx_bounds y; omega)
    · blk_simp [idx t]
    · blk_simp [idx t]
  · refine ((rdat m c).withAfter after).arrAt_eq_of_covers 9 _ (by decide +kernel) fun t _ y => ?_
    rw [RDat.withAfter_after, h9]
    refine blk_at (blkC m c) t y _ _ _ ?_ ?_ ?_
    · blk_simp [idx t]; first | done | (idx_bounds y; omega)
    · blk_simp [idx t]
    · blk_simp [idx t]
  · refine ((rdat m c).withAfter after).arrAt_eq_of_after_last 10 tLast (by decide +kernel) _ fun j => ?_
    rw [RDat.withAfter_after]
    have hp := h10 (pt (j 0) (j 1)) (by have := (pt (j 0) (j 1)).isLt; show _ ≤ 71; change _ < 72 at this; omega)
    refine Eq.trans ?_ (congrFun hp (ix2 0 (lane (j 1))))
    refine congrArg (after 10 tLast) ?_
    have hj : (j 1).val < 6144 := (j 1).isLt
    have hk : (j 0).val < 6 := (j 0).isLt
    have e : ∀ a : Fin 2, k0_off3 (grid0.coords (pt (j 0) (j 1))) a = ![(pt (j 0) (j 1)).val / 12, 512 * ((pt (j 0) (j 1)).val % 12)] a :=
      fun a => congrFun (off3_eq (pt (j 0) (j 1))) a
    have hpt : (pt (j 0) (j 1)).val = 12 * (j 0).val + (j 1).val / 512 := rfl
    funext a
    apply Fin.ext
    rw [ValueKit.rect_emb_unit_val, e a]
    fin_cases a
    · show (j 0).val = (pt (j 0) (j 1)).val / 12 + 0
      omega
    · show (j 1).val = 512 * ((pt (j 0) (j 1)).val % 12) + (j 1).val % 512
      omega

/-- The arguments as they were, from the run's post. -/
theorem args_of (r : PUnit × MemSt nD τ sig (Elt F))
    (h : (Pipeline.RDat.FramePost (cfgs 0) (fun c => rdat m c) (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(Pipeline.RDat.FramePost.arr_in h c 0 rfl).trans ((A_eq m c 0).trans (V_main_arg0 m c)),
   (Pipeline.RDat.FramePost.arr_in h c 1 rfl).trans ((A_eq m c 1).trans (V_main_arg1 m c)),
   (Pipeline.RDat.FramePost.arr_in h c 2 rfl).trans ((A_eq m c 2).trans (V_main_arg2 m c)),
   (Pipeline.RDat.FramePost.arr_in h c 3 rfl).trans ((A_eq m c 3).trans (V_main_arg3 m c)),
   (Pipeline.RDat.FramePost.arr_in h c 4 rfl).trans ((A_eq m c 4).trans (V_main_arg4 m c)),
   ((h c).2 main_arg5 (Pipeline.mem_restRefs_of main_arg5 (by decide) (by decide))).trans (V_main_arg5 m c),
   ((h c).2 main_arg6 (Pipeline.mem_restRefs_of main_arg6 (by decide) (by decide))).trans (V_main_arg6 m c)⟩

/-- The frame: every execution ends with the arguments unchanged and every counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_of m r h.1 c, h.2⟩) (run_main m ρ)

/-- The values: every execution ends with the results' arrays as said and the arguments unchanged. -/
theorem values : θ_run defs (onTc (τ := τ) (main (F := F))) ⟨m, fun _ => 0, ρ⟩ (fun r => ∀ c : Dev nD,
      r.2.mem ((c.tc : Thread nD τ).loc main_v2_0) = arrY m c
      ∧ r.2.mem ((c.tc : Thread nD τ).loc main_v2_1) = arrP m c
      ∧ r.2.mem ((c.tc : Thread nD τ).loc main_v2_2) = arrC m c
      ∧ r.2.mem ((c.tc : Thread nD τ).loc main_v2_3) = arrS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨h0, h1, h2, h3⟩ := ends m r h.1 c
    exact ⟨h0, h1, h2, h3, args_of m r h.1 c⟩) (run_main m ρ)

end Cert.Attn

end
-- ==== Proof.AttnBlocks.lean ====
module

public import proofs.«01_k».proof.Proof.AttnEnds
public import Idealize.ShloMosaic.Lib.Pipeline.ValueKit
public import Idealize.ShloMosaic.Lib.Pointwise

@[expose] public section

/-!
The attention kernel's input blocks as entries of the argument arrays.
-/

set_option maxRecDepth 16384

noncomputable section
namespace Cert.Attn
open Cert.AttentionIdeal Cert.AttentionIdeal.Gen Idealize.ShloMosaic Idealize.ShloMosaic.TcCoe Idealize.SL.Sem

variable {F : FTy → Type} [FloatOps F] [Named F] (m : (ℓ : Loc nD τ sig) → Buf (Elt F) ℓ) (c : Dev nD) (t : Fin cfg0.N)

/-- The batch entry of a grid point. -/
def batch (t : Fin cfg0.N) : Fin 6 := ⟨t.val / 12, by have : t.val < 72 := t.isLt; omega⟩

/-- Query `i` of a grid point's block. -/
def place (t : Fin cfg0.N) (i : Fin 512) : Fin 6144 := ⟨t.val % 12 * 512 + i.val, by have : t.val < 72 := t.isLt; have := i.isLt; omega⟩

theorem batch_pt (b : Fin 6) (n : Fin 6144) : batch (pt b n) = b := Fin.ext (by
  have := n.isLt; show (12 * b.val + n.val / 512) / 12 = b.val; omega)

theorem place_pt (b : Fin 6) (n : Fin 6144) : place (pt b n) (lane n) = n := Fin.ext (by
  have := n.isLt; show (12 * b.val + n.val / 512) % 12 * 512 + n.val % 512 = n.val; omega)

theorem read0 (d i : Fin 512) : iblk m c 0 t (ix3 0 d i) = m ((c.tc : Thread nD τ).loc main_arg0) (ix3 (batch t) d (place t i)) := by
  blk_ext [iblk, V_main_arg0, idx t]
  · rfl
  · rfl

theorem read1 (j : Fin 6144) (d : Fin 512) : iblk m c 1 t (ix3 0 j d) = m ((c.tc : Thread nD τ).loc main_arg1) (ix3 (batch t) j d) := by
  blk_ext [iblk, V_main_arg1, idx t]
  rfl

theorem read2 (d : Fin 512) (j : Fin 6144) : iblk m c 2 t (ix3 0 d j) = m ((c.tc : Thread nD τ).loc main_arg2) (ix3 (batch t) d j) := by
  blk_ext [iblk, V_main_arg2, idx t]
  rfl

theorem read3 (d i : Fin 512) : iblk m c 3 t (ix3 0 d i) = m ((c.tc : Thread nD τ).loc main_arg3) (ix3 (batch t) d (place t i)) := by
  blk_ext [iblk, V_main_arg3, idx t]
  · rfl
  · rfl

theorem read4 (d i : Fin 512) : iblk m c 4 t (ix2 d i) = m ((c.tc : Thread nD τ).loc main_arg4) (ix2 d i) := by
  blk_ext [iblk, V_main_arg4, idx t]

theorem V0 (d : Fin 512) : (V m c main_v0 : FVec F S512x1 .f32) (ix2 d 0) = m ((c.tc : Thread nD τ).loc main_arg5) (ix1 d) := by
  simp only [V, hostOps0, List.flatten_cons, List.flatten_nil, List.append_nil, List.cons_append, List.nil_append]
  entry_read
  pointwise

theorem V1 (d : Fin 512) : (V m c main_v1 : FVec F S512x1 .f32) (ix2 d 0) = m ((c.tc : Thread nD τ).loc main_arg6) (ix1 d) := by
  simp only [V, hostOps0, List.flatten_cons, List.flatten_nil, List.append_nil, List.cons_append, List.nil_append]
  entry_read
  pointwise

theorem read5 (d : Fin 512) : iblk m c 5 t (ix2 d 0) = m ((c.tc : Thread nD τ).loc main_arg5) (ix1 d) := by
  rw [← V0 m c d]
  blk_ext [iblk, idx t]

theorem read6 (d : Fin 512) : iblk m c 6 t (ix2 d 0) = m ((c.tc : Thread nD τ).loc main_arg6) (ix1 d) := by
  rw [← V1 m c d]
  blk_ext [iblk, idx t]

end Cert.Attn
end
-- ==== Proof.AttnMath.lean ====
module

public import Idealize.ShloMosaic.PureOps.Ideal
public import Idealize.ShloMosaic.PureOps.Ideal.Laws
public import Mathlib.Analysis.SpecialFunctions.Log.Basic
public import Mathlib.Analysis.SpecialFunctions.Pow.Real
public import Mathlib.Tactic.FieldSimp
public import Mathlib.Tactic.NormNum
public import Mathlib.Tactic.Ring
public import Mathlib.Tactic.Linarith

@[expose] public section

/-!
The arithmetic behind the attention kernel, on real numbers: the softmax-weighted mean computed in one
pass over chunks of keys, the power-of-two exponent of a quantiser, and the bit patterns of powers of two.
-/

noncomputable section
namespace Cert.Attn
open Idealize.ShloMosaic
open Finset (range)

/-! ### Sums and maxima of real entries -/

/-- A finite sum of reals, read in the extended reals, is the real sum. -/
theorem coe_sum {ι : Type*} (t : Finset ι) (f : ι → ℝ) : ∑ i ∈ t, (f i : EReal) = ((∑ i ∈ t, f i : ℝ) : EReal) := by
  classical
  induction t using Finset.induction_on with
  | empty => simp
  | insert a u h ih => rw [Finset.sum_insert h, Finset.sum_insert h, ih, EReal.coe_add]

/-- The maximum of finitely many (at least one) reals, started at `⊥`, is a real. -/
theorem fold_real {ι : Type*} (t : Finset ι) (ht : t.Nonempty) (f : ι → ℝ) :
    ∃ r : ℝ, Finset.fold max (⊥ : EReal) (fun x => (f x : EReal)) t = (r : EReal) ∧ ∃ i ∈ t, r = f i := by
  classical
  induction ht using Finset.Nonempty.cons_induction with
  | singleton a => exact ⟨f a, by simp, a, by simp, rfl⟩
  | cons a u h hu ih =>
    obtain ⟨r, hr, i, hi, e⟩ := ih
    rw [Finset.fold_cons, hr]
    rcases le_total (f a) r with h' | h'
    · exact ⟨r, max_eq_right (by exact_mod_cast h'), i, by simp [hi], e⟩
    · exact ⟨f a, max_eq_left (by exact_mod_cast h'), a, by simp, rfl⟩

/-- The absolute value of a real entry. -/
theorem abs_real (r : ℝ) : max (r : EReal) (-(r : EReal)) = ((|r| : ℝ) : EReal) := by
  rw [← EReal.coe_neg, abs_eq_max_neg]
  exact (EReal.coe_strictMono.monotone.map_max).symm

/-! ### The softmax-weighted mean -/

/-- `√512`: what the scores are divided by. -/
abbrev rt : ℝ := Real.sqrt 512

/-- The factor `1/(√512 · ln 2)` that turns a score into a power of two. -/
abbrev c2 : ℝ := (Real.sqrt 512)⁻¹ * (Real.log 2)⁻¹

/-- The weighted sum of `w` over the first `n` keys, each key weighing `2 ^ ((s j − M) c2)`. -/
def part (s w : ℕ → ℝ) (M : ℝ) (n : ℕ) : ℝ := ∑ j ∈ range n, w j * (2:ℝ) ^ ((s j - M) * c2)

/-- The softmax-weighted mean of `w` over `n` keys with scores `s j / √512`. -/
def soft (s w : ℕ → ℝ) (n : ℕ) : ℝ :=
  (∑ j ∈ range n, w j * Real.exp (s j / rt)) / ∑ j ∈ range n, Real.exp (s j / rt)

/-- One chunk of the one-pass computation: the old part, rescaled to the new reference score, plus the chunk's own
    contribution, is the part over more keys. -/
theorem part_add (s w : ℕ → ℝ) (M M' : ℝ) (n k : ℕ) :
    part s w M n * (2:ℝ) ^ ((M - M') * c2) + ∑ r ∈ range k, w (n + r) * (2:ℝ) ^ ((s (n + r) - M') * c2)
      = part s w M' (n + k) := by
  rw [part, part, Finset.sum_range_add, Finset.sum_mul]
  congr 1
  refine Finset.sum_congr rfl fun j _ => ?_
  rw [mul_assoc, ← Real.rpow_add two_pos]
  ring_nf

/-- A power of two of a scaled score difference is a quotient of exponentials. -/
theorem pow_exp (a M : ℝ) : (2:ℝ) ^ ((a - M) * c2) = Real.exp (a / rt) * Real.exp (-(M / rt)) := by
  have h2 : Real.log 2 ≠ 0 := (Real.log_pos one_lt_two).ne'
  rw [← Real.exp_add, Real.rpow_def_of_pos two_pos]
  congr 1
  field_simp
  ring

theorem sum_exp_pos (s : ℕ → ℝ) {n : ℕ} (hn : 0 < n) : 0 < ∑ j ∈ range n, Real.exp (s j / rt) :=
  Finset.sum_pos (fun _ _ => Real.exp_pos _) ⟨0, by simpa using hn⟩

/-- The normaliser is positive. -/
theorem part_pos (s : ℕ → ℝ) (M : ℝ) {n : ℕ} (hn : 0 < n) : 0 < part s (fun _ => 1) M n :=
  Finset.sum_pos (fun _ _ => by simp only [one_mul]; exact Real.rpow_pos_of_pos two_pos _) ⟨0, by simpa using hn⟩

/-- What the one-pass computation ends with is the softmax-weighted mean, whatever the reference score. -/
theorem part_div (s w : ℕ → ℝ) (M : ℝ) {n : ℕ} (_hn : 0 < n) :
    part s w M n * (1 / part s (fun _ => 1) M n) = soft s w n := by
  have he := (Real.exp_pos (-(M / rt))).ne'
  simp only [part, soft, pow_exp, one_mul]
  simp only [← mul_assoc, ← Finset.sum_mul]
  rw [mul_one_div, mul_div_mul_right _ _ he]

/-- The mean with the weights normalised one by one, the largest score subtracted first. -/
theorem soft_eq (s w : ℕ → ℝ) (M : ℝ) (n : ℕ) :
    ∑ j ∈ range n, w j * (Real.exp (s j / rt - M) / ∑ i ∈ range n, Real.exp (s i / rt - M)) = soft s w n := by
  have he := (Real.exp_pos (-M)).ne'
  simp only [soft, sub_eq_add_neg, Real.exp_add, ← Finset.sum_mul]
  rw [Finset.sum_div]
  refine Finset.sum_congr rfl fun j _ => ?_
  rw [mul_div_mul_right _ _ he, mul_div_assoc]

/-- A mean of entries of size at most `B` is of size at most `B`. -/
theorem soft_le (s w : ℕ → ℝ) {n : ℕ} (hn : 0 < n) (B : ℝ) (h : ∀ j < n, |w j| ≤ B) : |soft s w n| ≤ B := by
  have hp := sum_exp_pos s hn
  rw [soft, abs_div, abs_of_pos hp, div_le_iff₀ hp, Finset.mul_sum]
  refine (Finset.abs_sum_le_sum_abs _ _).trans (Finset.sum_le_sum fun j hj => ?_)
  rw [abs_mul, abs_of_pos (Real.exp_pos _)]
  exact mul_le_mul_of_nonneg_right (h j (Finset.mem_range.1 hj)) (Real.exp_pos _).le

/-! ### Powers of two as bit patterns -/

/-- The single-precision word whose exponent field is `t` (between 1 and 254) and whose fraction is zero is `2 ^ (t − 127)`. -/
theorem ofBits_pow {t : ℕ} (h1 : 1 ≤ t) (h2 : t ≤ 254) :
    Ideal.ofBits .f32 (BitVec.ofNat 32 t <<< 23) = (((2:ℝ) ^ ((t:ℤ) - 127) : ℝ) : EReal) := by
  have hb : (BitVec.ofNat 32 t <<< 23).toNat = t * 2 ^ 23 := by
    simp only [BitVec.toNat_shiftLeft, BitVec.toNat_ofNat, Nat.shiftLeft_eq]; omega
  have hs : (BitVec.ofNat 32 t <<< 23).extractLsb' (8 + 23) 1 = 0#1 := by
    apply BitVec.eq_of_toNat_eq
    rw [BitVec.extractLsb'_toNat, hb, Nat.shiftRight_eq_div_pow]
    show _ = 0
    omega
  have he : ((BitVec.ofNat 32 t <<< 23).extractLsb' 23 8).toNat = t := by
    rw [BitVec.extractLsb'_toNat, hb, Nat.shiftRight_eq_div_pow]; omega
  have hf : ((BitVec.ofNat 32 t <<< 23).extractLsb' 0 23).toNat = 0 := by
    rw [BitVec.extractLsb'_toNat, hb, Nat.shiftRight_eq_div_pow]; omega
  have hi : ∀ b : BitVec 32, Ideal.ofBits .f32 b = Ideal.ieee 8 23 b := fun _ => rfl
  rw [hi, Ideal.ieee]
  simp only [he, hf, hs]
  rw [if_neg (by omega), if_neg (by omega), if_neg (by decide)]
  have hz := zpow_add₀ (two_ne_zero (α := ℝ)) ((t:ℤ) - 127 - 23) 23
  rw [sub_add_cancel] at hz
  have hx : (t:ℤ) - (2 ^ (8 - 1) - 1) - ((23 : ℕ) : ℤ) = (t:ℤ) - 127 - 23 := by norm_num
  rw [hz, hx]
  refine congrArg _ ?_
  rw [mul_comm (_ ^ _) (_ ^ _), one_mul]
  refine congrArg (· * _) ?_
  norm_num

/-- With the exponent field full the word is `+∞`. -/
theorem ofBits_top : Ideal.ofBits .f32 (BitVec.ofNat 32 255 <<< 23) = (⊤ : EReal) := by
  simp [Ideal.ofBits, Ideal.ieee]

/-! ### The quantiser's exponent -/

/-- The binary logarithm of `v`, rounded down. -/
def lg (v : ℝ) : ℤ := ⌊Real.log v / Real.log 2⌋

/-- `lg` compares with an integer as `v` does with the power of two. -/
theorem lt_zpow {v : ℝ} (hv : 0 < v) (k : ℤ) : v < (2:ℝ) ^ k ↔ lg v < k := by
  have h2 : 0 < Real.log 2 := Real.log_pos one_lt_two
  rw [lg, Int.floor_lt, div_lt_iff₀ h2, ← Real.log_zpow, Real.log_lt_log_iff hv (zpow_pos two_pos k)]

/-- The exponent of the quantiser's scale: the least `e ≥ −126` with `v < 2 ^ e`, and zero for `v = 0`. -/
def expo2 (v : ℝ) : ℤ := if v = 0 then 0 else max (lg v + 1) (-126)

/-- The exponent field (counted from 127) of a positive `v`, zero below the smallest normal number. -/
def field (v : ℝ) : ℕ := (lg v + 127).toNat

theorem log_lt {v : ℝ} (hv : 0 < v) (h : v < 2 ^ 126) : lg v < 126 :=
  (lt_zpow hv 126).1 (by exact_mod_cast h)

theorem expo2_range {v : ℝ} (hv : 0 ≤ v) (h : v < 2 ^ 126) : -126 ≤ expo2 v ∧ expo2 v ≤ 126 := by
  unfold expo2
  split_ifs with h0
  · omega
  · have := log_lt (lt_of_le_of_ne hv (Ne.symm h0)) h
    omega

/-- `field v` is found by comparing `v` with the words of zero fraction. -/
theorem field_spec {v : ℝ} (hv : 0 < v) (h : v < 2 ^ 126) {t : ℕ} (h1 : 1 ≤ t) (h2 : t ≤ 255) :
    (v : EReal) < Ideal.ofBits .f32 (BitVec.ofNat 32 t <<< 23) ↔ field v < t := by
  have hl := log_lt hv h
  rcases eq_or_lt_of_le h2 with rfl | h2
  · rw [ofBits_top]
    exact ⟨fun _ => by unfold field; omega, fun _ => EReal.coe_lt_top v⟩
  · rw [ofBits_pow h1 (by omega), EReal.coe_lt_coe_iff]
    rw [lt_zpow hv]; unfold field; omega

/-- One step of the search for the exponent field: the bit `p` is added to `n` unless `v` is below the power of two of
    the sum. -/
def step (v : EReal) (n p : BitVec 32) : BitVec 32 :=
  Scalar.select (FloatOps.cmpf (F := Ideal) (φ := .f32) .olt v
    (Ideal.ofBits .f32 (IntOp.shli .vector (IntOp.addi n p) 23#32))) n (IntOp.addi n p)

/-- The search, bit by bit from 128 down to 1. -/
def search (v : EReal) : BitVec 32 :=
  step v (step v (step v (step v (step v (step v (step v (step v 0#32 128#32) 64#32) 32#32) 16#32) 8#32) 4#32) 2#32) 1#32

theorem step_eq {v : ℝ} (hv : 0 < v) (h : v < 2 ^ 126) (n p : ℕ) (h1 : 1 ≤ n + p) (h2 : n + p ≤ 255) :
    step v (BitVec.ofNat 32 n) (BitVec.ofNat 32 p) = BitVec.ofNat 32 (if field v < n + p then n else n + p) := by
  have ha : IntOp.addi (BitVec.ofNat 32 n) (BitVec.ofNat 32 p) = BitVec.ofNat 32 (n + p) :=
    (BitVec.ofNat_add n p).symm
  have hs : IntOp.shli .vector (BitVec.ofNat 32 (n + p)) 23#32 = BitVec.ofNat 32 (n + p) <<< 23 := by
    unfold IntOp.shli; rw [if_pos (by decide)]; rfl
  have hc : FloatOps.cmpf (F := Ideal) (φ := .f32) .olt (v : EReal) (Ideal.ofBits .f32 (BitVec.ofNat 32 (n + p) <<< 23))
      = BitVec.ofBool (decide (field v < n + p)) := by
    rw [← decide_eq_decide.2 (field_spec hv h h1 h2)]; rfl
  rw [step, ha, hs, hc]
  by_cases hd : field v < n + p <;> simp [hd, Scalar.select]

theorem step_bit {v : ℝ} (hv : 0 < v) (h : v < 2 ^ 126) (n p : ℕ) (hn : n = field v / (2 * p) * (2 * p)) (hp : 0 < p)
    (h2 : n + p ≤ 255) :
    step v (BitVec.ofNat 32 n) (BitVec.ofNat 32 p) = BitVec.ofNat 32 (field v / p * p) := by
  rw [step_eq hv h n p (by omega) h2]
  congr 1
  have e : field v / (2 * p) = field v / p / 2 := by rw [mul_comm, Nat.div_div_eq_div_mul]
  have hd := Nat.div_add_mod (field v) p
  have hm := Nat.mod_lt (field v) hp
  have hd2 := Nat.div_add_mod (field v / p) 2
  rw [e] at hn
  rcases Nat.mod_two_eq_zero_or_one (field v / p) with h0 | h0
  · have : n = field v / p * p := by rw [hn, ← mul_assoc]; congr 1; omega
    rw [if_pos (by rw [this, mul_comm]; omega), this]
  · have : n + p = field v / p * p := by
      rw [hn, ← mul_assoc, ← Nat.succ_mul]; congr 1; omega
    rw [if_neg (by rw [this, mul_comm]; omega), this]

/-- The search finds the exponent field. -/
theorem search_eq {v : ℝ} (hv : 0 < v) (h : v < 2 ^ 126) : search v = BitVec.ofNat 32 (field v) := by
  have hl : field v < 256 := by have := log_lt hv h; unfold field; omega
  unfold search
  rw [step_bit hv h 0 128 (by omega) (by omega) (by omega),
    step_bit hv h (field v / 128 * 128) 64 (by omega) (by omega) (by omega),
    step_bit hv h (field v / 64 * 64) 32 (by omega) (by omega) (by omega),
    step_bit hv h (field v / 32 * 32) 16 (by omega) (by omega) (by omega),
    step_bit hv h (field v / 16 * 16) 8 (by omega) (by omega) (by omega),
    step_bit hv h (field v / 8 * 8) 4 (by omega) (by omega) (by omega),
    step_bit hv h (field v / 4 * 4) 2 (by omega) (by omega) (by omega),
    step_bit hv h (field v / 2 * 2) 1 (by omega) (by omega) (by omega)]
  simp

/-- The exponent as the search delivers it: zero for `v = 0`, else the field less 126. -/
theorem select_expo {v : ℝ} (hv : 0 ≤ v) (h : v < 2 ^ 126) :
    Scalar.select (BitVec.ofBool (decide ((v : EReal) = 0))) 0#32 (IntOp.subi (search v) 126#32)
      = BitVec.ofInt 32 (expo2 v) := by
  unfold expo2
  by_cases h0 : v = 0
  · simp [h0, Scalar.select]
  · have hp : 0 < v := lt_of_le_of_ne hv (Ne.symm h0)
    have hl := log_lt hp h
    rw [if_neg h0, search_eq hp h]
    have : ¬ ((v : EReal) = 0) := by simpa using h0
    simp only [this, decide_false, Scalar.select, BitVec.ofBool_false, IntOp.subi]
    apply BitVec.eq_of_toInt_eq
    unfold field
    simp [BitVec.toInt_sub, BitVec.toInt_ofNat', BitVec.toInt_ofInt]
    congr 1
    omega

/-- The word built from an exponent between −126 and 127 is that power of two. -/
theorem ofBits_expo {e : ℤ} (h1 : -126 ≤ e) (h2 : e ≤ 127) :
    Ideal.ofBits .f32 (IntOp.shli .vector (IntOp.addi (BitVec.ofInt 32 e) 127#32) 23#32) = (((2:ℝ) ^ e : ℝ) : EReal) := by
  have ha : IntOp.addi (BitVec.ofInt 32 e) 127#32 = BitVec.ofNat 32 (e + 127).toNat := by
    apply BitVec.eq_of_toInt_eq
    simp [IntOp.addi, BitVec.toInt_add, BitVec.toInt_ofNat', BitVec.toInt_ofInt]
    congr 1
    omega
  have hs : IntOp.shli .vector (BitVec.ofNat 32 (e + 127).toNat) 23#32 = BitVec.ofNat 32 (e + 127).toNat <<< 23 := by
    unfold IntOp.shli; rw [if_pos (by decide)]; rfl
  rw [ha, hs, ofBits_pow (by omega) (by omega)]
  congr 2; omega

/-- The negated exponent, as a word. -/
theorem neg_expo (e : ℤ) : IntOp.subi 0#32 (BitVec.ofInt 32 e) = BitVec.ofInt 32 (-e) := by
  simp [IntOp.subi, BitVec.ofInt_neg]

end Cert.Attn
end
-- ==== Proof.AttnSpec.lean ====
module

public import proofs.«01_k».proof.Proof.AttnMath

@[expose] public section

/-!
The results of the attention step as functions of real queries `Q`, keys `K` and values `W`. Both programs are shown
to compute these.
-/

noncomputable section
namespace Cert.Attn
open Idealize.ShloMosaic
open Finset (range)

/-- An entry per key, as a function of a natural number (zero past the last key). -/
def ext (f : Fin 6144 → ℝ) (n : ℕ) : ℝ := if h : n < 6144 then f ⟨n, h⟩ else 0

theorem ext_val (f : Fin 6144 → ℝ) (j : Fin 6144) : ext f j = f j := by simp [ext]

variable (Q : Fin 6 → Fin 512 → Fin 6144 → ℝ) (K : Fin 6 → Fin 6144 → Fin 512 → ℝ) (W : Fin 6 → Fin 512 → Fin 6144 → ℝ)

/-- The score of query `i` against key `j`, before the division by `√512`. -/
def score (b : Fin 6) (i j : Fin 6144) : ℝ := ∑ d, Q b d i * K b j d

/-- The attention output: the softmax-weighted mean of the values. -/
def att (b : Fin 6) (d : Fin 512) (i : Fin 6144) : ℝ := soft (ext (score Q K b i)) (ext (W b d)) 6144

/-- The largest absolute value of a column of the output. -/
def amax (b : Fin 6) (i : Fin 6144) : ℝ :=
  (Finset.fold max (⊥ : EReal) (fun d => ((|att Q K W b d i| : ℝ) : EReal)) Finset.univ).toReal

/-- The exponent of the column's scale. -/
def expn (b : Fin 6) (i : Fin 6144) : ℤ := expo2 (amax Q K W b i / 448)

/-- The column's scale, a power of two. -/
def scl (b : Fin 6) (i : Fin 6144) : EReal := (((2:ℝ) ^ expn Q K W b i : ℝ) : EReal)

/-- The column's codes: the output over the scale, clipped to `[−448, 448]`. -/
def code (b : Fin 6) (d : Fin 512) (i : Fin 6144) : EReal :=
  min ((448 : ℝ) : EReal) (max ((-448 : ℝ) : EReal) ((att Q K W b d i * (2:ℝ) ^ (-expn Q K W b i) : ℝ) : EReal))

/-- The projection of the dequantised output by the weights `w`, with the channels' scales `s` and biases `o`. -/
def proj (w : Fin 512 → Fin 512 → EReal) (s o : Fin 512 → EReal) (b : Fin 6) (d : Fin 512) (i : Fin 6144) : EReal :=
  (∑ x, w x d * code Q K W b x i) * scl Q K W b i * s d + o d

/-! ### Bounds -/

/-- The largest finite bf16 number, `(2 − 2⁻⁷) · 2¹²⁷`. -/
abbrev big : ℝ := 255 * 2 ^ 120

theorem amax_eq (b : Fin 6) (i : Fin 6144) :
    Finset.fold max (⊥ : EReal) (fun d => ((|att Q K W b d i| : ℝ) : EReal)) Finset.univ = (amax Q K W b i : EReal) := by
  obtain ⟨r, h, -⟩ := fold_real Finset.univ ⟨(0 : Fin 512), Finset.mem_univ _⟩ fun d => |att Q K W b d i|
  rw [amax, h, EReal.toReal_coe]

theorem amax_mem (b : Fin 6) (i : Fin 6144) : ∃ d, amax Q K W b i = |att Q K W b d i| := by
  obtain ⟨r, h, d, -, e⟩ := fold_real Finset.univ ⟨(0 : Fin 512), Finset.mem_univ _⟩ fun d => |att Q K W b d i|
  exact ⟨d, by rw [amax, h, EReal.toReal_coe, e]⟩

theorem amax_nonneg (b : Fin 6) (i : Fin 6144) : 0 ≤ amax Q K W b i := by
  obtain ⟨d, h⟩ := amax_mem Q K W b i
  rw [h]; exact abs_nonneg _

variable {W}

/-- Values of at most the largest bf16 number have outputs over 448 below `2 ^ 126`. -/
theorem amax_lt (hW : ∀ b d j, |W b d j| ≤ big) (b : Fin 6) (i : Fin 6144) : amax Q K W b i / 448 < 2 ^ 126 := by
  obtain ⟨d, h⟩ := amax_mem Q K W b i
  have : |att Q K W b d i| ≤ big := soft_le _ _ (by norm_num) _ fun j hj => by
    simpa [ext, hj] using hW b d ⟨j, hj⟩
  rw [h]
  have : |att Q K W b d i| / 448 ≤ big / 448 := by gcongr
  refine this.trans_lt ?_
  norm_num [big]

theorem amax_div_nonneg (W : Fin 6 → Fin 512 → Fin 6144 → ℝ) (b : Fin 6) (i : Fin 6144) : 0 ≤ amax Q K W b i / 448 :=
  div_nonneg (amax_nonneg Q K W b i) (by norm_num)

/-! ### Literals -/

theorem lit_512 : Ideal.ofBits .f32 0x44000000#32 = ((512 : ℝ) : EReal) := by
  simp [Ideal.ofBits, Ideal.ieee, -EReal.coe_mul]; norm_num
theorem lit_448 : Ideal.ofBits .f32 0x43E00000#32 = ((448 : ℝ) : EReal) := by
  simp [Ideal.ofBits, Ideal.ieee, -EReal.coe_mul]; norm_num
theorem lit_neg448 : Ideal.ofBits .f32 0xC3E00000#32 = ((-448 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_neg126 : Ideal.ofBits .f32 0xC2FC0000#32 = ((-126 : ℝ) : EReal) := by
  simp [Ideal.ofBits, Ideal.ieee, -EReal.coe_mul]; norm_num
theorem lit_bot : Ideal.ofBits .f32 0xFF800000#32 = (⊥ : EReal) := by
  simp [Ideal.ofBits, Ideal.ieee]
theorem lit_big : Ideal.ofBits .f32 0x7F7F0000#32 = ((big : ℝ) : EReal) := by
  simp [Ideal.ofBits, Ideal.ieee, -EReal.coe_mul]; norm_num [big]
theorem lit_start : ∃ r : ℝ, Ideal.ofBits .f32 0xF149F2CA#32 = (r : EReal) := by
  have h : ∀ b : BitVec 32, Ideal.ofBits .f32 b = Ideal.ieee 8 23 b := fun _ => rfl
  rw [h, Ideal.ieee]
  rw [if_neg (by decide), if_neg (by decide)]
  exact ⟨_, rfl⟩

end Cert.Attn
end
-- ==== Proof.AttnPay.lean ====
module

public import proofs.«01_k».proof.Proof.AttnSpec
public import proofs.«01_k».proof.Proof.AttnRun
public import Idealize.ShloMosaic.Lib.Pointwise

@[expose] public section

/-!
The attention kernel's vectors, entry by entry, over the extended reals.
-/

set_option maxRecDepth 16384

noncomputable section
namespace Cert.Attn
open Cert.AttentionIdeal Cert.AttentionIdeal.Gen Idealize.ShloMosaic Idealize.ShloMosaic.TcCoe Idealize.SL.Sem
open Finset (range)

variable (x0 : Vec Ideal S1x512x512 .bf16) (k : Vec Ideal S1x1024x512 .bf16) (v : Vec Ideal S1x512x1024 .bf16)
variable (a l : FVec Ideal S1x512 .f32) (acc o : FVec Ideal S512x512 .f32)

/-- The kernel's constant for the scores' factor. -/
theorem named_c2 : (Named.named κ "c2" (φ := .f32) 0x3D8293EE#32 : Ideal .f32) = ((c2 : ℝ) : EReal) :=
  IdealRules.named_const.ideal_named_scalar _ _ _ _ rfl

/-- The kernel's constant for the division by 448. -/
theorem named_448 : (Named.named κ "inv_448" (φ := .f32) 0x3B124925#32 : Ideal .f32) = ((1 / 448 : ℝ) : EReal) :=
  IdealRules.named_const.ideal_named_scalar _ _ _ _ rfl

theorem exp2_real (x M : ℝ) : Ideal.exp2 (((x : EReal) - (M : EReal)) * ((c2 : ℝ) : EReal))
    = (((2:ℝ) ^ ((x - M) * c2) : ℝ) : EReal) := by
  rw [← EReal.coe_sub, ← EReal.coe_mul]
  exact Ideal.exp2_coe _

/-- The new running maximum. -/
theorem pay8_at (i : Fin 512) : k0_pay8 x0 a k (ix2 0 i)
    = max (a (ix2 0 i)) (Finset.fold max (Ideal.ofBits .f32 0xFF800000#32) (fun x => ∑ d, k (ix3 0 x d) * x0 (ix3 0 d i)) Finset.univ) := by
  pointwise [k0_pay8, k0_pay7]

/-- A key's weight. -/
theorem pay10_at (j : Fin 1024) (i : Fin 512) : k0_pay10 x0 a k (ix2 j i)
    = Ideal.exp2 (((∑ x, (k (ix3 0 j x) : EReal) * x0 (ix3 0 x i)) - k0_pay8 x0 a k (ix2 0 i)) * ((c2 : ℝ) : EReal)) := by
  rw [← named_c2]
  pointwise [k0_pay10, k0_pay7]
  rfl

/-- The new running sum. -/
theorem pay11_at (i : Fin 512) : k0_pay11 x0 a l k (ix2 0 i)
    = l (ix2 0 i) * Ideal.exp2 ((a (ix2 0 i) - k0_pay8 x0 a k (ix2 0 i)) * ((c2 : ℝ) : EReal))
      + ∑ x, k0_pay10 x0 a k (ix2 x i) := by
  rw [← named_c2]
  pointwise [k0_pay11, k0_pay9]
  rfl

/-- The new accumulator. -/
theorem pay12_at (d i : Fin 512) : k0_pay12 x0 a k v acc (ix2 d i)
    = acc (ix2 d i) * Ideal.exp2 ((a (ix2 0 i) - k0_pay8 x0 a k (ix2 0 i)) * ((c2 : ℝ) : EReal))
      + ∑ x, v (ix3 0 d x) * k0_pay10 x0 a k (ix2 x i) := by
  rw [← named_c2]
  pointwise [k0_pay12, k0_pay9]
  rfl

/-- The output. -/
theorem pay13_at (d i : Fin 512) : k0_pay13 l acc (ix2 d i) = acc (ix2 d i) * Ideal.div (Ideal.ofBits .f32 0x3F800000#32) (l (ix2 0 i)) := by
  pointwise [k0_pay13]

/-- The column's largest absolute value, over 448. -/
theorem pay14_at (i : Fin 512) : k0_pay14 l acc (ix2 0 i)
    = Finset.fold max (Ideal.ofBits .f32 0xFF800000#32) (fun x => FloatOps.absf (φ := .f32) (k0_pay13 l acc (ix2 x i))) Finset.univ
      * ((1 / 448 : ℝ) : EReal) := by
  rw [← named_448]
  pointwise [k0_pay14]

/-- One step of the exponent's search, on a row. -/
def stepRow (a : FVec Ideal S1x512 .f32) (n p : IVec S1x512 32) : IVec S1x512 32 :=
  select (cmpf .olt a (bitcastToFloat .f32 (shli (addi n p) (broadcast S1x512 23#32)))) n (addi n p)

theorem stepRow_at (n : IVec S1x512 32) (p : BitVec 32) (i : Fin 512) :
    stepRow a n (broadcast S1x512 p) (ix2 0 i) = step (a (ix2 0 i)) (n (ix2 0 i)) p := rfl

theorem pay15_row : k0_pay15 l acc = stepRow (k0_pay14 l acc) (stepRow (k0_pay14 l acc) (broadcast S1x512 0#32)
    (broadcast S1x512 128#32)) (broadcast S1x512 64#32) := rfl

theorem pay16_row (n : IVec S1x512 32) : k0_pay16 a n = subi (stepRow a (stepRow a (stepRow a (stepRow a (stepRow a (stepRow a n
    (broadcast S1x512 32#32)) (broadcast S1x512 16#32)) (broadcast S1x512 8#32)) (broadcast S1x512 4#32)) (broadcast S1x512 2#32))
    (broadcast S1x512 1#32)) (broadcast S1x512 126#32) := rfl

/-- The exponent found by the search. -/
theorem pay16_at (i : Fin 512) : k0_pay16 (k0_pay14 l acc) (k0_pay15 l acc) (ix2 0 i)
    = IntOp.subi (search (k0_pay14 l acc (ix2 0 i))) 126#32 := by
  rw [pay16_row, pay15_row]
  generalize k0_pay14 l acc = v
  have h : ∀ x y : IVec S1x512 32, subi x y (ix2 0 i) = IntOp.subi (x (ix2 0 i)) (y (ix2 0 i)) := fun _ _ => rfl
  rw [h]
  simp only [stepRow_at]
  rfl

theorem pay17_at (i : Fin 512) : k0_pay17 a (ix2 0 i) = BitVec.ofBool (decide (a (ix2 0 i) = (0 : EReal))) := by
  pointwise [k0_pay17]

variable (e : IVec S1x512 32) (z : IVec S1x512 1)

/-- The scale. -/
theorem pay20_at (i : Fin 512) : k0_pay20 (F := Ideal) e z (ix2 0 i)
    = Ideal.ofBits .f32 (IntOp.shli .vector (IntOp.addi (Scalar.select (z (ix2 0 i)) 0#32 (e (ix2 0 i))) 127#32) 23#32) := by
  pointwise [k0_pay20, k0_pay18]

/-- The codes. -/
theorem pay21_at (d i : Fin 512) : k0_pay21 o e z (ix3 0 d i)
    = min (Ideal.ofBits .f32 0x43E00000#32) (max (Ideal.ofBits .f32 0xC3E00000#32) (o (ix2 d i)
      * Ideal.ofBits .f32 (IntOp.shli .vector (IntOp.addi (IntOp.subi 0#32 (Scalar.select (z (ix2 0 i)) 0#32 (e (ix2 0 i)))) 127#32) 23#32))) := by
  pointwise [k0_pay21, k0_pay19, k0_pay18]

theorem pay19_at (d i : Fin 512) : k0_pay19 o e z (ix2 d i) = k0_pay21 o e z (ix3 0 d i) := by
  pointwise [k0_pay21]

variable (x4 : Vec Ideal S512x512 .fp8e4m3) (x5 x6 : Vec Ideal S512x1 .f32) (x3 : Vec Ideal S1x512x512 .bf16)

/-- The projection. -/
theorem pay2_at (d i : Fin 512) : k0_pay2 (k0_pay22 o e z x4 x5) (k0_pay23 x6) (ix3 0 d i)
    = (∑ x, x4 (ix2 x d) * k0_pay19 o e z (ix2 x i)) * k0_pay20 (F := Ideal) e z (ix2 0 i) * x5 (ix2 d 0) + x6 (ix2 d 0) := by
  pointwise [k0_pay2, k0_pay1, k0_pay22, k0_pay23]

/-- The residual sum. -/
theorem pay3_at (d i : Fin 512) : k0_pay3 (k0_pay22 o e z x4 x5) (k0_pay23 x6) x3 (ix3 0 d i)
    = x3 (ix3 0 d i) + ((∑ x, x4 (ix2 x d) * k0_pay19 o e z (ix2 x i)) * k0_pay20 (F := Ideal) e z (ix2 0 i) * x5 (ix2 d 0) + x6 (ix2 d 0)) := by
  pointwise [k0_pay3, k0_pay1, k0_pay22, k0_pay23]

end Cert.Attn
end
-- ==== Proof.AttnKernel.lean ====
module

public import proofs.«01_k».proof.Proof.AttnPay

@[expose] public section

/-!
What the attention kernel computes from a block of real queries and a batch of real keys and values.
-/

set_option maxRecDepth 16384

noncomputable section
namespace Cert.Attn
open Cert.AttentionIdeal Cert.AttentionIdeal.Gen Idealize.ShloMosaic Idealize.ShloMosaic.TcCoe Idealize.SL.Sem
open Finset (range)

/-! ### The chunks of the keys and values -/

theorem off1 : ∀ k : Fin k0_t1_loop.trips, k0_off1 k = ![0, 1024 * k.val, 0] := by decide +kernel
theorem off2 : ∀ k : Fin k0_t1_loop.trips, k0_off2 k = ![0, 0, 1024 * k.val] := by decide +kernel
theorem trips : k0_t1_loop.trips = 6 := by decide +kernel

/-- Key `r` of chunk `k`. -/
def key (k : Fin k0_t1_loop.trips) (r : Fin 1024) : Fin 6144 :=
  ⟨1024 * k.val + r.val, by have := k.isLt.trans_eq trips; have := r.isLt; omega⟩

theorem keys_at (x1 : Vec Ideal S1x6144x512 .bf16) (k : Fin k0_t1_loop.trips) (r : Fin 1024) (d : Fin 512) :
    keys x1 k (ix3 0 r d) = x1 (ix3 0 (key k r) d) := by
  unfold keys
  refine congrArg x1 (funext fun n => Fin.ext ?_)
  have h := off1 k
  match n with
  | 0 => show k0_off1 k 0 + 1 * 0 = 0; rw [h]; rfl
  | 1 => show k0_off1 k 1 + 1 * r.val = 1024 * k.val + r.val; rw [h, one_mul]; rfl
  | 2 => show k0_off1 k 2 + 1 * d.val = d.val; rw [h, one_mul]; exact Nat.zero_add _

theorem vals_at (x2 : Vec Ideal S1x512x6144 .bf16) (k : Fin k0_t1_loop.trips) (d : Fin 512) (r : Fin 1024) :
    vals x2 k (ix3 0 d r) = x2 (ix3 0 d (key k r)) := by
  unfold vals
  refine congrArg x2 (funext fun n => Fin.ext ?_)
  have h := off2 k
  match n with
  | 0 => show k0_off2 k 0 + 1 * 0 = 0; rw [h]; rfl
  | 1 => show k0_off2 k 1 + 1 * d.val = d.val; rw [h, one_mul]; exact Nat.zero_add _
  | 2 => show k0_off2 k 2 + 1 * r.val = 1024 * k.val + r.val; rw [h, one_mul]; rfl

/-! ### The recursion over the chunks -/

variable {Q : Fin 6 → Fin 512 → Fin 6144 → ℝ} {K : Fin 6 → Fin 6144 → Fin 512 → ℝ} {W : Fin 6 → Fin 512 → Fin 6144 → ℝ}
variable {b : Fin 6} {I : Fin 512 → Fin 6144}
variable {x0 : Vec Ideal S1x512x512 .bf16} {x1 : Vec Ideal S1x6144x512 .bf16} {x2 : Vec Ideal S1x512x6144 .bf16}

/-- A chunk's score. -/
theorem chunk_score (h0 : ∀ d i, x0 (ix3 0 d i) = (Q b d (I i) : EReal)) (h1 : ∀ j d, x1 (ix3 0 j d) = (K b j d : EReal))
    (k : Fin k0_t1_loop.trips) (r : Fin 1024) (i : Fin 512) :
    ∑ d, (keys x1 k (ix3 0 r d) : EReal) * x0 (ix3 0 d i) = ((ext (score Q K b (I i)) (1024 * k.val + r.val) : ℝ) : EReal) := by
  rw [show 1024 * k.val + r.val = (key k r).val from rfl, ext_val, score, ← coe_sum]
  refine Finset.sum_congr rfl fun d _ => ?_
  rw [keys_at, h0, h1, ← EReal.coe_mul, mul_comm]

/-- Before chunk `n`: some real maximum, and the partial sums over the keys so far, taken at that maximum. -/
def Inv (Q : Fin 6 → Fin 512 → Fin 6144 → ℝ) (K : Fin 6 → Fin 6144 → Fin 512 → ℝ) (W : Fin 6 → Fin 512 → Fin 6144 → ℝ)
    (b : Fin 6) (I : Fin 512 → Fin 6144) (n : ℕ) (s : (FVec Ideal S1x512 .f32 × FVec Ideal S1x512 .f32) × FVec Ideal S512x512 .f32) : Prop :=
  ∃ M : Fin 512 → ℝ, (∀ i, s.1.1 (ix2 0 i) = ((M i : ℝ) : EReal))
    ∧ (∀ i, s.1.2 (ix2 0 i) = ((part (ext (score Q K b (I i))) (fun _ => 1) (M i) (1024 * n) : ℝ) : EReal))
    ∧ ∀ d i, s.2 (ix2 d i) = ((part (ext (score Q K b (I i))) (ext (W b d)) (M i) (1024 * n) : ℝ) : EReal)

theorem inv_zero : Inv Q K W b I 0 (st x0 x1 x2 0) := by
  obtain ⟨r, hr⟩ := lit_start
  refine ⟨fun _ => r, fun i => hr, fun i => ?_, fun d i => ?_⟩
  · have : (st x0 x1 x2 0).1.2 (ix2 0 i) = Ideal.ofBits .f32 0x00000000#32 := rfl
    rw [this]; simp [part]
  · have : (st x0 x1 x2 0).2 (ix2 d i) = Ideal.ofBits .f32 0x00000000#32 := rfl
    rw [this]; simp [part]

theorem inv_step (h0 : ∀ d i, x0 (ix3 0 d i) = (Q b d (I i) : EReal)) (h1 : ∀ j d, x1 (ix3 0 j d) = (K b j d : EReal))
    (h2 : ∀ d j, x2 (ix3 0 d j) = (W b d j : EReal)) (k : Fin k0_t1_loop.trips)
    (h : Inv Q K W b I k.val (st x0 x1 x2 k.val)) : Inv Q K W b I (k.val + 1) (st x0 x1 x2 (k.val + 1)) := by
  rw [st_succ]
  generalize st x0 x1 x2 k.val = s at h ⊢
  obtain ⟨M, hM, hl, ha⟩ := h
  have hs := chunk_score h0 h1 k
  have hmax : ∀ i, ∃ M' : ℝ, k0_pay8 x0 s.1.1 (keys x1 k) (ix2 0 i) = (M' : EReal) := fun i => by
    obtain ⟨r, hr, -⟩ := fold_real Finset.univ ⟨(0 : Fin 1024), Finset.mem_univ _⟩ fun r => ext (score Q K b (I i)) (1024 * k.val + r.val)
    refine ⟨max (M i) r, ?_⟩
    rw [pay8_at, hM, lit_bot]
    simp only [hs, hr]
    exact (EReal.coe_strictMono.monotone.map_max).symm
  choose M' hM' using hmax
  have hw : ∀ r i, k0_pay10 x0 s.1.1 (keys x1 k) (ix2 r i)
      = (((2:ℝ) ^ ((ext (score Q K b (I i)) (1024 * k.val + r.val) - M' i) * c2) : ℝ) : EReal) := fun r i => by
    rw [pay10_at, hs, hM', exp2_real]
  have hn : 1024 * (k.val + 1) = 1024 * k.val + 1024 := by ring
  refine ⟨M', hM', fun i => ?_, fun d i => ?_⟩
  · show k0_pay11 x0 s.1.1 s.1.2 (keys x1 k) (ix2 0 i) = _
    rw [pay11_at, hl, hM, hM', exp2_real, ← EReal.coe_mul]
    simp only [hw]
    rw [coe_sum, ← EReal.coe_add, hn, ← part_add (M := M i), Finset.sum_range]
    simp only [one_mul]
  · show k0_pay12 x0 s.1.1 (keys x1 k) (vals x2 k) s.2 (ix2 d i) = _
    rw [pay12_at, ha, hM, hM', exp2_real, ← EReal.coe_mul]
    have hv : ∀ r, (vals x2 k (ix3 0 d r) : EReal) = ((ext (W b d) (1024 * k.val + r.val) : ℝ) : EReal) := fun r => by
      rw [vals_at, h2, show 1024 * k.val + r.val = (key k r).val from rfl, ext_val]
    simp only [hw, hv, ← EReal.coe_mul]
    rw [coe_sum, ← EReal.coe_add, hn, ← part_add (M := M i), Finset.sum_range]

theorem inv_all (h0 : ∀ d i, x0 (ix3 0 d i) = (Q b d (I i) : EReal)) (h1 : ∀ j d, x1 (ix3 0 j d) = (K b j d : EReal))
    (h2 : ∀ d j, x2 (ix3 0 d j) = (W b d j : EReal)) : ∀ n ≤ k0_t1_loop.trips, Inv Q K W b I n (st x0 x1 x2 n)
  | 0, _ => inv_zero
  | n + 1, hn => inv_step h0 h1 h2 ⟨n, hn⟩ (inv_all h0 h1 h2 n (Nat.le_of_succ_le hn))

/-! ### The output, its scale and its codes -/

/-- The output block. -/
theorem outO_at (h0 : ∀ d i, x0 (ix3 0 d i) = (Q b d (I i) : EReal)) (h1 : ∀ j d, x1 (ix3 0 j d) = (K b j d : EReal))
    (h2 : ∀ d j, x2 (ix3 0 d j) = (W b d j : EReal)) (d i : Fin 512) :
    outO x0 x1 x2 (ix2 d i) = ((att Q K W b d (I i) : ℝ) : EReal) := by
  obtain ⟨M, -, hl, ha⟩ := inv_all (I := I) h0 h1 h2 _ le_rfl
  have hn : 1024 * k0_t1_loop.trips = 6144 := by rw [trips]
  rw [hn] at hl ha
  have hp := part_pos (ext (score Q K b (I i))) (M i) (n := 6144) (by norm_num)
  have e1 : Ideal.ofBits .f32 0x3F800000#32 = ((1 : ℝ) : EReal) := by norm_num
  unfold outO
  rw [pay13_at, fin_l, fin_acc, hl, ha, Ideal.div_coe hp.ne', e1, ← EReal.coe_mul, ← EReal.coe_mul, one_mul, part_div _ _ _ (by norm_num), att]

/-- The column's largest absolute value, over 448. -/
theorem vMax_at (h0 : ∀ d i, x0 (ix3 0 d i) = (Q b d (I i) : EReal)) (h1 : ∀ j d, x1 (ix3 0 j d) = (K b j d : EReal))
    (h2 : ∀ d j, x2 (ix3 0 d j) = (W b d j : EReal)) (i : Fin 512) :
    vMax x0 x1 x2 (ix2 0 i) = ((amax Q K W b (I i) / 448 : ℝ) : EReal) := by
  have h : ∀ d, k0_pay13 (fin_l x0 x1 x2) (fin_acc x0 x1 x2) (ix2 d i) = ((att Q K W b d (I i) : ℝ) : EReal) :=
    fun d => outO_at h0 h1 h2 d i
  unfold vMax
  rw [pay14_at, lit_bot]
  simp only [h, Ideal.absf_def, abs_real]
  rw [amax_eq, ← EReal.coe_mul, mul_one_div]

/-- The exponent chosen for the column. -/
theorem expo_at (hW : ∀ b d j, |W b d j| ≤ big) (h0 : ∀ d i, x0 (ix3 0 d i) = (Q b d (I i) : EReal)) (h1 : ∀ j d, x1 (ix3 0 j d) = (K b j d : EReal))
    (h2 : ∀ d j, x2 (ix3 0 d j) = (W b d j : EReal)) (i : Fin 512) :
    Scalar.select (isZ x0 x1 x2 (ix2 0 i)) 0#32 (expo x0 x1 x2 (ix2 0 i)) = BitVec.ofInt 32 (expn Q K W b (I i)) := by
  have h := vMax_at h0 h1 h2 i
  unfold isZ expo
  rw [pay17_at, show vMax x0 x1 x2 = k0_pay14 (fin_l x0 x1 x2) (fin_acc x0 x1 x2) from rfl, pay16_at,
    ← show vMax x0 x1 x2 = k0_pay14 (fin_l x0 x1 x2) (fin_acc x0 x1 x2) from rfl, h]
  exact select_expo (amax_div_nonneg Q K W b (I i)) (amax_lt Q K hW b (I i))

/-- The scale. -/
theorem outS_at (hW : ∀ b d j, |W b d j| ≤ big) (h0 : ∀ d i, x0 (ix3 0 d i) = (Q b d (I i) : EReal)) (h1 : ∀ j d, x1 (ix3 0 j d) = (K b j d : EReal))
    (h2 : ∀ d j, x2 (ix3 0 d j) = (W b d j : EReal)) (i : Fin 512) : outS x0 x1 x2 (ix2 0 i) = scl Q K W b (I i) := by
  have hr : -126 ≤ expn Q K W b (I i) ∧ expn Q K W b (I i) ≤ 126 := expo2_range (amax_div_nonneg Q K W b (I i)) (amax_lt Q K hW b (I i))
  unfold outS
  rw [pay20_at, expo_at hW h0 h1 h2, ofBits_expo hr.1 (by omega), scl]

/-- The codes. -/
theorem outC_at (hW : ∀ b d j, |W b d j| ≤ big) (h0 : ∀ d i, x0 (ix3 0 d i) = (Q b d (I i) : EReal)) (h1 : ∀ j d, x1 (ix3 0 j d) = (K b j d : EReal))
    (h2 : ∀ d j, x2 (ix3 0 d j) = (W b d j : EReal)) (d i : Fin 512) : outC x0 x1 x2 (ix3 0 d i) = code Q K W b d (I i) := by
  have hr : -126 ≤ expn Q K W b (I i) ∧ expn Q K W b (I i) ≤ 126 := expo2_range (amax_div_nonneg Q K W b (I i)) (amax_lt Q K hW b (I i))
  unfold outC
  rw [pay21_at, expo_at hW h0 h1 h2, neg_expo, ofBits_expo (by omega) (by omega), outO_at h0 h1 h2,
    lit_448, lit_neg448, ← EReal.coe_mul, code]

/-! ### The projection and the residual -/

variable {x4 : Vec Ideal S512x512 .fp8e4m3} {x5 x6 : Vec Ideal S512x1 .f32} {x3 : Vec Ideal S1x512x512 .bf16}

/-- The projection's block. -/
theorem outP_at (hW : ∀ b d j, |W b d j| ≤ big) (h0 : ∀ d i, x0 (ix3 0 d i) = (Q b d (I i) : EReal)) (h1 : ∀ j d, x1 (ix3 0 j d) = (K b j d : EReal))
    (h2 : ∀ d j, x2 (ix3 0 d j) = (W b d j : EReal)) (d i : Fin 512) :
    outP x0 x1 x2 x4 x5 x6 (ix3 0 d i)
      = proj Q K W (fun x d => x4 (ix2 x d)) (fun d => x5 (ix2 d 0)) (fun d => x6 (ix2 d 0)) b d (I i) := by
  have hs := outS_at hW h0 h1 h2 i
  have hc := fun x => outC_at hW h0 h1 h2 x i
  unfold outS at hs
  unfold outC at hc
  unfold outP outW
  rw [pay2_at, hs, proj]
  simp only [pay19_at, hc]

/-- The result's block. -/
theorem outY_at (hW : ∀ b d j, |W b d j| ≤ big) (h0 : ∀ d i, x0 (ix3 0 d i) = (Q b d (I i) : EReal)) (h1 : ∀ j d, x1 (ix3 0 j d) = (K b j d : EReal))
    (h2 : ∀ d j, x2 (ix3 0 d j) = (W b d j : EReal)) (d i : Fin 512) :
    outY x0 x1 x2 x3 x4 x5 x6 (ix3 0 d i)
      = x3 (ix3 0 d i) + proj Q K W (fun x d => x4 (ix2 x d)) (fun d => x5 (ix2 d 0)) (fun d => x6 (ix2 d 0)) b d (I i) := by
  have hs := outS_at hW h0 h1 h2 i
  have hc := fun x => outC_at hW h0 h1 h2 x i
  unfold outS at hs
  unfold outC at hc
  unfold outY outW
  rw [pay3_at, hs, proj]
  simp only [pay19_at, hc]

end Cert.Attn
end
-- ==== Proof.AttnPre.lean ====
module

public import proofs.«01_k».proof.Proof.AttnSpec
public import proofs.«01_k».proof.Proof.Gen.Pre_finite_qkv
public import Idealize.ShloMosaic.Lib.Pointwise

@[expose] public section

/-!
The precondition on queries, keys and values: each entry is a real of at most the largest finite bf16 number.
-/

set_option maxRecDepth 16384

noncomputable section
namespace Cert.Attn
open Cert.Pre_finite_qkv Cert.Pre_finite_qkv.Gen Idealize.ShloMosaic Idealize.ShloMosaic.TcCoe Idealize.SL.Sem

theorem real_of_le {x : EReal} {M : ℝ} (h : BitVec.ofBool (decide (max x (-x) ≤ (M : EReal))) = 1#1) : ∃ r : ℝ, x = (r : EReal) ∧ |r| ≤ M := by
  have h' : max x (-x) ≤ (M : EReal) := by
    by_contra hn
    rw [decide_eq_false hn] at h
    exact absurd h (by decide)
  induction x using EReal.rec with
  | bot => exact absurd h' (by simp)
  | top => exact absurd h' (by simp)
  | coe r => exact ⟨r, rfl, by rw [abs_real] at h'; exact_mod_cast h'⟩

theorem wide_real {x : FVec Ideal S6x512x6144 .bf16}
    (h : cmpf .ole (Host.absf ((extf .f32 · bitsLt_bf16_f32) x)) (broadcastInDim S6x512x6144 ![] bcast_S_S6x512x6144 (constant S_ .f32 0x7F7F0000#32 : FVec Ideal S_ .f32)) = fun _ => 1#1)
    (b : Fin 6) (d : Fin 512) (i : Fin 6144) : ∃ r : ℝ, x (ix3 b d i) = (r : EReal) ∧ |r| ≤ big := by
  have h := congrFun h (ix3 b d i)
  apply real_of_le
  rw [← lit_big, ← h]
  pointwise
  rfl

theorem tall_real {x : FVec Ideal S6x6144x512 .bf16}
    (h : cmpf .ole (Host.absf ((extf .f32 · bitsLt_bf16_f32) x)) (broadcastInDim S6x6144x512 ![] bcast_S_S6x6144x512 (constant S_ .f32 0x7F7F0000#32 : FVec Ideal S_ .f32)) = fun _ => 1#1)
    (b : Fin 6) (i : Fin 6144) (d : Fin 512) : ∃ r : ℝ, x (ix3 b i d) = (r : EReal) ∧ |r| ≤ big := by
  have h := congrFun h (ix3 b i d)
  apply real_of_le
  rw [← lit_big, ← h]
  pointwise
  rfl

/-- Under the precondition the queries, keys and values are arrays of reals, the values bounded. -/
theorem reals {q v x : FVec Ideal S6x512x6144 .bf16} {k : FVec Ideal S6x6144x512 .bf16} {w : FVec Ideal S512x512 .fp8e4m3} {s o : FVec Ideal S512 .f32}
    (h0 : (Cert.Pre_finite_qkv.fn (F := Ideal) q k v x w s o).1 = fun _ => 1#1)
    (h1 : (Cert.Pre_finite_qkv.fn (F := Ideal) q k v x w s o).2.1 = fun _ => 1#1)
    (h2 : (Cert.Pre_finite_qkv.fn (F := Ideal) q k v x w s o).2.2 = fun _ => 1#1) :
    ∃ (Q : Fin 6 → Fin 512 → Fin 6144 → ℝ) (K : Fin 6 → Fin 6144 → Fin 512 → ℝ) (W : Fin 6 → Fin 512 → Fin 6144 → ℝ),
      (∀ b d i, q (ix3 b d i) = (Q b d i : EReal)) ∧ (∀ b j d, k (ix3 b j d) = (K b j d : EReal)) ∧ (∀ b d j, v (ix3 b d j) = (W b d j : EReal))
      ∧ ∀ b d j, |W b d j| ≤ big := by
  choose Q hQ _ using wide_real h0
  choose K hK _ using tall_real h1
  choose W hW hB using wide_real h2
  exact ⟨Q, K, W, hQ, hK, hW, hB⟩

end Cert.Attn
end
-- ==== Proof.AttnHost.lean ====
module
public import proofs.«01_k».proof.Proof.Gen.AttentionRefIdeal.Value
public import Idealize.ShloMosaic.Lib.Claim
@[expose] public section
set_option maxRecDepth 16384
/-!
What the reference's host operations compute before its last call: one equation for each quantity of interest, over the
quantities that it is computed from. Any float instance.
-/

noncomputable section
namespace Cert.Attn.Ref
open Cert.AttentionRefIdeal Cert.AttentionRefIdeal.Gen Idealize.ShloMosaic Idealize.ShloMosaic.TcCoe Idealize.SL.Sem
variable {F : FTy → Type} [FloatOps F] (m : (ℓ : Loc nD τ sig) → Buf (Elt F) ℓ) (c : Dev nD)

/-- The scores: query `i` against key `j`. -/
theorem v0_eq : (V m c main_v0 : FVec F S6x6144x6144 .f32) = Host.dotGeneral dot_S6x512x6144_S6x6144x512_S6x6144x6144_1_2_2_1_0_0 none (V m c main_arg0 : FVec F S6x512x6144 .bf16) (V m c main_arg1 : FVec F S6x6144x512 .bf16) := by
  simp only [V, hostOps0, hostOps0_1, hostOps0_2, hostOps0_3, List.flatten_cons, List.flatten_nil, List.append_nil,
    List.cons_append, List.nil_append]
  entry_read
  rfl

/-- … divided by `√512`. -/
theorem v3_eq : (V m c main_v3 : FVec F S6x6144x6144 .f32) = Host.divf (V m c main_v0 : FVec F S6x6144x6144 .f32) (broadcastInDim S6x6144x6144 ![] bcast_S_S6x6144x6144 (Host.sqrt (constant S_ .f32 0x44000000#32 : FVec F S_ .f32))) := by
  simp only [V, hostOps0, hostOps0_1, hostOps0_2, hostOps0_3, List.flatten_cons, List.flatten_nil, List.append_nil,
    List.cons_append, List.nil_append]
  entry_read
  rfl

/-- Each query's largest score. -/
theorem v6_eq : (V m c main_v6 : FVec F S6x6144 .f32) = maximumf (broadcastInDim S6x6144 ![] bcast_S_S6x6144 (constant S_ .f32 0xFF800000#32 : FVec F S_ .f32)) (Host.reduce FloatOps.maximumf (V m c main_v3 : FVec F S6x6144x6144 .f32) (constant S_ .f32 0xFF800000#32 : FVec F S_ .f32) reducesTo_S6x6144x6144_S6x6144_d2 h_S_) := by
  simp only [V, hostOps0, hostOps0_1, hostOps0_2, hostOps0_3, List.flatten_cons, List.flatten_nil, List.append_nil,
    List.cons_append, List.nil_append]
  entry_read
  rfl

/-- The exponentials of the scores less the largest. -/
theorem v10_eq : (V m c main_v10 : FVec F S6x6144x6144 .f32) = Host.exp (subf (V m c main_v3 : FVec F S6x6144x6144 .f32) (broadcastInDim S6x6144x6144 ![0, 1, 2] bcast_S6x6144x1_S6x6144x6144_0_1_2 (broadcastInDim S6x6144x1 ![0, 1] bcast_S6x6144_S6x6144x1_0_1 (V m c main_v6 : FVec F S6x6144 .f32)))) := by
  simp only [V, hostOps0, hostOps0_1, hostOps0_2, hostOps0_3, List.flatten_cons, List.flatten_nil, List.append_nil,
    List.cons_append, List.nil_append]
  entry_read
  rfl

/-- Their sum. -/
theorem v11_eq : (V m c main_v11 : FVec F S6x6144 .f32) = Host.reduceAdd (V m c main_v10 : FVec F S6x6144x6144 .f32) (constant S_ .f32 0x00000000#32 : FVec F S_ .f32) reducesTo_S6x6144x6144_S6x6144_d2 h_S_ := by
  simp only [V, hostOps0, hostOps0_1, hostOps0_2, hostOps0_3, List.flatten_cons, List.flatten_nil, List.append_nil,
    List.cons_append, List.nil_append]
  entry_read
  rfl

/-- The softmax weights. -/
theorem v15_eq : (V m c main_v15 : FVec F S6x6144x6144 .bf16) = (truncf .bf16 · bitsLt_bf16_f32) (Host.divf (V m c main_v10 : FVec F S6x6144x6144 .f32) (broadcastInDim S6x6144x6144 ![0, 1, 2] bcast_S6x6144x1_S6x6144x6144_0_1_2 (broadcastInDim S6x6144x1 ![0, 1] bcast_S6x6144_S6x6144x1_0_1 (V m c main_v11 : FVec F S6x6144 .f32)))) := by
  simp only [V, hostOps0, hostOps0_1, hostOps0_2, hostOps0_3, List.flatten_cons, List.flatten_nil, List.append_nil,
    List.cons_append, List.nil_append]
  entry_read
  rfl

/-- The weighted sums of the values. -/
theorem v16_eq : (V m c main_v16 : FVec F S6x512x6144 .f32) = Host.dotGeneral dot_S6x512x6144_S6x6144x6144_S6x512x6144_2_2_1_1_0_0 none (V m c main_arg2 : FVec F S6x512x6144 .bf16) (V m c main_v15 : FVec F S6x6144x6144 .bf16) := by
  simp only [V, hostOps0, hostOps0_1, hostOps0_2, hostOps0_3, List.flatten_cons, List.flatten_nil, List.append_nil,
    List.cons_append, List.nil_append]
  entry_read
  rfl

/-- The largest absolute value of each column. -/
theorem v18_eq : (V m c main_v18 : FVec F S6x6144 .f32) = Host.reduce FloatOps.maximumf (Host.absf (V m c main_v16 : FVec F S6x512x6144 .f32)) (constant S_ .f32 0xFF800000#32 : FVec F S_ .f32) reducesTo_S6x512x6144_S6x6144_d1 h_S_ := by
  simp only [V, hostOps0, hostOps0_1, hostOps0_2, hostOps0_3, List.flatten_cons, List.flatten_nil, List.append_nil,
    List.cons_append, List.nil_append]
  entry_read
  rfl

/-- The exponent before clamping. -/
theorem v27_eq : (V m c main_v27 : FVec F S6x6144 .f32) = addf (Host.floor (Host.divf (Host.log (Host.divf (V m c main_v18 : FVec F S6x6144 .f32) (broadcastInDim S6x6144 ![] bcast_S_S6x6144 (constant S_ .f32 0x43E00000#32 : FVec F S_ .f32)))) (broadcastInDim S6x6144 ![] bcast_S_S6x6144 (Host.log (constant S_ .f32 0x40000000#32 : FVec F S_ .f32))))) (broadcastInDim S6x6144 ![] bcast_S_S6x6144 (constant S_ .f32 0x3F800000#32 : FVec F S_ .f32)) := by
  simp only [V, hostOps0, hostOps0_1, hostOps0_2, hostOps0_3, List.flatten_cons, List.flatten_nil, List.append_nil,
    List.cons_append, List.nil_append]
  entry_read
  rfl

/-- The exponent of the scale. -/
theorem v32_eq : (V m c main_v32 : FVec F S6x6144 .f32) = select (cmpf .oeq (V m c main_v18 : FVec F S6x6144 .f32) (broadcastInDim S6x6144 ![] bcast_S_S6x6144 (constant S_ .f32 0x00000000#32 : FVec F S_ .f32))) (broadcastInDim S6x6144 ![] bcast_S_S6x6144 (constant S_ .f32 0x00000000#32 : FVec F S_ .f32)) (maximumf (V m c main_v27 : FVec F S6x6144 .f32) (broadcastInDim S6x6144 ![] bcast_S_S6x6144 (constant S_ .f32 0xC2FC0000#32 : FVec F S_ .f32))) := by
  simp only [V, hostOps0, hostOps0_1, hostOps0_2, hostOps0_3, List.flatten_cons, List.flatten_nil, List.append_nil,
    List.cons_append, List.nil_append]
  entry_read
  rfl

/-- The scale. -/
theorem v34_eq : (V m c main_v34 : FVec F S6x6144 .f32) = Host.powf (broadcastInDim S6x6144 ![] bcast_S_S6x6144 (constant S_ .f32 0x40000000#32 : FVec F S_ .f32)) (V m c main_v32 : FVec F S6x6144 .f32) := by
  simp only [V, hostOps0, hostOps0_1, hostOps0_2, hostOps0_3, List.flatten_cons, List.flatten_nil, List.append_nil,
    List.cons_append, List.nil_append]
  entry_read
  rfl

/-- The values over the scale, clipped to the range of the codes. -/
theorem v41_eq : (V m c main_v41 : FVec F S6x512x6144 .f32) = minimumf (broadcastInDim S6x512x6144 ![] bcast_S_S6x512x6144 (constant S_ .f32 0x43E00000#32 : FVec F S_ .f32)) (maximumf (broadcastInDim S6x512x6144 ![] bcast_S_S6x512x6144 (constant S_ .f32 0xC3E00000#32 : FVec F S_ .f32)) (mulf (V m c main_v16 : FVec F S6x512x6144 .f32) (broadcastInDim S6x512x6144 ![0, 1, 2] bcast_S6x1x6144_S6x512x6144_0_1_2 (broadcastInDim S6x1x6144 ![0, 2] bcast_S6x6144_S6x1x6144_0_2 (Host.powf (broadcastInDim S6x6144 ![] bcast_S_S6x6144 (constant S_ .f32 0x40000000#32 : FVec F S_ .f32)) (Host.negf (V m c main_v32 : FVec F S6x6144 .f32))))))) := by
  simp only [V, hostOps0, hostOps0_1, hostOps0_2, hostOps0_3, List.flatten_cons, List.flatten_nil, List.append_nil,
    List.cons_append, List.nil_append]
  entry_read
  rfl

end Cert.Attn.Ref
end
-- ==== Proof.AttnRef.lean ====
module

public import proofs.«01_k».proof.Proof.AttnSpec
public import proofs.«01_k».proof.Proof.Gen.AttentionRefIdeal
public import Idealize.ShloMosaic.Lib.Pointwise

@[expose] public section

/-!
The reference's host operations on real queries, keys and values: from the scores to the scale and the clipped quotients.
-/

set_option maxRecDepth 16384

noncomputable section
namespace Cert.Attn.Ref
open Cert.AttentionRefIdeal Cert.AttentionRefIdeal.Gen Idealize.ShloMosaic Idealize.ShloMosaic.TcCoe Idealize.SL.Sem
open Finset (range)

variable {Q : Fin 6 → Fin 512 → Fin 6144 → ℝ} {K : Fin 6 → Fin 6144 → Fin 512 → ℝ} {W : Fin 6 → Fin 512 → Fin 6144 → ℝ}
variable {x0 x2 v16 v41 : FVec Ideal S6x512x6144 .f32} {q v : FVec Ideal S6x512x6144 .bf16} {k : FVec Ideal S6x6144x512 .bf16}
variable {v0 v3 v10 : FVec Ideal S6x6144x6144 .f32} {v15 : FVec Ideal S6x6144x6144 .bf16}
variable {v6 v11 v18 v27 v32 v34 : FVec Ideal S6x6144 .f32}

theorem div_real (a r : ℝ) (h : r ≠ 0) : Ideal.div (a : EReal) (r : EReal) = ((a / r : ℝ) : EReal) := by
  rw [Ideal.div_coe h, ← EReal.coe_mul, mul_one_div]

/-- The scores, divided by `√512`. -/
theorem scores (hq : ∀ b d i, q (ix3 b d i) = (Q b d i : EReal)) (hk : ∀ b j d, k (ix3 b j d) = (K b j d : EReal))
    (h0 : v0 = Host.dotGeneral dot_S6x512x6144_S6x6144x512_S6x6144x6144_1_2_2_1_0_0 none q k)
    (h3 : v3 = Host.divf v0 (broadcastInDim S6x6144x6144 ![] bcast_S_S6x6144x6144 (Host.sqrt (constant S_ .f32 0x44000000#32 : FVec Ideal S_ .f32))))
    (b : Fin 6) (i j : Fin 6144) : v3 (ix3 b i j) = ((score Q K b i j / rt : ℝ) : EReal) := by
  have e0 : v0 (ix3 b i j) = ((score Q K b i j : ℝ) : EReal) := by
    rw [h0]; pointwise
    simp only [hq, hk, ← EReal.coe_mul, coe_sum, score]
  rw [h3]; pointwise
  rw [e0, lit_512, Ideal.sqrt_coe, if_neg (by norm_num), div_real _ _ (by positivity)]

theorem max_real {n : ℕ} [NeZero n] (f : Fin n → ℝ) :
    ∃ M : ℝ, max (⊥ : EReal) (Finset.fold max (⊥ : EReal) (fun x => (f x : EReal)) Finset.univ) = (M : EReal) := by
  obtain ⟨M, hM, -⟩ := fold_real Finset.univ ⟨(0 : Fin n), Finset.mem_univ _⟩ f
  exact ⟨M, by rw [hM]; exact max_eq_right bot_le⟩

theorem top_reduce (x : FVec Ideal S6x6144x6144 .f32) (b : Fin 6) (i : Fin 6144) :
    (Host.reduce FloatOps.maximumf x (constant S_ .f32 0xFF800000#32 : FVec Ideal S_ .f32) reducesTo_S6x6144x6144_S6x6144_d2 h_S_) (ix2 b i)
      = Finset.fold max (Ideal.ofBits .f32 0xFF800000#32) (fun j => x (ix3 b i j)) Finset.univ := by
  pointwise

theorem top_bot (x : FVec Ideal S6x6144 .f32) (b : Fin 6) (i : Fin 6144) :
    maximumf (broadcastInDim S6x6144 ![] bcast_S_S6x6144 (constant S_ .f32 0xFF800000#32 : FVec Ideal S_ .f32)) x (ix2 b i)
      = max (Ideal.ofBits .f32 0xFF800000#32) (x (ix2 b i)) := by
  pointwise

theorem top_some {s : Fin 6144 → ℝ} (x : FVec Ideal S6x6144x6144 .f32) (b : Fin 6) (i : Fin 6144) (hs : ∀ j, x (ix3 b i j) = (s j : EReal)) :
    ∃ M : ℝ, max (Ideal.ofBits .f32 0xFF800000#32) (Finset.fold max (Ideal.ofBits .f32 0xFF800000#32) (fun j => x (ix3 b i j)) Finset.univ) = (M : EReal) := by
  simp only [lit_bot, hs]
  exact max_real s

/-- Each query's largest score is real. -/
theorem top {s : Fin 6 → Fin 6144 → Fin 6144 → ℝ} (hs : ∀ b i j, v3 (ix3 b i j) = (s b i j : EReal))
    (h6 : v6 = maximumf (broadcastInDim S6x6144 ![] bcast_S_S6x6144 (constant S_ .f32 0xFF800000#32 : FVec Ideal S_ .f32)) (Host.reduce FloatOps.maximumf v3 (constant S_ .f32 0xFF800000#32 : FVec Ideal S_ .f32) reducesTo_S6x6144x6144_S6x6144_d2 h_S_))
    (b : Fin 6) (i : Fin 6144) : ∃ M : ℝ, v6 (ix2 b i) = (M : EReal) := by
  obtain ⟨M, hM⟩ := top_some v3 b i (hs b i)
  rw [← top_reduce] at hM
  exact ⟨M, by rw [h6]; exact (top_bot _ b i).trans hM⟩

/-- The attention output. -/
theorem output (hq : ∀ b d i, q (ix3 b d i) = (Q b d i : EReal)) (hk : ∀ b j d, k (ix3 b j d) = (K b j d : EReal))
    (hv : ∀ b d j, v (ix3 b d j) = (W b d j : EReal))
    (h0 : v0 = Host.dotGeneral dot_S6x512x6144_S6x6144x512_S6x6144x6144_1_2_2_1_0_0 none q k)
    (h3 : v3 = Host.divf v0 (broadcastInDim S6x6144x6144 ![] bcast_S_S6x6144x6144 (Host.sqrt (constant S_ .f32 0x44000000#32 : FVec Ideal S_ .f32))))
    (h6 : v6 = maximumf (broadcastInDim S6x6144 ![] bcast_S_S6x6144 (constant S_ .f32 0xFF800000#32 : FVec Ideal S_ .f32)) (Host.reduce FloatOps.maximumf v3 (constant S_ .f32 0xFF800000#32 : FVec Ideal S_ .f32) reducesTo_S6x6144x6144_S6x6144_d2 h_S_))
    (h10 : v10 = Host.exp (subf v3 (broadcastInDim S6x6144x6144 ![0, 1, 2] bcast_S6x6144x1_S6x6144x6144_0_1_2 (broadcastInDim S6x6144x1 ![0, 1] bcast_S6x6144_S6x6144x1_0_1 v6))))
    (h11 : v11 = Host.reduceAdd v10 (constant S_ .f32 0x00000000#32 : FVec Ideal S_ .f32) reducesTo_S6x6144x6144_S6x6144_d2 h_S_)
    (h15 : v15 = (truncf .bf16 · bitsLt_bf16_f32) (Host.divf v10 (broadcastInDim S6x6144x6144 ![0, 1, 2] bcast_S6x6144x1_S6x6144x6144_0_1_2 (broadcastInDim S6x6144x1 ![0, 1] bcast_S6x6144_S6x6144x1_0_1 v11))))
    (h16 : v16 = Host.dotGeneral dot_S6x512x6144_S6x6144x6144_S6x512x6144_2_2_1_1_0_0 none v v15)
    (b : Fin 6) (d : Fin 512) (i : Fin 6144) : v16 (ix3 b d i) = ((att Q K W b d i : ℝ) : EReal) := by
  have e3 := scores hq hk h0 h3
  obtain ⟨M, hM⟩ := top e3 h6 b i
  have e10 : ∀ j, v10 (ix3 b i j) = ((Real.exp (score Q K b i j / rt - M) : ℝ) : EReal) := fun j => by
    rw [h10]; pointwise
    rw [e3, hM, ← EReal.coe_sub, Ideal.exp_coe]
  have e11 : v11 (ix2 b i) = ((∑ j, Real.exp (score Q K b i j / rt - M) : ℝ) : EReal) := by
    rw [h11]; pointwise
    simp only [e10, coe_sum]
  have hp : (∑ j, Real.exp (score Q K b i j / rt - M)) ≠ 0 :=
    (Finset.sum_pos (fun _ _ => Real.exp_pos _) ⟨(0 : Fin 6144), Finset.mem_univ _⟩).ne'
  have e15 : ∀ j, v15 (ix3 b i j)
      = ((Real.exp (score Q K b i j / rt - M) / ∑ j, Real.exp (score Q K b i j / rt - M) : ℝ) : EReal) := fun j => by
    rw [h15]; pointwise
    rw [e10, e11, div_real _ _ hp]
  have e16 : v16 (ix3 b d i) = ((∑ j, W b d j * (Real.exp (score Q K b i j / rt - M) / ∑ j, Real.exp (score Q K b i j / rt - M)) : ℝ) : EReal) := by
    rw [h16]; pointwise
    simp only [hv, e15, ← EReal.coe_mul, coe_sum]
  rw [e16, att, ← soft_eq _ _ M, Finset.sum_range, Finset.sum_range]
  simp only [ext_val]

/-- The column maxima. -/
theorem maxima (h : ∀ b d i, v16 (ix3 b d i) = ((att Q K W b d i : ℝ) : EReal))
    (h18 : v18 = Host.reduce FloatOps.maximumf (Host.absf v16) (constant S_ .f32 0xFF800000#32 : FVec Ideal S_ .f32) reducesTo_S6x512x6144_S6x6144_d1 h_S_)
    (b : Fin 6) (i : Fin 6144) : v18 (ix2 b i) = ((amax Q K W b i : ℝ) : EReal) := by
  rw [h18]; pointwise
  rw [← amax_eq]
  simp only [lit_bot, h, Ideal.absf_def, abs_real]

/-- The exponents. -/
theorem exponents (h : ∀ b i, v18 (ix2 b i) = ((amax Q K W b i : ℝ) : EReal))
    (h27 : v27 = addf (Host.floor (Host.divf (Host.log (Host.divf v18 (broadcastInDim S6x6144 ![] bcast_S_S6x6144 (constant S_ .f32 0x43E00000#32 : FVec Ideal S_ .f32)))) (broadcastInDim S6x6144 ![] bcast_S_S6x6144 (Host.log (constant S_ .f32 0x40000000#32 : FVec Ideal S_ .f32))))) (broadcastInDim S6x6144 ![] bcast_S_S6x6144 (constant S_ .f32 0x3F800000#32 : FVec Ideal S_ .f32)))
    (h32 : v32 = select (cmpf .oeq v18 (broadcastInDim S6x6144 ![] bcast_S_S6x6144 (constant S_ .f32 0x00000000#32 : FVec Ideal S_ .f32))) (broadcastInDim S6x6144 ![] bcast_S_S6x6144 (constant S_ .f32 0x00000000#32 : FVec Ideal S_ .f32)) (maximumf v27 (broadcastInDim S6x6144 ![] bcast_S_S6x6144 (constant S_ .f32 0xC2FC0000#32 : FVec Ideal S_ .f32))))
    (b : Fin 6) (i : Fin 6144) : v32 (ix2 b i) = (((expn Q K W b i : ℤ) : ℝ) : EReal) := by
  have e32 : v32 (ix2 b i) = if v18 (ix2 b i) = 0 then (0 : EReal) else max (v27 (ix2 b i)) ((-126 : ℝ) : EReal) := by
    rw [h32, ← lit_neg126]; pointwise
  rw [e32, h]
  by_cases h0 : amax Q K W b i = 0
  · rw [if_pos (by rw [h0]; rfl), expn, expo2, if_pos (by rw [h0]; norm_num)]; simp
  · have hp : 0 < amax Q K W b i / 448 := div_pos (lt_of_le_of_ne (amax_nonneg Q K W b i) (Ne.symm h0)) (by norm_num)
    have e27 : v27 (ix2 b i) = (((lg (amax Q K W b i / 448) + 1 : ℤ) : ℝ) : EReal) := by
      rw [h27]; pointwise
      rw [h, lit_448, lit_2, div_real _ _ (by norm_num), Ideal.log_coe, Ideal.log_coe, if_neg (not_le.2 hp), if_neg (by norm_num),
        div_real _ _ (Real.log_pos one_lt_two).ne', Ideal.liftRound_coe]
      rw [lg]; push_cast; rfl
    rw [if_neg (by simpa using h0), e27, expn, expo2, if_neg hp.ne', Int.cast_max, EReal.coe_strictMono.monotone.map_max]
    norm_num

/-- The scales. -/
theorem scales (h : ∀ b i, v32 (ix2 b i) = (((expn Q K W b i : ℤ) : ℝ) : EReal))
    (h34 : v34 = Host.powf (broadcastInDim S6x6144 ![] bcast_S_S6x6144 (constant S_ .f32 0x40000000#32 : FVec Ideal S_ .f32)) v32)
    (b : Fin 6) (i : Fin 6144) : v34 (ix2 b i) = scl Q K W b i := by
  rw [h34]; pointwise
  rw [h, lit_2, Ideal.pow_coe_coe, scl]
  exact congrArg _ (Real.rpow_intCast 2 _)

/-- The clipped quotients. -/
theorem codes (h : ∀ b i, v32 (ix2 b i) = (((expn Q K W b i : ℤ) : ℝ) : EReal))
    (ho : ∀ b d i, v16 (ix3 b d i) = ((att Q K W b d i : ℝ) : EReal))
    (h41 : v41 = minimumf (broadcastInDim S6x512x6144 ![] bcast_S_S6x512x6144 (constant S_ .f32 0x43E00000#32 : FVec Ideal S_ .f32)) (maximumf (broadcastInDim S6x512x6144 ![] bcast_S_S6x512x6144 (constant S_ .f32 0xC3E00000#32 : FVec Ideal S_ .f32)) (mulf v16 (broadcastInDim S6x512x6144 ![0, 1, 2] bcast_S6x1x6144_S6x512x6144_0_1_2 (broadcastInDim S6x1x6144 ![0, 2] bcast_S6x6144_S6x1x6144_0_2 (Host.powf (broadcastInDim S6x6144 ![] bcast_S_S6x6144 (constant S_ .f32 0x40000000#32 : FVec Ideal S_ .f32)) (Host.negf v32)))))))
    (b : Fin 6) (d : Fin 512) (i : Fin 6144) : v41 (ix3 b d i) = code Q K W b d i := by
  rw [h41]; pointwise
  rw [h, ho, lit_2, lit_448, lit_neg448, ← EReal.coe_neg, Ideal.pow_coe_coe, code, ← Int.cast_neg, ← EReal.coe_mul]
  rw [show Real.rpow 2 ((-expn Q K W b i : ℤ) : ℝ) = (2:ℝ) ^ (-expn Q K W b i) from Real.rpow_intCast 2 _]

end Cert.Attn.Ref
end
-- ==== Proof.AttnRefEnds.lean ====
module

public import proofs.«01_k».proof.Proof.AttnHost
public import proofs.«01_k».proof.Proof.AttnRef
public import proofs.«01_k».proof.Proof.Gen.AttentionRefIdeal.Value
public import Idealize.ShloMosaic.Lib.Pipeline.ValueKit

@[expose] public section

/-!
The reference's results on real queries, keys and values.
-/

set_option maxRecDepth 16384

noncomputable section
namespace Cert.Attn.Ref
open Cert.AttentionRefIdeal Cert.AttentionRefIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)
variable {Q : Fin 6 → Fin 512 → Fin 6144 → ℝ} {K : Fin 6 → Fin 6144 → Fin 512 → ℝ} {W : Fin 6 → Fin 512 → Fin 6144 → ℝ}

/-- The queries, keys and values of the launch are the reals `Q`, `K`, `W`. -/
structure Reals (m : (ℓ : Loc nD τ sig) → Buf (Elt Ideal) ℓ) (c : Dev nD) (Q : Fin 6 → Fin 512 → Fin 6144 → ℝ) (K : Fin 6 → Fin 6144 → Fin 512 → ℝ)
    (W : Fin 6 → Fin 512 → Fin 6144 → ℝ) : Prop where
  q : ∀ b d i, (m ((c.tc : Thread nD τ).loc main_arg0) : FVec Ideal S6x512x6144 .bf16) (ix3 b d i) = (Q b d i : EReal)
  k : ∀ b j d, (m ((c.tc : Thread nD τ).loc main_arg1) : FVec Ideal S6x6144x512 .bf16) (ix3 b j d) = (K b j d : EReal)
  v : ∀ b d j, (m ((c.tc : Thread nD τ).loc main_arg2) : FVec Ideal S6x512x6144 .bf16) (ix3 b d j) = (W b d j : EReal)

variable {m c}

theorem att_at (h : Reals m c Q K W) (b : Fin 6) (d : Fin 512) (i : Fin 6144) :
    (V m c main_v16 : FVec Ideal S6x512x6144 .f32) (ix3 b d i) = ((att Q K W b d i : ℝ) : EReal) :=
  output (fun b d i => (congrFun (V_main_arg0 m c) _).trans (h.q b d i)) (fun b j d => (congrFun (V_main_arg1 m c) _).trans (h.k b j d))
    (fun b d j => (congrFun (V_main_arg2 m c) _).trans (h.v b d j)) (v0_eq m c) (v3_eq m c) (v6_eq m c) (v10_eq m c) (v11_eq m c) (v15_eq m c) (v16_eq m c) b d i

theorem expn_at (h : Reals m c Q K W) (b : Fin 6) (i : Fin 6144) :
    (V m c main_v32 : FVec Ideal S6x6144 .f32) (ix2 b i) = (((expn Q K W b i : ℤ) : ℝ) : EReal) :=
  exponents (maxima (att_at h) (v18_eq m c)) (v27_eq m c) (v32_eq m c) b i

/-- The scales. -/
theorem scl_at (h : Reals m c Q K W) (b : Fin 6) (i : Fin 6144) :
    (V m c main_v34 : FVec Ideal S6x6144 .f32) (ix2 b i) = scl Q K W b i :=
  scales (expn_at h) (v34_eq m c) b i

/-- The clipped quotients. -/
theorem code_at (h : Reals m c Q K W) (b : Fin 6) (d : Fin 512) (i : Fin 6144) :
    (V m c main_v41 : FVec Ideal S6x512x6144 .f32) (ix3 b d i) = code Q K W b d i :=
  codes (expn_at h) (att_at h) (v41_eq m c) b d i

/-! ### The last call -/

section Last
variable (x0 : Vec Ideal S6x512x6144 .f32) (x1 : Vec Ideal S6x6144 .f32) (x2 : Vec Ideal S6x512x6144 .bf16) (x3 : Vec Ideal S512x512 .fp8e4m3)
  (x4 x5 : Vec Ideal S512 .f32)

theorem pay4_at (b : Fin 6) (d : Fin 512) (i : Fin 6144) : k0_pay4 x0 x1 x3 x4 x5 x2 (ix3 b d i)
    = x2 (ix3 b d i) + ((∑ x, x3 (ix2 x d) * x0 (ix3 b x i)) * x1 (ix2 b i) * x4 (ix1 d) + x5 (ix1 d)) := by
  pointwise [k0_pay4, k0_pay2, k0_pay1]

theorem pay3_at (b : Fin 6) (d : Fin 512) (i : Fin 6144) : k0_pay3 x0 x1 x3 x4 x5 (ix3 b d i)
    = (∑ x, x3 (ix2 x d) * x0 (ix3 b x i)) * x1 (ix2 b i) * x4 (ix1 d) + x5 (ix1 d) := by
  pointwise [k0_pay3, k0_pay2, k0_pay1]

theorem pay1_at (b : Fin 6) (d : Fin 512) (i : Fin 6144) : k0_pay1 x0 (ix3 b d i) = x0 (ix3 b d i) := by
  pointwise [k0_pay1]
end Last

variable (m c)

theorem idx : win0_0.index t0_0 = ![0, 0, 0] ∧ win0_1.index t0_0 = ![0, 0] ∧ win0_2.index t0_0 = ![0, 0, 0]
    ∧ win0_3.index t0_0 = ![0, 0] ∧ win0_4.index t0_0 = ![0] ∧ win0_5.index t0_0 = ![0] := by decide +kernel

theorem whole0 (v : FVec Ideal S6x512x6144 .f32) : ((cfg0.win 0).blk t0_0).view.read (Elt Ideal) v = v := by
  blk_ext! [idx]
theorem blk0 : iblk m c 0 t0_0 = V m c main_v41 := whole0 _

theorem whole1 (v : FVec Ideal S6x6144 .f32) : ((cfg0.win 1).blk t0_0).view.read (Elt Ideal) v = v := by
  blk_ext! [idx]
theorem blk1 : iblk m c 1 t0_0 = V m c main_v34 := whole1 _

theorem whole2 (v : FVec Ideal S6x512x6144 .bf16) : ((cfg0.win 2).blk t0_0).view.read (Elt Ideal) v = v := by
  blk_ext! [idx]
theorem blk2 : iblk m c 2 t0_0 = V m c main_arg3 := whole2 _

theorem whole3 (v : FVec Ideal S512x512 .fp8e4m3) : ((cfg0.win 3).blk t0_0).view.read (Elt Ideal) v = v := by
  blk_ext! [idx]
theorem blk3 : iblk m c 3 t0_0 = V m c main_arg4 := whole3 _

theorem whole4 (v : FVec Ideal S512 .f32) : ((cfg0.win 4).blk t0_0).view.read (Elt Ideal) v = v := by
  blk_ext! [idx]
theorem blk4 : iblk m c 4 t0_0 = V m c main_arg5 := whole4 _

theorem whole5 (v : FVec Ideal S512 .f32) : ((cfg0.win 5).blk t0_0).view.read (Elt Ideal) v = v := by
  blk_ext! [idx]
theorem blk5 : iblk m c 5 t0_0 = V m c main_arg6 := whole5 _

theorem out7 (x0 : Vec Ideal S6x512x6144 .f32) (x1 : Vec Ideal S6x6144 .f32) (x2 : Vec Ideal S6x512x6144 .bf16) (x3 : Vec Ideal S512x512 .fp8e4m3) (x4 x5 : Vec Ideal S512 .f32) :
    out0_7 x0 x1 x2 x3 x4 x5 = k0_pay3 x0 x1 x3 x4 x5 := by
  unfold out0_7
  rw [View.ld_unit_lit (X := x0) _ (by decide), View.ld_unit_lit (X := x1) _ (by decide), View.ld_unit_lit (X := x3) _ (by decide),
    View.ld_unit_lit (X := x4) _ (by decide), View.ld_unit_lit (X := x5) _ (by decide)]
  exact View.canon_cons_unit_lit _ _ _ (by decide)

theorem out6 (x0 : Vec Ideal S6x512x6144 .f32) (x1 : Vec Ideal S6x6144 .f32) (x2 : Vec Ideal S6x512x6144 .bf16) (x3 : Vec Ideal S512x512 .fp8e4m3) (x4 x5 : Vec Ideal S512 .f32) :
    out0_6 x0 x1 x2 x3 x4 x5 = k0_pay4 x0 x1 x3 x4 x5 x2 := by
  unfold out0_6
  rw [View.ld_unit_lit (X := x0) _ (by decide), View.ld_unit_lit (X := x1) _ (by decide), View.ld_unit_lit (X := x3) _ (by decide),
    View.ld_unit_lit (X := x4) _ (by decide), View.ld_unit_lit (X := x5) _ (by decide), View.ld_unit_lit (X := x2) _ (by decide)]
  exact View.canon_cons_unit_lit _ _ _ (by decide)

theorem end8 : (dats m 0 c).arrAt 8 cfg0.N = k0_pay1 (V m c main_v41 : FVec Ideal S6x512x6144 .f32) := by
  rw [← blk0]
  refine (dats m 0 c).arrAt_eq_of_after_last 8 t0_0 (by decide +kernel) _ fun j => ?_
  blk_simp
  rw [after0_8]
  frame_out

theorem end7 : (dats m 0 c).arrAt 7 cfg0.N = k0_pay3 (iblk m c 0 t0_0) (iblk m c 1 t0_0) (iblk m c 3 t0_0) (iblk m c 4 t0_0) (iblk m c 5 t0_0) := by
  refine (dats m 0 c).arrAt_eq_of_after_last 7 t0_0 (by decide +kernel) _ fun j => ?_
  blk_simp
  rw [after0_7, out7]

theorem end6 : (dats m 0 c).arrAt 6 cfg0.N = k0_pay4 (iblk m c 0 t0_0) (iblk m c 1 t0_0) (iblk m c 3 t0_0) (iblk m c 4 t0_0) (iblk m c 5 t0_0) (iblk m c 2 t0_0) := by
  refine (dats m 0 c).arrAt_eq_of_after_last 6 t0_0 (by decide +kernel) _ fun j => ?_
  blk_simp
  rw [after0_6, out6]

/-! ### The results -/

variable {m c}

/-- The codes. -/
theorem codes_at (h : Reals m c Q K W) (b : Fin 6) (d : Fin 512) (i : Fin 6144) :
    ((dats m 0 c).arrAt 8 cfg0.N : FVec Ideal S6x512x6144 .fp8e4m3) (ix3 b d i) = code Q K W b d i := by
  rw [end8]
  exact (pay1_at _ b d i).trans (code_at h b d i)

/-- The projection. -/
theorem proj_at (h : Reals m c Q K W) (b : Fin 6) (d : Fin 512) (i : Fin 6144) :
    ((dats m 0 c).arrAt 7 cfg0.N : FVec Ideal S6x512x6144 .bf16) (ix3 b d i)
      = proj Q K W (fun x d => (m ((c.tc : Thread nD τ).loc main_arg4) : FVec Ideal S512x512 .fp8e4m3) (ix2 x d))
        (fun d => (m ((c.tc : Thread nD τ).loc main_arg5) : FVec Ideal S512 .f32) (ix1 d))
        (fun d => (m ((c.tc : Thread nD τ).loc main_arg6) : FVec Ideal S512 .f32) (ix1 d)) b d i := by
  rw [end7, blk0, blk1, blk3, blk4, blk5]
  refine (pay3_at _ _ _ _ _ b d i).trans ?_
  rw [scl_at h, V_main_arg4, V_main_arg5, V_main_arg6, proj]
  simp only [code_at h]

/-- The residual sum. -/
theorem sum_at (h : Reals m c Q K W) (b : Fin 6) (d : Fin 512) (i : Fin 6144) :
    ((dats m 0 c).arrAt 6 cfg0.N : FVec Ideal S6x512x6144 .bf16) (ix3 b d i)
      = @HAdd.hAdd EReal EReal EReal _ ((m ((c.tc : Thread nD τ).loc main_arg3) : FVec Ideal S6x512x6144 .bf16) (ix3 b d i))
        (proj Q K W (fun x d => (m ((c.tc : Thread nD τ).loc main_arg4) : FVec Ideal S512x512 .fp8e4m3) (ix2 x d))
        (fun d => (m ((c.tc : Thread nD τ).loc main_arg5) : FVec Ideal S512 .f32) (ix1 d))
        (fun d => (m ((c.tc : Thread nD τ).loc main_arg6) : FVec Ideal S512 .f32) (ix1 d)) b d i) := by
  rw [end6, blk0, blk1, blk2, blk3, blk4, blk5]
  refine (pay4_at _ _ _ _ _ _ b d i).trans ?_
  rw [scl_at h, V_main_arg3, V_main_arg4, V_main_arg5, V_main_arg6, proj]
  simp only [code_at h]

/-- The run: each result as named, and the arguments unchanged. -/
theorem values : θ_run defs (onTc (τ := τ) (main (F := Ideal))) ⟨m, fun _ => 0, ρ⟩ (fun r => ∀ c : Dev nD,
      r.2.mem ((c.tc : Thread nD τ).loc main_v42_0) = (dats m 0 c).arrAt 6 cfg0.N
      ∧ r.2.mem ((c.tc : Thread nD τ).loc main_v42_1) = (dats m 0 c).arrAt 7 cfg0.N
      ∧ r.2.mem ((c.tc : Thread nD τ).loc main_v42_2) = (dats m 0 c).arrAt 8 cfg0.N
      ∧ r.2.mem ((c.tc : Thread nD τ).loc main_v34) = V m c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨Value.post6 m r h c, Value.post7 m r h c, Value.post8 m r h c,
    ((h c).1 1).trans (((dats m 0 c).arrAt_in 1 rfl _).trans (A_eq m c 1)),
    Value.kept_main_arg0 m r h c, Value.kept_main_arg1 m r h c, Value.kept_main_arg2 m r h c, Value.kept_main_arg3 m r h c,
    Value.kept_main_arg4 m r h c, Value.kept_main_arg5 m r h c, Value.kept_main_arg6 m r h c⟩) (run_main m ρ)

end Cert.Attn.Ref
end
-- ==== Proof.AttnValue.lean ====
module

public import proofs.«01_k».proof.Defs
public import proofs.«01_k».proof.Proof.AttnBlocks
public import proofs.«01_k».proof.Proof.AttnKernel
public import proofs.«01_k».proof.Proof.AttnPre
public import proofs.«01_k».proof.Proof.AttnRefEnds

@[expose] public section

/-!
The attention kernel's four results are the reference's.
-/

set_option maxRecDepth 16384

noncomputable section
namespace Cert.Attn
open Cert.AttentionIdeal Cert.AttentionIdeal.Gen Idealize.ShloMosaic Idealize.ShloMosaic.TcCoe Idealize.SL.Sem

variable {m : (ℓ : Loc nD τ sig) → Buf (Elt Ideal) ℓ} {c : Dev nD}
variable {Q : Fin 6 → Fin 512 → Fin 6144 → ℝ} {K : Fin 6 → Fin 6144 → Fin 512 → ℝ} {W : Fin 6 → Fin 512 → Fin 6144 → ℝ}

/-- The queries, keys and values of the launch are the reals `Q`, `K`, `W`, the values bounded. -/
structure Reals (m : (ℓ : Loc nD τ sig) → Buf (Elt Ideal) ℓ) (c : Dev nD) (Q : Fin 6 → Fin 512 → Fin 6144 → ℝ) (K : Fin 6 → Fin 6144 → Fin 512 → ℝ)
    (W : Fin 6 → Fin 512 → Fin 6144 → ℝ) : Prop where
  q : ∀ b d i, (m ((c.tc : Thread nD τ).loc main_arg0) : FVec Ideal S6x512x6144 .bf16) (ix3 b d i) = (Q b d i : EReal)
  k : ∀ b j d, (m ((c.tc : Thread nD τ).loc main_arg1) : FVec Ideal S6x6144x512 .bf16) (ix3 b j d) = (K b j d : EReal)
  v : ∀ b d j, (m ((c.tc : Thread nD τ).loc main_arg2) : FVec Ideal S6x512x6144 .bf16) (ix3 b d j) = (W b d j : EReal)
  bound : ∀ b d j, |W b d j| ≤ big

/-- The codes. -/
theorem arrC_at (h : Reals m c Q K W) (b : Fin 6) (d : Fin 512) (n : Fin 6144) : arrC m c (ix3 b d n) = code Q K W b d n := by
  have e := outC_at (b := batch (pt b n)) (I := place (pt b n)) h.bound (fun d i => (read0 m c (pt b n) d i).trans (h.q _ _ _)) (fun j d => (read1 m c (pt b n) j d).trans (h.k _ _ _))
    (fun d j => (read2 m c (pt b n) d j).trans (h.v _ _ _)) d (lane n)
  rw [place_pt, batch_pt] at e
  exact e

/-- The scales. -/
theorem arrS_at (h : Reals m c Q K W) (b : Fin 6) (n : Fin 6144) : arrS m c (ix2 b n) = scl Q K W b n := by
  have e := outS_at (b := batch (pt b n)) (I := place (pt b n)) h.bound (fun d i => (read0 m c (pt b n) d i).trans (h.q _ _ _)) (fun j d => (read1 m c (pt b n) j d).trans (h.k _ _ _))
    (fun d j => (read2 m c (pt b n) d j).trans (h.v _ _ _)) (lane n)
  rw [place_pt, batch_pt] at e
  exact e

/-- The projection. -/
theorem arrP_at (h : Reals m c Q K W) (b : Fin 6) (d : Fin 512) (n : Fin 6144) : arrP m c (ix3 b d n)
    = proj Q K W (fun x d => (m ((c.tc : Thread nD τ).loc main_arg4) : FVec Ideal S512x512 .fp8e4m3) (ix2 x d))
        (fun d => (m ((c.tc : Thread nD τ).loc main_arg5) : FVec Ideal S512 .f32) (ix1 d))
        (fun d => (m ((c.tc : Thread nD τ).loc main_arg6) : FVec Ideal S512 .f32) (ix1 d)) b d n := by
  have e := outP_at (b := batch (pt b n)) (I := place (pt b n)) (x4 := iblk m c 4 (pt b n)) (x5 := iblk m c 5 (pt b n)) (x6 := iblk m c 6 (pt b n))
    h.bound (fun d i => (read0 m c (pt b n) d i).trans (h.q _ _ _)) (fun j d => (read1 m c (pt b n) j d).trans (h.k _ _ _))
    (fun d j => (read2 m c (pt b n) d j).trans (h.v _ _ _)) d (lane n)
  simp only [place_pt, batch_pt, read4, read5, read6] at e
  exact e

/-- The residual sum. -/
theorem arrY_at (h : Reals m c Q K W) (b : Fin 6) (d : Fin 512) (n : Fin 6144) : arrY m c (ix3 b d n)
    = @HAdd.hAdd EReal EReal EReal _ ((m ((c.tc : Thread nD τ).loc main_arg3) : FVec Ideal S6x512x6144 .bf16) (ix3 b d n))
      (proj Q K W (fun x d => (m ((c.tc : Thread nD τ).loc main_arg4) : FVec Ideal S512x512 .fp8e4m3) (ix2 x d))
        (fun d => (m ((c.tc : Thread nD τ).loc main_arg5) : FVec Ideal S512 .f32) (ix1 d))
        (fun d => (m ((c.tc : Thread nD τ).loc main_arg6) : FVec Ideal S512 .f32) (ix1 d)) b d n) := by
  have e := outY_at (b := batch (pt b n)) (I := place (pt b n)) (x3 := iblk m c 3 (pt b n)) (x4 := iblk m c 4 (pt b n)) (x5 := iblk m c 5 (pt b n)) (x6 := iblk m c 6 (pt b n))
    h.bound (fun d i => (read0 m c (pt b n) d i).trans (h.q _ _ _)) (fun j d => (read1 m c (pt b n) j d).trans (h.k _ _ _))
    (fun d j => (read2 m c (pt b n) d j).trans (h.v _ _ _)) d (lane n)
  simp only [place_pt, batch_pt, read3, read4, read5, read6] at e
  exact e

/-- On arguments that agree, the four results agree. -/
theorem agree {m' : (ℓ : Loc Cert.AttentionRefIdeal.nD Cert.AttentionRefIdeal.τ Cert.AttentionRefIdeal.sig) → Buf (Elt Ideal) ℓ} (hp : Cert.Pre_AttentionIdeal_finite_qkv m) (c : Dev nD)
    (e0 : m' ((c.tc : Thread Cert.AttentionRefIdeal.nD Cert.AttentionRefIdeal.τ).loc Cert.AttentionRefIdeal.main_arg0) = m ((c.tc : Thread nD τ).loc main_arg0))
    (e1 : m' ((c.tc : Thread Cert.AttentionRefIdeal.nD Cert.AttentionRefIdeal.τ).loc Cert.AttentionRefIdeal.main_arg1) = m ((c.tc : Thread nD τ).loc main_arg1))
    (e2 : m' ((c.tc : Thread Cert.AttentionRefIdeal.nD Cert.AttentionRefIdeal.τ).loc Cert.AttentionRefIdeal.main_arg2) = m ((c.tc : Thread nD τ).loc main_arg2))
    (e3 : m' ((c.tc : Thread Cert.AttentionRefIdeal.nD Cert.AttentionRefIdeal.τ).loc Cert.AttentionRefIdeal.main_arg3) = m ((c.tc : Thread nD τ).loc main_arg3))
    (e4 : m' ((c.tc : Thread Cert.AttentionRefIdeal.nD Cert.AttentionRefIdeal.τ).loc Cert.AttentionRefIdeal.main_arg4) = m ((c.tc : Thread nD τ).loc main_arg4))
    (e5 : m' ((c.tc : Thread Cert.AttentionRefIdeal.nD Cert.AttentionRefIdeal.τ).loc Cert.AttentionRefIdeal.main_arg5) = m ((c.tc : Thread nD τ).loc main_arg5))
    (e6 : m' ((c.tc : Thread Cert.AttentionRefIdeal.nD Cert.AttentionRefIdeal.τ).loc Cert.AttentionRefIdeal.main_arg6) = m ((c.tc : Thread nD τ).loc main_arg6)) :
    (Cert.AttentionRefIdeal.Gen.dats m' 0 c).arrAt 6 Cert.AttentionRefIdeal.cfg0.N = arrY m c
    ∧ (Cert.AttentionRefIdeal.Gen.dats m' 0 c).arrAt 7 Cert.AttentionRefIdeal.cfg0.N = arrP m c
    ∧ (Cert.AttentionRefIdeal.Gen.dats m' 0 c).arrAt 8 Cert.AttentionRefIdeal.cfg0.N = arrC m c
    ∧ Cert.AttentionRefIdeal.Gen.V m' c Cert.AttentionRefIdeal.main_v34 = arrS m c := by
  obtain ⟨Q, K, W, hq, hk, hv, hW⟩ := reals (hp c).1 (hp c).2.1 (hp c).2.2
  have h : Reals m c Q K W := ⟨hq, hk, hv, hW⟩
  have h' : Ref.Reals m' c Q K W := ⟨fun b d i => (congrFun e0 _).trans (hq b d i), fun b j d => (congrFun e1 _).trans (hk b j d),
    fun b d j => (congrFun e2 _).trans (hv b d j)⟩
  refine ⟨funext fun i => ?_, funext fun i => ?_, funext fun i => ?_, funext fun i => ?_⟩
  · rw [eq_ix3 i]
    refine (Ref.sum_at h' _ _ _).trans (Eq.trans ?_ (arrY_at h _ _ _).symm)
    rw [e3, e4, e5, e6]
  · rw [eq_ix3 i]
    refine (Ref.proj_at h' _ _ _).trans (Eq.trans ?_ (arrP_at h _ _ _).symm)
    rw [e4, e5, e6]
  · rw [eq_ix3 i]
    exact (Ref.codes_at h' _ _ _).trans (arrC_at h _ _ _).symm
  · rw [eq_ix2 i]
    exact (Ref.scl_at h' _ _).trans (arrS_at h _ _).symm

/-- The value claim of the attention call. -/
theorem algebraic : Cert.algebraic_AttentionIdeal_AttentionRefIdeal_pre_finite_qkv := by
  intro m g m' g' hp hm
  have ha := fun c => agree hp c (hm c).1 (hm c).2.1 (hm c).2.2.1 (hm c).2.2.2.1 (hm c).2.2.2.2.1 (hm c).2.2.2.2.2.1 (hm c).2.2.2.2.2.2
  refine ⟨arrY m, arrP m, arrC m, arrS m, values m g, ?_⟩
  refine (θ_run _ _ _).mono (fun r h c => ?_) (Ref.values (m := m') g')
  obtain ⟨h0, h1, h2, h3, hk⟩ := h c
  obtain ⟨a0, a1, a2, a3⟩ := ha c
  exact ⟨h0.trans a0, h1.trans a1, h2.trans a2, h3.trans a3, hk⟩

end Cert.Attn
end
-- ==== Proof.PrlRun.lean ====
/- What the prologue kernel's body computes from its blocks, and its run: the sums of the group statistics as recursions
   over the 128-column pieces of the image, the mean and the multiplier that the scratch keeps, the normalised and
   quantised tile, its scale strip, and the three projections. -/
module

public import proofs.«01_k».proof.Proof.Gen.PrologueIdeal.Launch
public import proofs.«01_k».proof.Proof.Gen.PrologueIdeal.Skeleton
public import proofs.«01_k».proof.Proof.Gen.PrologueIdeal.Points
public import proofs.«01_k».proof.Proof.Gen.PrologueIdeal.Frame
public import Idealize.ShloMosaic.Lib.Pipeline.FrameBody
public import Idealize.ShloMosaic.Lib.Tactic
public import Idealize.ShloMosaic.Lib.VecWindow
public import Idealize.ShloMosaic.Lib.WholeRead
public import Idealize.ShloMosaic.Lib.WordCmp

@[expose] public section

set_option maxRecDepth 16384

noncomputable section

namespace Cert.Prl

open Cert.PrologueIdeal Cert.PrologueIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first grid point starts a batch. -/
theorem cond0 : k0_cond1 (grid0.coords ⟨0, by decide⟩) = 1#1 := by decide +kernel

theorem off1_inb (k : Fin k0_t1_loop.trips) : ∀ a, (k0_off1 k) a + S1x512x128.size a ≤ S1x512x6144.size a :=
  k0_off1_inb (grid0.coords ⟨0, by decide⟩) k cond0
theorem off2_inb (k : Fin k0_t2_loop.trips) : ∀ a, (k0_off2 k) a + S1x512x128.size a ≤ S1x512x6144.size a :=
  k0_off2_inb (grid0.coords ⟨0, by decide⟩) k cond0

/-- Trip `k`'s 128 columns of the image, in the first loop -/
def piece1 (x0 : Vec F S1x512x6144 .bf16) (k : Fin k0_t1_loop.trips) : Vec F S1x512x128 .bf16 := fun x =>
  x0 ((Rect.unit (s := S1x512x6144) (k0_off1 k) S1x512x128.size (off1_inb k)).toLoadRect.idx x)
/-- and in the second. -/
def piece2 (x0 : Vec F S1x512x6144 .bf16) (k : Fin k0_t2_loop.trips) : Vec F S1x512x128 .bf16 := fun x =>
  x0 ((Rect.unit (s := S1x512x6144) (k0_off2 k) S1x512x128.size (off2_inb k)).toLoadRect.idx x)

/-- The sums of the pixels before trip `k`. -/
def sacc (x0 : Vec F S1x512x6144 .bf16) : ℕ → FVec F S512x128 .f32
  | 0 => k0_pay2
  | k + 1 => if h : k < k0_t1_loop.trips then k0_pay3 (sacc x0 k) (piece1 x0 ⟨k, h⟩) else sacc x0 k

theorem sacc_succ (x0 : Vec F S1x512x6144 .bf16) (k : Fin k0_t1_loop.trips) :
    sacc x0 (k.val + 1) = k0_pay3 (sacc x0 k.val) (piece1 x0 k) := by
  rw [sacc, dif_pos k.isLt]

/-- The sums of the squared deviations before trip `k`, `s` the pixels' sums. -/
def qacc (s : FVec F S512x128 .f32) (x0 : Vec F S1x512x6144 .bf16) : ℕ → FVec F S512x128 .f32
  | 0 => k0_pay2
  | k + 1 => if h : k < k0_t2_loop.trips then k0_pay5 s (qacc s x0 k) (piece2 x0 ⟨k, h⟩) else qacc s x0 k

theorem qacc_succ (s : FVec F S512x128 .f32) (x0 : Vec F S1x512x6144 .bf16) (k : Fin k0_t2_loop.trips) :
    qacc s x0 (k.val + 1) = k0_pay5 s (qacc s x0 k.val) (piece2 x0 k) := by
  rw [qacc, dif_pos k.isLt]

/-- The pixels' sums, -/
def sums (x0 : Vec F S1x512x6144 .bf16) : FVec F S512x128 .f32 := sacc x0 k0_t1_loop.trips
/-- the squared deviations' sums, -/
def devs (x0 : Vec F S1x512x6144 .bf16) : FVec F S512x128 .f32 := qacc (sums x0) x0 k0_t2_loop.trips
/-- each channel's mean -/
def mean (x0 : Vec F S1x512x6144 .bf16) : FVec F S512x1 .f32 := k0_pay6 (sums x0)
/-- and multiplier. -/
def mult (x0 : Vec F S1x512x6144 .bf16) (x1 : Vec F S512x1 .f32) : FVec F S512x1 .f32 := k0_pay7 (devs x0) x1

/-- Point `i`'s tile of the image. -/
def tile (i : grid0.Coords) (x0 : Vec F S1x512x6144 .bf16) : Vec F S1x512x512 .bf16 := fun x =>
  x0 ((Rect.unit (s := S1x512x6144) (k0_off3 i) S1x512x512.size (k0_off3_inb i)).toLoadRect.idx x)

section Values

variable (xt : Vec F S1x512x512 .bf16) (mn ml x2 : Vec F S512x1 .f32)

/-- The normalised tile. -/
def outH : FVec F S512x512 .f32 := k0_pay8 xt mn ml x2
/-- Each pixel's largest absolute value, over 448. -/
def vMax : FVec F S1x512 .f32 := k0_pay9 xt mn ml x2
/-- Each pixel's scale exponent, before the case of a zero column. -/
def expo : IVec S1x512 32 := k0_pay11 (vMax xt mn ml x2) (k0_pay10 xt mn ml x2)
/-- Whether a pixel's column is zero. -/
def isZ : IVec S1x512 1 := k0_pay12 (vMax xt mn ml x2)
/-- The scale strip. -/
def outS : FVec F S1x512 .f32 := k0_pay15 (expo xt mn ml x2) (isZ xt mn ml x2)
/-- The codes -/
def outC : FVec F S512x512 .fp8e4m3 := k0_pay14 (outH xt mn ml x2) (expo xt mn ml x2) (isZ xt mn ml x2)
/-- and their block. -/
def outB : FVec F S1x512x512 .fp8e4m3 := k0_pay16 (outH xt mn ml x2) (expo xt mn ml x2) (isZ xt mn ml x2)
/-- The queries' block. -/
def outQ (w : Vec F S512x512 .fp8e4m3) (s b : Vec F S512x1 .f32) : FVec F S1x512x512 .bf16 :=
  k0_pay19 (k0_pay17 (outH xt mn ml x2) (expo xt mn ml x2) (isZ xt mn ml x2) w s) (k0_pay18 b)
/-- The keys' block, a row per pixel. -/
def outK (w : Vec F S512x512 .fp8e4m3) (s : Vec F S512x1 .f32) : FVec F S1x512x512 .bf16 :=
  k0_pay20 (outC xt mn ml x2) (outS xt mn ml x2) w s
/-- The values' block. -/
def outV (w : Vec F S512x512 .fp8e4m3) (s b : Vec F S512x1 .f32) : FVec F S1x512x512 .bf16 :=
  k0_pay1 (k0_pay21 (outC xt mn ml x2) (outS xt mn ml x2) w s b)

end Values

section Run

variable (c : Dev nD) (i : grid0.Coords) (arg2 : Memref sig .tc .vmem S1x512x6144 .bf16) (harg2 : arg2.IsWhole) (arg3 : Memref sig .tc .vmem S512x1 .f32) (harg3 : arg3.IsWhole) (arg4 : Memref sig .tc .vmem S512x1 .f32) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S512x512 .fp8e4m3) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S1x512x512 .fp8e4m3) (harg13 : arg13.IsWhole) (arg14 : Memref sig .tc .vmem S6x6144 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S512x1 .f32) (harg18 : arg18.IsWhole) (arg19 : Memref sig .tc .vmem S512x1 .f32) (harg19 : arg19.IsWhole)

set_option warn.classDefReducibility false in
set_option maxHeartbeats 1000000 in
/-- The first loop by its invariant: the image as it was, the carried sums at the recursion's state. -/
@[sl_loop] def sumLoop (k0_h1 : k0_cond1 i = 1#1) (E : Set ℕ) (x0 : Vec F S1x512x6144 .bf16) :
    Idealize.ShloMosaic.LoopInv (M := 𝕄) Idealize.ShloMosaic.frame (wpE (defs₀ (F := F)) Variants.none (c : Thread nD τ) none) E
      k0_t1_loop.lb k0_t1_loop.ub k0_t1_loop.st (k0_t1_ok i k0_h1) (k0_pay2 (F := F))
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1) where
  inv k acc := iprop((arg2.view.loc (c : Thread nD τ) ↦[arg2.view.set]{fullShare} harg2.unread x0) ∗ ⌜acc = sacc x0 k⌝)
  step k acc := by
    unfold k0_t1_body
    iintro ⟨H2, %hacc⟩
    subst hacc
    sl_exec
    sl_step
    have h2 : View.readAt (Elt F) arg2.view (Rect.unit (s := S1x512x6144) (k0_off1 k) S1x512x128.size (k0_off1_inb i k k0_h1)).toLoadRect (harg2.unread x0) = piece1 x0 k :=
      funext fun x => harg2.readAt_unread x0 _ x
    isplitl [H2]; · iexact H2
    ipureintro
    rw [sacc_succ, h2]

set_option warn.classDefReducibility false in
set_option maxHeartbeats 1000000 in
/-- The second loop likewise. -/
@[sl_loop] def devLoop (k0_h1 : k0_cond1 i = 1#1) (s : FVec F S512x128 .f32) (E : Set ℕ) (x0 : Vec F S1x512x6144 .bf16) :
    Idealize.ShloMosaic.LoopInv (M := 𝕄) Idealize.ShloMosaic.frame (wpE (defs₀ (F := F)) Variants.none (c : Thread nD τ) none) E
      k0_t2_loop.lb k0_t2_loop.ub k0_t2_loop.st (k0_t2_ok i k0_h1) (k0_pay2 (F := F))
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s) where
  inv k acc := iprop((arg2.view.loc (c : Thread nD τ) ↦[arg2.view.set]{fullShare} harg2.unread x0) ∗ ⌜acc = qacc s x0 k⌝)
  step k acc := by
    unfold k0_t2_body
    iintro ⟨H2, %hacc⟩
    subst hacc
    sl_exec
    sl_step
    have h2 : View.readAt (Elt F) arg2.view (Rect.unit (s := S1x512x6144) (k0_off2 k) S1x512x128.size (k0_off2_inb i k k0_h1)).toLoadRect (harg2.unread x0) = piece2 x0 k :=
      funext fun x => harg2.readAt_unread x0 _ x
    isplitl [H2]; · iexact H2
    ipureintro
    rw [qacc_succ, h2]

set_option maxHeartbeats 4000000 in
/-- The body's run at a batch's first tile: it computes the statistics and keeps them in the scratch. -/
theorem runFirst (hc : k0_cond1 i = 1#1) (x0 : Vec F S1x512x6144 .bf16) (x1 : Vec F S512x1 .f32) (x2 : Vec F S512x1 .f32) (x3 : Vec F S512x512 .fp8e4m3) (x4 : Vec F S512x512 .fp8e4m3) (x5 : Vec F S512x512 .fp8e4m3) (x6 : Vec F S512x1 .f32) (x7 : Vec F S512x1 .f32) (x8 : Vec F S512x1 .f32) (x9 : Vec F S512x1 .f32) (x10 : Vec F S512x1 .f32) (y : Vec F S6x6144 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare y ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outB (tile i x0) (mean x0) (mult x0 x1) x2) ∗ owns (c : Thread nD τ) arg14 fullShare (VecWindow.put y (k0_off4 i) S1x512.size (outS (tile i x0) (mean x0) (mult x0 x1) x2)) ∗ owns (c : Thread nD τ) arg15 fullShare (outQ (tile i x0) (mean x0) (mult x0 x1) x2 x3 x6 x9) ∗ owns (c : Thread nD τ) arg16 fullShare (outK (tile i x0) (mean x0) (mult x0 x1) x2 x4 x7) ∗ owns (c : Thread nD τ) arg17 fullShare (outV (tile i x0) (mean x0) (mult x0 x1) x2 x5 x8 x10) ∗ owns (c : Thread nD τ) arg18 fullShare (mean x0) ∗ owns (c : Thread nD τ) arg19 fullShare (mult x0 x1)) -∗ K ⟨⟩))
          ⊢ wp frame (wpE (defs₀ (F := F)) Variants.none (c : Thread nD τ) none) E (cc0_gn_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_gn_qkv_eq_skeleton]; unfold cc0_gn_qkv_skel
  simp only [k0_part5_eq_skeleton, k0_part2_eq_skeleton, k0_part1_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12
  sl_exec (disch := first | sl_exact hc)
  sl_step
  have h2 : View.readAt (Elt F) arg2.view (Rect.unit (s := S1x512x6144) (k0_off3 i) S1x512x512.size (k0_off3_inb i)).toLoadRect (harg2.unread x0) = tile i x0 :=
    funext fun x => harg2.readAt_unread x0 _ x
  have h3 : View.readAt (Elt F) arg3.view (Rect.unit (s := S512x1) ![0, 0] S512x1.size inb_S512x1_S512x1_0_0).toLoadRect (harg3.unread x1) = x1 :=
    (View.readAt_full arg3.view _ _).trans (harg3.read_unread _)
  have h4 : View.readAt (Elt F) arg4.view (Rect.unit (s := S512x1) ![0, 0] S512x1.size inb_S512x1_S512x1_0_0).toLoadRect (harg4.unread x2) = x2 :=
    (View.readAt_full arg4.view _ _).trans (harg4.read_unread _)
  have h5 : View.readAt (Elt F) arg5.view (Rect.unit (s := S512x512) ![0, 0] S512x512.size inb_S512x512_S512x512_0_0).toLoadRect (harg5.unread x3) = x3 :=
    (View.readAt_full arg5.view _ _).trans (harg5.read_unread _)
  have h6 : View.readAt (Elt F) arg6.view (Rect.unit (s := S512x512) ![0, 0] S512x512.size inb_S512x512_S512x512_0_0).toLoadRect (harg6.unread x4) = x4 :=
    (View.readAt_full arg6.view _ _).trans (harg6.read_unread _)
  have h7 : View.readAt (Elt F) arg7.view (Rect.unit (s := S512x512) ![0, 0] S512x512.size inb_S512x512_S512x512_0_0).toLoadRect (harg7.unread x5) = x5 :=
    (View.readAt_full arg7.view _ _).trans (harg7.read_unread _)
  have h8 : View.readAt (Elt F) arg8.view (Rect.unit (s := S512x1) ![0, 0] S512x1.size inb_S512x1_S512x1_0_0).toLoadRect (harg8.unread x6) = x6 :=
    (View.readAt_full arg8.view _ _).trans (harg8.read_unread _)
  have h9 : View.readAt (Elt F) arg9.view (Rect.unit (s := S512x1) ![0, 0] S512x1.size inb_S512x1_S512x1_0_0).toLoadRect (harg9.unread x7) = x7 :=
    (View.readAt_full arg9.view _ _).trans (harg9.read_unread _)
  have h10 : View.readAt (Elt F) arg10.view (Rect.unit (s := S512x1) ![0, 0] S512x1.size inb_S512x1_S512x1_0_0).toLoadRect (harg10.unread x8) = x8 :=
    (View.readAt_full arg10.view _ _).trans (harg10.read_unread _)
  have h11 : View.readAt (Elt F) arg11.view (Rect.unit (s := S512x1) ![0, 0] S512x1.size inb_S512x1_S512x1_0_0).toLoadRect (harg11.unread x9) = x9 :=
    (View.readAt_full arg11.view _ _).trans (harg11.read_unread _)
  have h12 : View.readAt (Elt F) arg12.view (Rect.unit (s := S512x1) ![0, 0] S512x1.size inb_S512x1_S512x1_0_0).toLoadRect (harg12.unread x10) = x10 :=
    (View.readAt_full arg12.view _ _).trans (harg12.read_unread _)
  have h18 : ∀ P, P = mean x0 → View.readAt (Elt F) arg18.view (Rect.unit (s := S512x1) ![0, 0] S512x1.size inb_S512x1_S512x1_0_0).toLoadRect (arg18.view.writes (Elt F) arg18.view.junk [⟨Rect.unit (s := S512x1) ![0, 0] S512x1.size inb_S512x1_S512x1_0_0, P⟩]) = mean x0 := by
    rintro _ rfl
    exact (View.readAt_full arg18.view _ _).trans (View.read_writes_full _ _ _ _ _)
  have h19 : ∀ P, P = mult x0 x1 → View.readAt (Elt F) arg19.view (Rect.unit (s := S512x1) ![0, 0] S512x1.size inb_S512x1_S512x1_0_0).toLoadRect (arg19.view.writes (Elt F) arg19.view.junk [⟨Rect.unit (s := S512x1) ![0, 0] S512x1.size inb_S512x1_S512x1_0_0, P⟩]) = mult x0 x1 := by
    rintro _ rfl
    exact (View.readAt_full arg19.view _ _).trans (View.read_writes_full _ _ _ _ _)
  have hm : ∀ G, G = x1 → k0_pay7 (qacc (sacc x0 k0_t1_loop.trips) x0 k0_t2_loop.trips) G = mult x0 x1 := by
    rintro _ rfl; rfl
  have hS : ∀ X A B D, X = tile i x0 → A = mean x0 → B = mult x0 x1 → D = x2 → k0_pay15 (F := F) (k0_pay11 (k0_pay9 X A B D) (k0_pay10 X A B D)) (k0_pay12 (k0_pay9 X A B D)) = outS (tile i x0) (mean x0) (mult x0 x1) x2 := by
    rintro _ _ _ _ rfl rfl rfl rfl; rfl
  have hC : ∀ X A B D, X = tile i x0 → A = mean x0 → B = mult x0 x1 → D = x2 → k0_pay16 (k0_pay8 X A B D) (k0_pay11 (k0_pay9 X A B D) (k0_pay10 X A B D)) (k0_pay12 (k0_pay9 X A B D)) = outB (tile i x0) (mean x0) (mult x0 x1) x2 := by
    rintro _ _ _ _ rfl rfl rfl rfl; rfl
  have hQ : ∀ X A B D W G J, X = tile i x0 → A = mean x0 → B = mult x0 x1 → D = x2 → W = x3 → G = x6 → J = x9 → k0_pay19 (k0_pay17 (k0_pay8 X A B D) (k0_pay11 (k0_pay9 X A B D) (k0_pay10 X A B D)) (k0_pay12 (k0_pay9 X A B D)) W G) (k0_pay18 J) = outQ (tile i x0) (mean x0) (mult x0 x1) x2 x3 x6 x9 := by
    rintro _ _ _ _ _ _ _ rfl rfl rfl rfl rfl rfl rfl; rfl
  have hK : ∀ X A B D W G, X = tile i x0 → A = mean x0 → B = mult x0 x1 → D = x2 → W = x4 → G = x7 → k0_pay20 (k0_pay14 (k0_pay8 X A B D) (k0_pay11 (k0_pay9 X A B D) (k0_pay10 X A B D)) (k0_pay12 (k0_pay9 X A B D))) (k0_pay15 (F := F) (k0_pay11 (k0_pay9 X A B D) (k0_pay10 X A B D)) (k0_pay12 (k0_pay9 X A B D))) W G = outK (tile i x0) (mean x0) (mult x0 x1) x2 x4 x7 := by
    rintro _ _ _ _ _ _ rfl rfl rfl rfl rfl rfl; rfl
  have hV : ∀ X A B D W G J, X = tile i x0 → A = mean x0 → B = mult x0 x1 → D = x2 → W = x5 → G = x8 → J = x10 → k0_pay1 (k0_pay21 (k0_pay14 (k0_pay8 X A B D) (k0_pay11 (k0_pay9 X A B D) (k0_pay10 X A B D)) (k0_pay12 (k0_pay9 X A B D))) (k0_pay15 (F := F) (k0_pay11 (k0_pay9 X A B D) (k0_pay10 X A B D)) (k0_pay12 (k0_pay9 X A B D))) W G J) = outV (tile i x0) (mean x0) (mult x0 x1) x2 x5 x8 x10 := by
    rintro _ _ _ _ _ _ _ rfl rfl rfl rfl rfl rfl rfl; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    refine (View.read_writes_full _ _ _ _ _).trans ?_
    exact (hC _ _ _ _ h2 (h18 _ rfl) (h19 _ (hm _ h3)) h4 :)
  isplitl [H12]
  · iexists _; isplitr; swap; · iexact H12
    ipureintro
    refine (View.read_writes_cons_put _ _ _ _ _ rfl).trans ?_
    rw [View.writes_nil, harg14.read_unread]
    exact congrArg (VecWindow.put y (k0_off4 i) S1x512.size) (hS _ _ _ _ h2 (h18 _ rfl) (h19 _ (hm _ h3)) h4 :)
  isplitl [H13]
  · iexists _; isplitr; swap; · iexact H13
    ipureintro
    refine (View.read_writes_full _ _ _ _ _).trans ?_
    exact (hQ _ _ _ _ _ _ _ h2 (h18 _ rfl) (h19 _ (hm _ h3)) h4 h5 h8 h11 :)
  isplitl [H14]
  · iexists _; isplitr; swap; · iexact H14
    ipureintro
    refine (View.read_writes_full _ _ _ _ _).trans ?_
    exact (hK _ _ _ _ _ _ h2 (h18 _ rfl) (h19 _ (hm _ h3)) h4 h6 h9 :)
  isplitl [H15]
  · iexists _; isplitr; swap; · iexact H15
    ipureintro
    refine (View.read_writes_full _ _ _ _ _).trans ?_
    exact (hV _ _ _ _ _ _ _ h2 (h18 _ rfl) (h19 _ (hm _ h3)) h4 h7 h10 h12 :)
  isplitl [HS0]
  · iexists _; isplitr; swap; · iexact HS0
    ipureintro
    refine (View.read_writes_full _ _ _ _ _).trans ?_
    rfl
  iexists _; isplitr; swap; · iexact HS1
  ipureintro
  refine (View.read_writes_full _ _ _ _ _).trans ?_
  exact (hm _ h3 :)

set_option maxHeartbeats 4000000 in
/-- The body's run at a later tile: it reads the statistics from the scratch. -/
theorem runLater (hc : ¬ (k0_cond1 i = 1#1)) (x0 : Vec F S1x512x6144 .bf16) (x1 : Vec F S512x1 .f32) (x2 : Vec F S512x1 .f32) (x3 : Vec F S512x512 .fp8e4m3) (x4 : Vec F S512x512 .fp8e4m3) (x5 : Vec F S512x512 .fp8e4m3) (x6 : Vec F S512x1 .f32) (x7 : Vec F S512x1 .f32) (x8 : Vec F S512x1 .f32) (x9 : Vec F S512x1 .f32) (x10 : Vec F S512x1 .f32) (mn ml : Vec F S512x1 .f32) (y : Vec F S6x6144 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare y ∗ (∃ d, owns (c : Thread nD τ) arg15 fullShare d) ∗ (∃ d, owns (c : Thread nD τ) arg16 fullShare d) ∗ (∃ d, owns (c : Thread nD τ) arg17 fullShare d) ∗ owns (c : Thread nD τ) arg18 fullShare mn ∗ owns (c : Thread nD τ) arg19 fullShare ml
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outB (tile i x0) mn ml x2) ∗ owns (c : Thread nD τ) arg14 fullShare (VecWindow.put y (k0_off4 i) S1x512.size (outS (tile i x0) mn ml x2)) ∗ owns (c : Thread nD τ) arg15 fullShare (outQ (tile i x0) mn ml x2 x3 x6 x9) ∗ owns (c : Thread nD τ) arg16 fullShare (outK (tile i x0) mn ml x2 x4 x7) ∗ owns (c : Thread nD τ) arg17 fullShare (outV (tile i x0) mn ml x2 x5 x8 x10) ∗ owns (c : Thread nD τ) arg18 fullShare mn ∗ owns (c : Thread nD τ) arg19 fullShare ml) -∗ K ⟨⟩))
          ⊢ wp frame (wpE (defs₀ (F := F)) Variants.none (c : Thread nD τ) none) E (cc0_gn_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_gn_qkv_eq_skeleton]; unfold cc0_gn_qkv_skel
  simp only [k0_part5_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12; obtain rfl := harg18.eq_unread hs0; obtain rfl := harg19.eq_unread hs1
  sl_exec (disch := first | sl_exact hc)
  sl_step
  have h2 : View.readAt (Elt F) arg2.view (Rect.unit (s := S1x512x6144) (k0_off3 i) S1x512x512.size (k0_off3_inb i)).toLoadRect (harg2.unread x0) = tile i x0 :=
    funext fun x => harg2.readAt_unread x0 _ x
  have h3 : View.readAt (Elt F) arg3.view (Rect.unit (s := S512x1) ![0, 0] S512x1.size inb_S512x1_S512x1_0_0).toLoadRect (harg3.unread x1) = x1 :=
    (View.readAt_full arg3.view _ _).trans (harg3.read_unread _)
  have h4 : View.readAt (Elt F) arg4.view (Rect.unit (s := S512x1) ![0, 0] S512x1.size inb_S512x1_S512x1_0_0).toLoadRect (harg4.unread x2) = x2 :=
    (View.readAt_full arg4.view _ _).trans (harg4.read_unread _)
  have h5 : View.readAt (Elt F) arg5.view (Rect.unit (s := S512x512) ![0, 0] S512x512.size inb_S512x512_S512x512_0_0).toLoadRect (harg5.unread x3) = x3 :=
    (View.readAt_full arg5.view _ _).trans (harg5.read_unread _)
  have h6 : View.readAt (Elt F) arg6.view (Rect.unit (s := S512x512) ![0, 0] S512x512.size inb_S512x512_S512x512_0_0).toLoadRect (harg6.unread x4) = x4 :=
    (View.readAt_full arg6.view _ _).trans (harg6.read_unread _)
  have h7 : View.readAt (Elt F) arg7.view (Rect.unit (s := S512x512) ![0, 0] S512x512.size inb_S512x512_S512x512_0_0).toLoadRect (harg7.unread x5) = x5 :=
    (View.readAt_full arg7.view _ _).trans (harg7.read_unread _)
  have h8 : View.readAt (Elt F) arg8.view (Rect.unit (s := S512x1) ![0, 0] S512x1.size inb_S512x1_S512x1_0_0).toLoadRect (harg8.unread x6) = x6 :=
    (View.readAt_full arg8.view _ _).trans (harg8.read_unread _)
  have h9 : View.readAt (Elt F) arg9.view (Rect.unit (s := S512x1) ![0, 0] S512x1.size inb_S512x1_S512x1_0_0).toLoadRect (harg9.unread x7) = x7 :=
    (View.readAt_full arg9.view _ _).trans (harg9.read_unread _)
  have h10 : View.readAt (Elt F) arg10.view (Rect.unit (s := S512x1) ![0, 0] S512x1.size inb_S512x1_S512x1_0_0).toLoadRect (harg10.unread x8) = x8 :=
    (View.readAt_full arg10.view _ _).trans (harg10.read_unread _)
  have h11 : View.readAt (Elt F) arg11.view (Rect.unit (s := S512x1) ![0, 0] S512x1.size inb_S512x1_S512x1_0_0).toLoadRect (harg11.unread x9) = x9 :=
    (View.readAt_full arg11.view _ _).trans (harg11.read_unread _)
  have h12 : View.readAt (Elt F) arg12.view (Rect.unit (s := S512x1) ![0, 0] S512x1.size inb_S512x1_S512x1_0_0).toLoadRect (harg12.unread x10) = x10 :=
    (View.readAt_full arg12.view _ _).trans (harg12.read_unread _)
  have h18 : View.readAt (Elt F) arg18.view (Rect.unit (s := S512x1) ![0, 0] S512x1.size inb_S512x1_S512x1_0_0).toLoadRect (harg18.unread mn) = mn :=
    (View.readAt_full arg18.view _ _).trans (harg18.read_unread _)
  have h19 : View.readAt (Elt F) arg19.view (Rect.unit (s := S512x1) ![0, 0] S512x1.size inb_S512x1_S512x1_0_0).toLoadRect (harg19.unread ml) = ml :=
    (View.readAt_full arg19.view _ _).trans (harg19.read_unread _)
  have hS : ∀ X A B D, X = tile i x0 → A = mn → B = ml → D = x2 → k0_pay15 (F := F) (k0_pay11 (k0_pay9 X A B D) (k0_pay10 X A B D)) (k0_pay12 (k0_pay9 X A B D)) = outS (tile i x0) mn ml x2 := by
    rintro _ _ _ _ rfl rfl rfl rfl; rfl
  have hC : ∀ X A B D, X = tile i x0 → A = mn → B = ml → D = x2 → k0_pay16 (k0_pay8 X A B D) (k0_pay11 (k0_pay9 X A B D) (k0_pay10 X A B D)) (k0_pay12 (k0_pay9 X A B D)) = outB (tile i x0) mn ml x2 := by
    rintro _ _ _ _ rfl rfl rfl rfl; rfl
  have hQ : ∀ X A B D W G J, X = tile i x0 → A = mn → B = ml → D = x2 → W = x3 → G = x6 → J = x9 → k0_pay19 (k0_pay17 (k0_pay8 X A B D) (k0_pay11 (k0_pay9 X A B D) (k0_pay10 X A B D)) (k0_pay12 (k0_pay9 X A B D)) W G) (k0_pay18 J) = outQ (tile i x0) mn ml x2 x3 x6 x9 := by
    rintro _ _ _ _ _ _ _ rfl rfl rfl rfl rfl rfl rfl; rfl
  have hK : ∀ X A B D W G, X = tile i x0 → A = mn → B = ml → D = x2 → W = x4 → G = x7 → k0_pay20 (k0_pay14 (k0_pay8 X A B D) (k0_pay11 (k0_pay9 X A B D) (k0_pay10 X A B D)) (k0_pay12 (k0_pay9 X A B D))) (k0_pay15 (F := F) (k0_pay11 (k0_pay9 X A B D) (k0_pay10 X A B D)) (k0_pay12 (k0_pay9 X A B D))) W G = outK (tile i x0) mn ml x2 x4 x7 := by
    rintro _ _ _ _ _ _ rfl rfl rfl rfl rfl rfl; rfl
  have hV : ∀ X A B D W G J, X = tile i x0 → A = mn → B = ml → D = x2 → W = x5 → G = x8 → J = x10 → k0_pay1 (k0_pay21 (k0_pay14 (k0_pay8 X A B D) (k0_pay11 (k0_pay9 X A B D) (k0_pay10 X A B D)) (k0_pay12 (k0_pay9 X A B D))) (k0_pay15 (F := F) (k0_pay11 (k0_pay9 X A B D) (k0_pay10 X A B D)) (k0_pay12 (k0_pay9 X A B D))) W G J) = outV (tile i x0) mn ml x2 x5 x8 x10 := by
    rintro _ _ _ _ _ _ _ rfl rfl rfl rfl rfl rfl rfl; rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    refine (View.read_writes_full _ _ _ _ _).trans ?_
    exact (hC _ _ _ _ h2 h18 h19 h4 :)
  isplitl [H12]
  · iexists _; isplitr; swap; · iexact H12
    ipureintro
    refine (View.read_writes_cons_put _ _ _ _ _ rfl).trans ?_
    rw [View.writes_nil, harg14.read_unread]
    exact congrArg (VecWindow.put y (k0_off4 i) S1x512.size) (hS _ _ _ _ h2 h18 h19 h4 :)
  isplitl [H13]
  · iexists _; isplitr; swap; · iexact H13
    ipureintro
    refine (View.read_writes_full _ _ _ _ _).trans ?_
    exact (hQ _ _ _ _ _ _ _ h2 h18 h19 h4 h5 h8 h11 :)
  isplitl [H14]
  · iexists _; isplitr; swap; · iexact H14
    ipureintro
    refine (View.read_writes_full _ _ _ _ _).trans ?_
    exact (hK _ _ _ _ _ _ h2 h18 h19 h4 h6 h9 :)
  isplitl [H15]
  · iexists _; isplitr; swap; · iexact H15
    ipureintro
    refine (View.read_writes_full _ _ _ _ _).trans ?_
    exact (hV _ _ _ _ _ _ _ h2 h18 h19 h4 h7 h10 h12 :)
  isplitl [HS0]
  · iexists _; isplitr; · ipureintro; exact harg18.read_unread _
    iexact HS0
  iexists _; isplitr; · ipureintro; exact harg19.read_unread _
  iexact HS1

end Run

end Cert.Prl

end
-- ==== Proof.PrlBlocks.lean ====
/- Where the prologue call's blocks lie: each window's block at a grid point, read off the arguments. -/
module

public import proofs.«01_k».proof.Proof.PrlRun
public import Idealize.ShloMosaic.Lib.Claim
public import Idealize.ShloMosaic.Lib.Pipeline.ValueKit
public import Idealize.ShloMosaic.Lib.ValueIdx
public import Idealize.ShloMosaic.Lib.Pointwise

@[expose] public section

set_option maxRecDepth 16384

noncomputable section

namespace Cert.Prl

open Cert.PrologueIdeal Cert.PrologueIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ) (c : Dev nD) (t : Fin cfg0.N)

/-- The grid point of pixel `n` of batch `b`. -/
def pt (b : Fin 6) (n : Fin 6144) : Fin cfg0.N := ⟨12 * b.val + n.val / 512, by
  have := b.isLt; have := n.isLt; show _ < 72; omega⟩

/-- A pixel's place within its tile. -/
def lane (n : Fin 6144) : Fin 512 := ⟨n.val % 512, Nat.mod_lt _ (by decide)⟩

/-- The batch of a grid point. -/
def batch (t : Fin cfg0.N) : Fin 6 := ⟨t.val / 12, by have : t.val < 72 := t.isLt; omega⟩

/-- Pixel `i` of a grid point's tile. -/
def place (t : Fin cfg0.N) (i : Fin 512) : Fin 6144 := ⟨512 * (t.val % 12) + i.val, by have : t.val < 72 := t.isLt; have := i.isLt; omega⟩

theorem batch_pt (b : Fin 6) (n : Fin 6144) : batch (pt b n) = b := Fin.ext (by
  have := n.isLt; show (12 * b.val + n.val / 512) / 12 = b.val; omega)

theorem place_pt (b : Fin 6) (n : Fin 6144) : place (pt b n) (lane n) = n := Fin.ext (by
  have := n.isLt; show 512 * ((12 * b.val + n.val / 512) % 12) + n.val % 512 = n.val; omega)

/-- Where each window's block lies at point `t`. -/
theorem idx : ∀ t : Fin cfg0.N,
    win0_0.index t = ![t.val / 12, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val / 12, 0, t.val % 12] ∧ win0_12.index t = ![0, 0]
    ∧ win0_13.index t = ![t.val / 12, 0, t.val % 12] ∧ win0_14.index t = ![t.val / 12, t.val % 12, 0]
    ∧ win0_15.index t = ![t.val / 12, 0, t.val % 12] :=
  (by decide +kernel : ∀ t : Fin grid0.N, _)

theorem read0 (d : Fin 512) (j : Fin 6144) : iblk m c 0 t (ix3 0 d j) = m ((c.tc : Thread nD τ).loc main_arg0) (ix3 (batch t) d j) := by
  blk_ext [iblk, V_main_arg0, idx t]
  rfl

theorem read3 (d i : Fin 512) : iblk m c 3 t (ix2 d i) = m ((c.tc : Thread nD τ).loc main_arg3) (ix2 d i) := by
  blk_ext [iblk, V_main_arg3, idx t]

theorem read4 (d i : Fin 512) : iblk m c 4 t (ix2 d i) = m ((c.tc : Thread nD τ).loc main_arg4) (ix2 d i) := by
  blk_ext [iblk, V_main_arg4, idx t]

theorem read5 (d i : Fin 512) : iblk m c 5 t (ix2 d i) = m ((c.tc : Thread nD τ).loc main_arg5) (ix2 d i) := by
  blk_ext [iblk, V_main_arg5, idx t]

theorem V0 (d : Fin 512) : (V m c main_v0 : FVec F S512x1 .f32) (ix2 d 0) = m ((c.tc : Thread nD τ).loc main_arg1) (ix1 d) := by
  simp only [V, hostOps0, List.flatten_cons, List.flatten_nil, List.append_nil, List.cons_append, List.nil_append]
  entry_read
  pointwise

theorem read1 (d : Fin 512) : iblk m c 1 t (ix2 d 0) = m ((c.tc : Thread nD τ).loc main_arg1) (ix1 d) := by
  rw [← V0 m c d]
  blk_ext [iblk, idx t]

theorem V1 (d : Fin 512) : (V m c main_v1 : FVec F S512x1 .f32) (ix2 d 0) = m ((c.tc : Thread nD τ).loc main_arg2) (ix1 d) := by
  simp only [V, hostOps0, List.flatten_cons, List.flatten_nil, List.append_nil, List.cons_append, List.nil_append]
  entry_read
  pointwise

theorem read2 (d : Fin 512) : iblk m c 2 t (ix2 d 0) = m ((c.tc : Thread nD τ).loc main_arg2) (ix1 d) := by
  rw [← V1 m c d]
  blk_ext [iblk, idx t]

theorem V2 (d : Fin 512) : (V m c main_v2 : FVec F S512x1 .f32) (ix2 d 0) = m ((c.tc : Thread nD τ).loc main_arg6) (ix1 d) := by
  simp only [V, hostOps0, List.flatten_cons, List.flatten_nil, List.append_nil, List.cons_append, List.nil_append]
  entry_read
  pointwise

theorem read6 (d : Fin 512) : iblk m c 6 t (ix2 d 0) = m ((c.tc : Thread nD τ).loc main_arg6) (ix1 d) := by
  rw [← V2 m c d]
  blk_ext [iblk, idx t]

theorem V3 (d : Fin 512) : (V m c main_v3 : FVec F S512x1 .f32) (ix2 d 0) = m ((c.tc : Thread nD τ).loc main_arg7) (ix1 d) := by
  simp only [V, hostOps0, List.flatten_cons, List.flatten_nil, List.append_nil, List.cons_append, List.nil_append]
  entry_read
  pointwise

theorem read7 (d : Fin 512) : iblk m c 7 t (ix2 d 0) = m ((c.tc : Thread nD τ).loc main_arg7) (ix1 d) := by
  rw [← V3 m c d]
  blk_ext [iblk, idx t]

theorem V4 (d : Fin 512) : (V m c main_v4 : FVec F S512x1 .f32) (ix2 d 0) = m ((c.tc : Thread nD τ).loc main_arg8) (ix1 d) := by
  simp only [V, hostOps0, List.flatten_cons, List.flatten_nil, List.append_nil, List.cons_append, List.nil_append]
  entry_read
  pointwise

theorem read8 (d : Fin 512) : iblk m c 8 t (ix2 d 0) = m ((c.tc : Thread nD τ).loc main_arg8) (ix1 d) := by
  rw [← V4 m c d]
  blk_ext [iblk, idx t]

theorem V5 (d : Fin 512) : (V m c main_v5 : FVec F S512x1 .f32) (ix2 d 0) = m ((c.tc : Thread nD τ).loc main_arg9) (ix1 d) := by
  simp only [V, hostOps0, List.flatten_cons, List.flatten_nil, List.append_nil, List.cons_append, List.nil_append]
  entry_read
  pointwise

theorem read9 (d : Fin 512) : iblk m c 9 t (ix2 d 0) = m ((c.tc : Thread nD τ).loc main_arg9) (ix1 d) := by
  rw [← V5 m c d]
  blk_ext [iblk, idx t]

theorem V6 (d : Fin 512) : (V m c main_v6 : FVec F S512x1 .f32) (ix2 d 0) = m ((c.tc : Thread nD τ).loc main_arg10) (ix1 d) := by
  simp only [V, hostOps0, List.flatten_cons, List.flatten_nil, List.append_nil, List.cons_append, List.nil_append]
  entry_read
  pointwise

theorem read10 (d : Fin 512) : iblk m c 10 t (ix2 d 0) = m ((c.tc : Thread nD τ).loc main_arg10) (ix1 d) := by
  rw [← V6 m c d]
  blk_ext [iblk, idx t]

/-- The image's block is the batch's. -/
theorem same0 (s : Fin cfg0.N) (h : s.val / 12 = t.val / 12) :
    (iblk m c 0 s : Vec F S1x512x6144 .bf16) = iblk m c 0 t := by
  have key : ∀ (d : Fin 512) (j : Fin 6144), iblk m c 0 s (ix3 0 d j) = iblk m c 0 t (ix3 0 d j) := fun d j => by
    rw [read0, read0, show batch s = batch t from Fin.ext h]
  have all : ∀ y : S1x512x6144.Idx, iblk m c 0 s y = iblk m c 0 t y := fun y => by
    have h0 : y 0 = (0 : Fin 1) := Fin.ext (by have : (y 0).val < 1 := (y 0).isLt; simp only [Fin.val_zero]; omega)
    rw [eq_ix3 y, h0]
    exact key (y 1) (y 2)
  exact funext all

/-- The gain's block is the same at every point. -/
theorem same1 (s : Fin cfg0.N) : (iblk m c 1 s : Vec F S512x1 .f32) = iblk m c 1 t := by
  have key : ∀ d : Fin 512, iblk m c 1 s (ix2 d 0) = iblk m c 1 t (ix2 d 0) := fun d => by
    rw [read1, read1]
  have all : ∀ y : S512x1.Idx, iblk m c 1 s y = iblk m c 1 t y := fun y => by
    have h0 : y 1 = (0 : Fin 1) := Fin.ext (by have : (y 1).val < 1 := (y 1).isLt; simp only [Fin.val_zero]; omega)
    rw [eq_ix2 y, h0]
    exact key (y 0)
  exact funext all

end Cert.Prl
end
-- ==== Proof.PrlFrame.lean ====
/- The prologue call's run: what each output block holds after its grid point (the scales' strip by strip), what the
   scratch carries from a batch's first tile to its later ones, the body's obligation, the launch. -/
module

public import proofs.«01_k».proof.Proof.PrlBlocks
public import Idealize.ShloMosaic.Lib.Pipeline.DatRel
public import Idealize.ShloMosaic.Lib.Pipeline.ArrRel

@[expose] public section

set_option maxRecDepth 16384

noncomputable section

namespace Cert.Prl

open Cert.PrologueIdeal Cert.PrologueIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! Each window's current staging memref at point `t`. -/
abbrev ms0 (t : Fin cfg0.N) : Memref sig .tc .vmem S1x512x6144 .bf16 := win0_0.stage (cfg0.slots t 0)
abbrev ms1 (t : Fin cfg0.N) : Memref sig .tc .vmem S512x1 .f32 := win0_1.stage (cfg0.slots t 1)
abbrev ms2 (t : Fin cfg0.N) : Memref sig .tc .vmem S512x1 .f32 := win0_2.stage (cfg0.slots t 2)
abbrev ms3 (t : Fin cfg0.N) : Memref sig .tc .vmem S512x512 .fp8e4m3 := win0_3.stage (cfg0.slots t 3)
abbrev ms4 (t : Fin cfg0.N) : Memref sig .tc .vmem S512x512 .fp8e4m3 := win0_4.stage (cfg0.slots t 4)
abbrev ms5 (t : Fin cfg0.N) : Memref sig .tc .vmem S512x512 .fp8e4m3 := win0_5.stage (cfg0.slots t 5)
abbrev ms6 (t : Fin cfg0.N) : Memref sig .tc .vmem S512x1 .f32 := win0_6.stage (cfg0.slots t 6)
abbrev ms7 (t : Fin cfg0.N) : Memref sig .tc .vmem S512x1 .f32 := win0_7.stage (cfg0.slots t 7)
abbrev ms8 (t : Fin cfg0.N) : Memref sig .tc .vmem S512x1 .f32 := win0_8.stage (cfg0.slots t 8)
abbrev ms9 (t : Fin cfg0.N) : Memref sig .tc .vmem S512x1 .f32 := win0_9.stage (cfg0.slots t 9)
abbrev ms10 (t : Fin cfg0.N) : Memref sig .tc .vmem S512x1 .f32 := win0_10.stage (cfg0.slots t 10)
abbrev ms11 (t : Fin cfg0.N) : Memref sig .tc .vmem S1x512x512 .fp8e4m3 := win0_11.stage (cfg0.slots t 11)
abbrev ms12 (t : Fin cfg0.N) : Memref sig .tc .vmem S6x6144 .f32 := win0_12.stage (cfg0.slots t 12)
abbrev ms13 (t : Fin cfg0.N) : Memref sig .tc .vmem S1x512x512 .bf16 := win0_13.stage (cfg0.slots t 13)
abbrev ms14 (t : Fin cfg0.N) : Memref sig .tc .vmem S1x512x512 .bf16 := win0_14.stage (cfg0.slots t 14)
abbrev ms15 (t : Fin cfg0.N) : Memref sig .tc .vmem S1x512x512 .bf16 := win0_15.stage (cfg0.slots t 15)
/-- The scratch buffers: the mean's and the multiplier's. -/
abbrev scM : Memref sig .tc .vmem S512x1 .f32 := Memref.whole cc0_scratch0
abbrev scL : Memref sig .tc .vmem S512x1 .f32 := Memref.whole cc0_scratch1

theorem PhiA_eq (c : Dev nD) :
    (Pipeline.ΦA spec0 c : sProp 𝕄)
      = iprop(iprop((∃ d, owns (c : Thread nD τ) scM fullShare d) ∗ (∃ d, owns (c : Thread nD τ) scL fullShare d)) ∗ (∃ r, prngReg c r)) := by
  unfold Pipeline.ΦA; rw [scopedRest0_eq]; simp only [scM, scL, owns_whole]; try rfl

/-! ## The blocks that the body leaves -/

/-- The mean that the scratch holds after point `t`, -/
def stM (c : Dev nD) (t : Fin cfg0.N) : FVec F S512x1 .f32 := mean (iblk m c 0 t)
/-- and the multiplier. -/
def stL (c : Dev nD) (t : Fin cfg0.N) : FVec F S512x1 .f32 := mult (iblk m c 0 t) (iblk m c 1 t)
/-- The image's tile of point `t`. -/
def xt (c : Dev nD) (t : Fin cfg0.N) : Vec F S1x512x512 .bf16 := tile (grid0.coords t) (iblk m c 0 t)
/-- The codes block of point `t`. -/
def blkC (c : Dev nD) (t : Fin cfg0.N) : FVec F S1x512x512 .fp8e4m3 := outB (xt m c t) (stM m c t) (stL m c t) (iblk m c 2 t)
/-- The scale strip of point `t`. -/
def blkS (c : Dev nD) (t : Fin cfg0.N) : FVec F S1x512 .f32 := outS (xt m c t) (stM m c t) (stL m c t) (iblk m c 2 t)
/-- The queries' block of point `t`. -/
def blkQ (c : Dev nD) (t : Fin cfg0.N) : FVec F S1x512x512 .bf16 := outQ (xt m c t) (stM m c t) (stL m c t) (iblk m c 2 t) (iblk m c 3 t) (iblk m c 6 t) (iblk m c 9 t)
/-- The keys' block of point `t`. -/
def blkK (c : Dev nD) (t : Fin cfg0.N) : FVec F S1x512x512 .bf16 := outK (xt m c t) (stM m c t) (stL m c t) (iblk m c 2 t) (iblk m c 4 t) (iblk m c 7 t)
/-- The values' block of point `t`. -/
def blkV (c : Dev nD) (t : Fin cfg0.N) : FVec F S1x512x512 .bf16 := outV (xt m c t) (stM m c t) (stL m c t) (iblk m c 2 t) (iblk m c 5 t) (iblk m c 8 t) (iblk m c 10 t)

/-- The strips of the points up to `t` hold their scales. -/
def Strips (c : Dev nD) (t : Fin cfg0.N) (X : Vec F S6x6144 .f32) : Prop :=
  ∀ s : Fin cfg0.N, s.val ≤ t.val →
    VecWindow.window X (k0_off4 (grid0.coords s)) S1x512.size (k0_off4_inb (grid0.coords s)) = blkS m c s

theorem off4_eq : ∀ t : Fin 72, k0_off4 (grid0.coords t) = ![t.val / 12, 512 * (t.val % 12)] := by decide +kernel

/-- Point `t`'s strip put in, the strips up to `t` are there. -/
theorem strips_put (c : Dev nD) (t : Fin cfg0.N) (Y : Vec F S6x6144 .f32)
    (h : ∀ s : Fin cfg0.N, s.val < t.val →
      VecWindow.window Y (k0_off4 (grid0.coords s)) S1x512.size (k0_off4_inb (grid0.coords s)) = blkS m c s) :
    Strips m c t (VecWindow.put Y (k0_off4 (grid0.coords t)) S1x512.size (blkS m c t)) := by
  intro s hs
  rcases Nat.lt_or_eq_of_le hs with hlt | heq
  · rw [← h s hlt]
    by_cases hr : s.val / 12 = t.val / 12
    · refine VecWindow.window_put_of_disjoint (s := S6x6144) _ _ _ _ _ _ _ 1 ?_
      rw [off4_eq s, off4_eq t]
      show 512 * (s.val % 12) + 512 ≤ 512 * (t.val % 12) ∨ 512 * (t.val % 12) + 512 ≤ 512 * (s.val % 12)
      omega
    · refine VecWindow.window_put_of_disjoint (s := S6x6144) _ _ _ _ _ _ _ 0 ?_
      rw [off4_eq s, off4_eq t]
      show s.val / 12 + 1 ≤ t.val / 12 ∨ t.val / 12 + 1 ≤ s.val / 12
      omega
  · obtain rfl : s = t := Fin.ext heq
    exact VecWindow.window_put_same (s := S6x6144) _ _ _ _ _

/-! ## The pipeline's data -/

/-- The output windows. -/
def outs : Fin 16 → Bool := fun w => w.val == 11 || w.val == 12 || w.val == 13 || w.val == 14 || w.val == 15

/-- What the body leaves in the outputs' buffers at point `t`. -/
def Lv (c : Dev nD) : (w : Fin cfg0.W) → Fin cfg0.N → ((cfg0.win w).block.Idx → Elt F (cfg0.win w).elt) → Prop
  | ⟨11, _⟩ => fun t X => X = blkC m c t
  | ⟨12, _⟩ => fun t X => Strips m c t X
  | ⟨13, _⟩ => fun t X => X = blkQ m c t
  | ⟨14, _⟩ => fun t X => X = blkK m c t
  | ⟨15, _⟩ => fun t X => X = blkV m c t
  | _ => fun _ _ => True

/-- The scratch with the statistics of point `t`'s batch in it. -/
def Kept (c : Dev nD) (t : Fin cfg0.N) : sProp 𝕄 :=
  iprop(iprop(owns (c : Thread nD τ) scM fullShare (stM m c t) ∗ owns (c : Thread nD τ) scL fullShare (stL m c t)) ∗ (∃ r, prngReg c r))

/-- Between the points: at a batch's start the scratch holds anything, later the batch's statistics. -/
def Inv (c : Dev nD) (p : Fin (cfg0.N + 1)) : sProp 𝕄 :=
  if h : p.val % 12 = 0 then Pipeline.ΦA spec0 c
  else Kept m c ⟨p.val - 1, by have := p.isLt; omega⟩

/-- The pipeline's data: the arrays as the region finds them, the inputs' buffers at their blocks after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨n + 16, h⟩ => absurd h (by show ¬ n + 16 < 16; omega)
  Φ p := Inv m c p
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- The data with the outputs' buffers known by `Lv`. -/
abbrev rdat (c : Dev nD) : RDat τ (Elt F) Unit ℕ (UR sig nD τ) ℕ cfg0 c := (dats m 0 c).toRRel outs (Lv m c)

/-- The scales' buffer as point `t` finds it: the strips of the points before it. -/
theorem finds12 (c : Dev nD) (t : Fin cfg0.N) (Y : Vec F S6x6144 .f32) (h : (rdat m c).Finds 12 t Y) :
    ∀ s : Fin cfg0.N, s.val < t.val →
      VecWindow.window Y (k0_off4 (grid0.coords s)) S1x512.size (k0_off4_inb (grid0.coords s)) = blkS m c s := by
  intro s hs
  have ht : t.val ≠ 0 := by omega
  have hN : t.val < 72 := t.isLt
  have hp : t.val - 1 < cfg0.N := Nat.lt_of_le_of_lt (Nat.sub_le _ _) t.isLt
  rcases ((rdat m c).finds_of_pos (w := 12) (t := t) rfl ht Y).mp h with hf | hl
  · have := (flush0_12 ⟨t.val - 1, hp⟩).mp hf
    simp only at this
    omega
  · have h' : Lv m c 12 ⟨t.val - 1, hp⟩ Y := (dats m 0 c).toRRel_leaves (w := 12) rfl hl
    exact (show Strips m c ⟨t.val - 1, hp⟩ Y from h') s (by simp only; omega)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ Y, ⌜(rdat m c).Finds 11 t Y⌝ ∗ owns (c : Thread nD τ) (ms11 t) fullShare Y)
    ∗ (∃ Y, ⌜(rdat m c).Finds 12 t Y⌝ ∗ owns (c : Thread nD τ) (ms12 t) fullShare Y)
    ∗ (∃ Y, ⌜(rdat m c).Finds 13 t Y⌝ ∗ owns (c : Thread nD τ) (ms13 t) fullShare Y)
    ∗ (∃ Y, ⌜(rdat m c).Finds 14 t Y⌝ ∗ owns (c : Thread nD τ) (ms14 t) fullShare Y)
    ∗ (∃ Y, ⌜(rdat m c).Finds 15 t Y⌝ ∗ owns (c : Thread nD τ) (ms15 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ (∃ X, ⌜Lv m c 11 t X⌝ ∗ owns (c : Thread nD τ) (ms11 t) fullShare X)
    ∗ (∃ X, ⌜Lv m c 12 t X⌝ ∗ owns (c : Thread nD τ) (ms12 t) fullShare X)
    ∗ (∃ X, ⌜Lv m c 13 t X⌝ ∗ owns (c : Thread nD τ) (ms13 t) fullShare X)
    ∗ (∃ X, ⌜Lv m c 14 t X⌝ ∗ owns (c : Thread nD τ) (ms14 t) fullShare X)
    ∗ (∃ X, ⌜Lv m c 15 t X⌝ ∗ owns (c : Thread nD τ) (ms15 t) fullShare X))

/-- A batch starts exactly where the body computes the statistics. -/
theorem cond_iff : ∀ t : Fin 72, (k0_cond1 (grid0.coords t) = 1#1) ↔ t.val % 12 = 0 := by decide +kernel

/-- The statistics kept, whether or not a batch ends here. -/
theorem keep (c : Dev nD) (t : Fin cfg0.N) : (Kept m c t : sProp 𝕄) ⊢ Inv m c t.succ := by
  unfold Inv
  split
  · rw [PhiA_eq]; unfold Kept
    iintro ⟨⟨H0, H1⟩, Hg⟩
    isplitl [H0 H1]
    · isplitl [H0]
      · iexists _; iexact H0
      iexists _; iexact H1
    iexact Hg
  · exact .rfl

/-- At a batch's later tile the scratch holds the batch's statistics. -/
theorem found (c : Dev nD) (t : Fin cfg0.N) (h : ¬ t.val % 12 = 0) : (Inv m c t.castSucc : sProp 𝕄) = Kept m c t := by
  unfold Inv
  rw [dif_neg (show ¬ t.castSucc.val % 12 = 0 from h)]
  have hd : (t.castSucc.val - 1) / 12 = t.val / 12 := by
    show (t.val - 1) / 12 = t.val / 12
    omega
  unfold Kept stM stL
  rw [same0 m c t _ hd, same1 m c t]

theorem atStart (c : Dev nD) (t : Fin cfg0.N) (h : t.val % 12 = 0) : (Inv m c t.castSucc : sProp 𝕄) = Pipeline.ΦA spec0 c := by
  unfold Inv
  rw [dif_pos (show t.castSucc.val % 12 = 0 from h)]

set_option maxHeartbeats 2000000 in
/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0, before1, before2, before3, before4, before5, before6, before7, before8, before9, before10]
  rw [show (dats m 0 c).Φ t.succ = Inv m c t.succ from rfl, show (dats m 0 c).Φ t.castSucc = Inv m c t.castSucc from rfl,
    show (dats m 0 c).owesAt () t.succ = (dats m 0 c).owesAt () t.castSucc from rfl,
    after0, after1, after2, after3, after4, after5, after6, after7, after8, after9, after10]
  by_cases hc : t.val % 12 = 0
  · have hk := (cond_iff t).mpr hc
    rw [atStart m c t hc, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, %hd12, H12⟩, ⟨%d13, -, H13⟩, ⟨%d14, -, H14⟩, ⟨%d15, -, H15⟩⟩
    iapply (runFirst c (grid0.coords t) _ _ _ _ _ _ _ _ _ _ _ _ _ _ _ _ _ _ _ _ _ _ _ _ _ _ _ _ _ _ _ _ _ _ _ _ hk (iblk m c 0 t) (iblk m c 1 t) (iblk m c 2 t) (iblk m c 3 t) (iblk m c 4 t) (iblk m c 5 t) (iblk m c 6 t) (iblk m c 7 t) (iblk m c 8 t) (iblk m c 9 t) (iblk m c 10 t) d12 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexists _; iexact H13
    isplitl [H14]; · iexists _; iexact H14
    isplitl [H15]; · iexists _; iexact H15
    isplitl [HS0]; · iexact HS0
    isplitl [HS1]; · iexact HS1
    iintro ⟨H0, H1, H2, H3, H4, H5, H6, H7, H8, H9, H10, H11, H12, H13, H14, H15, HS0, HS1⟩
    isplitl [HS0 HS1 Hg]
    · iapply (keep m c t)
      unfold Kept
      isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr; swap; · iexact H11
      ipureintro
      rfl
    isplitl [H12]
    · iexists _; isplitr; swap; · iexact H12
      ipureintro
      exact strips_put m c t d12 (finds12 m c t d12 hd12)
    isplitl [H13]
    · iexists _; isplitr; swap; · iexact H13
      ipureintro
      rfl
    isplitl [H14]
    · iexists _; isplitr; swap; · iexact H14
      ipureintro
      rfl
    iexists _; isplitr; swap; · iexact H15
    ipureintro; rfl
  · have hk := fun h => hc ((cond_iff t).mp h)
    rw [found m c t hc]
    unfold Kept
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, %hd12, H12⟩, ⟨%d13, -, H13⟩, ⟨%d14, -, H14⟩, ⟨%d15, -, H15⟩⟩
    iapply (runLater c (grid0.coords t) _ _ _ _ _ _ _ _ _ _ _ _ _ _ _ _ _ _ _ _ _ _ _ _ _ _ _ _ _ _ _ _ _ _ _ _ hk (iblk m c 0 t) (iblk m c 1 t) (iblk m c 2 t) (iblk m c 3 t) (iblk m c 4 t) (iblk m c 5 t) (iblk m c 6 t) (iblk m c 7 t) (iblk m c 8 t) (iblk m c 9 t) (iblk m c 10 t) (stM m c t) (stL m c t) d12 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexists _; iexact H13
    isplitl [H14]; · iexists _; iexact H14
    isplitl [H15]; · iexists _; iexact H15
    isplitl [HS0]; · iexact HS0
    isplitl [HS1]; · iexact HS1
    iintro ⟨H0, H1, H2, H3, H4, H5, H6, H7, H8, H9, H10, H11, H12, H13, H14, H15, HS0, HS1⟩
    isplitl [HS0 HS1 Hg]
    · iapply (keep m c t)
      unfold Kept
      isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _; isplitr; swap; · iexact H11
      ipureintro
      rfl
    isplitl [H12]
    · iexists _; isplitr; swap; · iexact H12
      ipureintro
      exact strips_put m c t d12 (finds12 m c t d12 hd12)
    isplitl [H13]
    · iexists _; isplitr; swap; · iexact H13
      ipureintro
      rfl
    isplitl [H14]
    · iexists _; isplitr; swap; · iexact H14
      ipureintro
      rfl
    iexists _; isplitr; swap; · iexact H15
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ outs (Lv m c) := fun t => by
  rw [bigSep_W0, bigSep_W0, defs₀_row]
  exact triple_restated (sound_body m c t) rfl .rfl fun _ => .rfl

theorem inv_first (c : Dev nD) : (Pipeline.ΦA spec0 c : sProp 𝕄) ⊢ Inv m c 0 := by
  unfold Inv; rw [dif_pos (by rfl)]
theorem inv_last (c : Dev nD) : (Inv m c (Fin.last cfg0.N) : sProp 𝕄) ⊢ Pipeline.ΦA spec0 c := by
  unfold Inv; rw [dif_pos (by rfl)]

set_option backward.isDefEq.respectTransparency.types false in
/-- The launch: every execution ends, the arrays as the data say, every counter at zero. -/
theorem run_main : θ_run defs (onTc (τ := τ) (main (F := F))) (s₀ m ρ)
    (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m)
    (hin := fun c => inv_first m c) (hout := fun c => inv_last m c)

end Cert.Prl

end
-- ==== Proof.PrlEnds.lean ====
/- The arrays that the prologue call ends with, element by element: each is a block of the point that covers it. -/
module

public import proofs.«01_k».proof.Proof.PrlFrame

@[expose] public section

set_option maxRecDepth 16384

noncomputable section

namespace Cert.Prl

open Cert.PrologueIdeal Cert.PrologueIdeal.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat RDat Cfg Window BodyObligationRel cellOf)

variable {F : FTy → Type} [FloatOps F] [Named F]

variable (m : (ℓ : Loc nD τ sig) → Buf (Elt F) ℓ) (ρ : Dev nD → PrngReg)

def arrC (c : Dev nD) : S6x512x6144.Idx → Elt F .fp8e4m3 := fun i => blkC m c (pt (i 0) (i 2)) (ix3 0 (i 1) (lane (i 2)))
def arrS (c : Dev nD) : S6x6144.Idx → Elt F .f32 := fun i => blkS m c (pt (i 0) (i 1)) (ix2 0 (lane (i 1)))
def arrQ (c : Dev nD) : S6x512x6144.Idx → Elt F .bf16 := fun i => blkQ m c (pt (i 0) (i 2)) (ix3 0 (i 1) (lane (i 2)))
def arrK (c : Dev nD) : S6x6144x512.Idx → Elt F .bf16 := fun i => blkK m c (pt (i 0) (i 1)) (ix3 0 (lane (i 1)) (i 2))
def arrV (c : Dev nD) : S6x512x6144.Idx → Elt F .bf16 := fun i => blkV m c (pt (i 0) (i 2)) (ix3 0 (i 1) (lane (i 2)))

/-- The last point. -/
abbrev tLast : Fin cfg0.N := ⟨71, by decide⟩

/-- A block entry, channel by pixel, is the entry of the pixel's own point. -/
theorem blk_at {α : Type} (f : Fin cfg0.N → S1x512x512.Idx → α) (t : Fin cfg0.N) (y : S1x512x512.Idx) (b : Fin 6) (d : Fin 512) (n : Fin 6144)
    (hb : b.val = t.val / 12) (hd : d.val = (y 1).val) (hn : n.val = t.val % 12 * 512 + (y 2).val) :
    f t y = f (pt b n) (ix3 0 d (lane n)) := by
  have ht : t.val < 72 := t.isLt
  have h2 : (y 2).val < 512 := (y 2).isLt
  have h0 : (y 0).val < 1 := (y 0).isLt
  have e : t = pt b n := Fin.ext (by simp only [pt]; omega)
  rw [← e]
  refine congrArg (f t) ?_
  rw [eq_ix3 y]
  have e0 : y 0 = (0 : Fin 1) := Fin.ext (by simp only [Fin.val_zero]; omega)
  have e1 : y 1 = d := Fin.ext hd.symm
  have e2 : y 2 = lane n := Fin.ext (by simp only [lane]; omega)
  rw [e0, e1, e2]

/-- The same for the keys' blocks, pixel by channel. -/
theorem blk_at' {α : Type} (f : Fin cfg0.N → S1x512x512.Idx → α) (t : Fin cfg0.N) (y : S1x512x512.Idx) (b : Fin 6) (n : Fin 6144) (d : Fin 512)
    (hb : b.val = t.val / 12) (hn : n.val = t.val % 12 * 512 + (y 1).val) (hd : d.val = (y 2).val) :
    f t y = f (pt b n) (ix3 0 (lane n) d) := by
  have ht : t.val < 72 := t.isLt
  have h2 : (y 1).val < 512 := (y 1).isLt
  have h0 : (y 0).val < 1 := (y 0).isLt
  have e : t = pt b n := Fin.ext (by simp only [pt]; omega)
  rw [← e]
  refine congrArg (f t) ?_
  rw [eq_ix3 y]
  have e0 : y 0 = (0 : Fin 1) := Fin.ext (by simp only [Fin.val_zero]; omega)
  have e1 : y 2 = d := Fin.ext hd.symm
  have e2 : y 1 = lane n := Fin.ext (by simp only [lane]; omega)
  rw [e0, e1, e2]

set_option maxHeartbeats 1000000 in
/-- What the run leaves, from its post. -/
theorem ends (r : PUnit × MemSt nD τ sig (Elt F))
    (h : (Pipeline.RDat.FramePost (cfgs 0) (fun c => rdat m c) (V m)) r) (c : Dev nD) :
    r.2.mem ((c.tc : Thread nD τ).loc main_v7_0) = arrC m c
    ∧ r.2.mem ((c.tc : Thread nD τ).loc main_v7_1) = arrS m c
    ∧ r.2.mem ((c.tc : Thread nD τ).loc main_v7_2) = arrQ m c
    ∧ r.2.mem ((c.tc : Thread nD τ).loc main_v7_3) = arrK m c
    ∧ r.2.mem ((c.tc : Thread nD τ).loc main_v7_4) = arrV m c := by
  obtain ⟨after, hL, hA⟩ := Pipeline.RDat.FramePost.exists_exact h c
  have h11 : ∀ t, after 11 t = blkC m c t := fun t => (dats m 0 c).toRRel_leaves (w := 11) rfl (hL 11 t (flush0_11 t))
  have h12 : Strips m c tLast (after 12 tLast) := (dats m 0 c).toRRel_leaves (w := 12) rfl (hL 12 tLast ((flush0_12 tLast).mpr rfl))
  have h13 : ∀ t, after 13 t = blkQ m c t := fun t => (dats m 0 c).toRRel_leaves (w := 13) rfl (hL 13 t (flush0_13 t))
  have h14 : ∀ t, after 14 t = blkK m c t := fun t => (dats m 0 c).toRRel_leaves (w := 14) rfl (hL 14 t (flush0_14 t))
  have h15 : ∀ t, after 15 t = blkV m c t := fun t => (dats m 0 c).toRRel_leaves (w := 15) rfl (hL 15 t (flush0_15 t))
  refine ⟨(hA 11).trans ?_, (hA 12).trans ?_, (hA 13).trans ?_, (hA 14).trans ?_, (hA 15).trans ?_⟩
  · refine ((rdat m c).withAfter after).arrAt_eq_of_covers 11 _ (by decide +kernel) fun t _ y => ?_
    rw [RDat.withAfter_after, h11]
    refine blk_at (blkC m c) t y _ _ _ ?_ ?_ ?_
    · blk_simp [idx t]; first | done | (idx_bounds y; omega)
    · blk_simp [idx t]
    · blk_simp [idx t]
  · refine ((rdat m c).withAfter after).arrAt_eq_of_after_last 12 tLast (by decide +kernel) _ fun j => ?_
    rw [RDat.withAfter_after]
    have hp := h12 (pt (j 0) (j 1)) (by have := (pt (j 0) (j 1)).isLt; show _ ≤ 71; change _ < 72 at this; omega)
    refine Eq.trans ?_ (congrFun hp (ix2 0 (lane (j 1))))
    refine congrArg (after 12 tLast) ?_
    have hj : (j 1).val < 6144 := (j 1).isLt
    have hk : (j 0).val < 6 := (j 0).isLt
    have e : ∀ a : Fin 2, k0_off4 (grid0.coords (pt (j 0) (j 1))) a = ![(pt (j 0) (j 1)).val / 12, 512 * ((pt (j 0) (j 1)).val % 12)] a :=
      fun a => congrFun (off4_eq (pt (j 0) (j 1))) a
    have hpt : (pt (j 0) (j 1)).val = 12 * (j 0).val + (j 1).val / 512 := rfl
    funext a
    apply Fin.ext
    rw [ValueKit.rect_emb_unit_val, e a]
    fin_cases a
    · show (j 0).val = (pt (j 0) (j 1)).val / 12 + 0
      omega
    · show (j 1).val = 512 * ((pt (j 0) (j 1)).val % 12) + (j 1).val % 512
      omega
  · refine ((rdat m c).withAfter after).arrAt_eq_of_covers 13 _ (by decide +kernel) fun t _ y => ?_
    rw [RDat.withAfter_after, h13]
    refine blk_at (blkQ m c) t y _ _ _ ?_ ?_ ?_
    · blk_simp [idx t]; first | done | (idx_bounds y; omega)
    · blk_simp [idx t]
    · blk_simp [idx t]
  · refine ((rdat m c).withAfter after).arrAt_eq_of_covers 14 _ (by decide +kernel) fun t _ y => ?_
    rw [RDat.withAfter_after, h14]
    refine blk_at' (blkK m c) t y _ _ _ ?_ ?_ ?_
    · blk_simp [idx t]; first | done | (idx_bounds y; omega)
    · blk_simp [idx t]
    · blk_simp [idx t]
  · refine ((rdat m c).withAfter after).arrAt_eq_of_covers 15 _ (by decide +kernel) fun t _ y => ?_
    rw [RDat.withAfter_after, h15]
    refine blk_at (blkV m c) t y _ _ _ ?_ ?_ ?_
    · blk_simp [idx t]; first | done | (idx_bounds y; omega)
    · blk_simp [idx t]
    · blk_simp [idx t]

/-- The arguments as they were, from the run's post. -/
theorem args_of (r : PUnit × MemSt nD τ sig (Elt F))
    (h : (Pipeline.RDat.FramePost (cfgs 0) (fun c => rdat m c) (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(Pipeline.RDat.FramePost.arr_in h c 0 rfl).trans ((A_eq m c 0).trans (V_main_arg0 m c)),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (Pipeline.RDat.FramePost.arr_in h c 3 rfl).trans ((A_eq m c 3).trans (V_main_arg3 m c)),
   (Pipeline.RDat.FramePost.arr_in h c 4 rfl).trans ((A_eq m c 4).trans (V_main_arg4 m c)),
   (Pipeline.RDat.FramePost.arr_in h c 5 rfl).trans ((A_eq m c 5).trans (V_main_arg5 m c)),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c)⟩

/-- The frame: every execution ends with the arguments unchanged and every counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => args_of m r h.1 c, h.2⟩) (run_main m ρ)

/-- The values: every execution ends with the results' arrays as said and the arguments unchanged. -/
theorem values : θ_run defs (onTc (τ := τ) (main (F := F))) ⟨m, fun _ => 0, ρ⟩ (fun r => ∀ c : Dev nD,
      r.2.mem ((c.tc : Thread nD τ).loc main_v7_0) = arrC m c
      ∧ r.2.mem ((c.tc : Thread nD τ).loc main_v7_1) = arrS m c
      ∧ r.2.mem ((c.tc : Thread nD τ).loc main_v7_2) = arrQ m c
      ∧ r.2.mem ((c.tc : Thread nD τ).loc main_v7_3) = arrK m c
      ∧ r.2.mem ((c.tc : Thread nD τ).loc main_v7_4) = arrV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨h0, h1, h2, h3, h4⟩ := ends m r h.1 c
    exact ⟨h0, h1, h2, h3, h4, args_of m r h.1 c⟩) (run_main m ρ)

end Cert.Prl

end
-- ==== Proof.PrlSpec.lean ====
module

public import proofs.«01_k».proof.Proof.AttnSpec

@[expose] public section

/-!
The results of the prologue as functions of an image, real gains `G` and offsets `B`. Both programs are shown to compute
these. The norm is taken first of a real image `X`, then of any image `x`, infinite pixels included.
-/

noncomputable section
namespace Cert.Prl
open Idealize.ShloMosaic
open Cert.Attn (expo2 lg fold_real coe_sum big)

/-- Channel `r` of group `g`. -/
def chan (g : Fin 32) (r : Fin 16) : Fin 512 := ⟨g.val * 16 + r.val, by have := g.isLt; have := r.isLt; omega⟩

/-- The group of a channel. -/
def grp (d : Fin 512) : Fin 32 := ⟨d.val / 16, by have := d.isLt; omega⟩

/-- A channel's place within its group. -/
def sub (d : Fin 512) : Fin 16 := ⟨d.val % 16, Nat.mod_lt _ (by decide)⟩

theorem chan_grp (d : Fin 512) : chan (grp d) (sub d) = d := Fin.ext (by
  show d.val / 16 * 16 + d.val % 16 = d.val; omega)

theorem grp_chan (g : Fin 32) (r : Fin 16) : grp (chan g r) = g := Fin.ext (by
  have := r.isLt; show (g.val * 16 + r.val) / 16 = g.val; omega)

/-- A group's sum over its channels and pixels. -/
def tot {M : Type} [AddCommMonoid M] (f : Fin 512 → Fin 6144 → M) (g : Fin 32) : M := ∑ r, ∑ j, f (chan g r) j

/-- The constant added to the variance. -/
def eps : ℝ := 8796093 / 8796093022208

theorem lit_eps : Ideal.ofBits .f32 0x358637BD#32 = (eps : EReal) := by
  unfold eps
  simp [Ideal.ofBits, Ideal.ieee, -EReal.coe_mul]; norm_num

theorem eps_pos : 0 < eps := by norm_num [eps]

section Norm
variable (X : Fin 6 → Fin 512 → Fin 6144 → ℝ) (G B : Fin 512 → ℝ)

/-- A group's mean, -/
def mu (b : Fin 6) (g : Fin 32) : ℝ := tot (X b) g / 98304

/-- its variance -/
def var (b : Fin 6) (g : Fin 32) : ℝ := tot (fun d j => (X b d j - mu X b (grp d)) * (X b d j - mu X b (grp d))) g / 98304

/-- and the reciprocal of its standard deviation. -/
def rs (b : Fin 6) (g : Fin 32) : ℝ := (Real.sqrt (var X b g + eps))⁻¹

/-- The normalised image. -/
def norm (b : Fin 6) (d : Fin 512) (i : Fin 6144) : ℝ := (X b d i - mu X b (grp d)) * rs X b (grp d) * G d + B d

theorem sq_le_tot (b : Fin 6) (d : Fin 512) (i : Fin 6144) :
    (X b d i - mu X b (grp d)) * (X b d i - mu X b (grp d)) ≤ 98304 * var X b (grp d) := by
  have nn : ∀ d j, 0 ≤ (X b d j - mu X b (grp d)) * (X b d j - mu X b (grp d)) := fun d j => mul_self_nonneg _
  have h1 := Finset.single_le_sum (f := fun j => (X b d j - mu X b (grp d)) * (X b d j - mu X b (grp d))) (fun j _ => nn d j) (Finset.mem_univ i)
  have h2 := Finset.single_le_sum (f := fun r => ∑ j, (X b (chan (grp d) r) j - mu X b (grp (chan (grp d) r))) * (X b (chan (grp d) r) j - mu X b (grp (chan (grp d) r))))
    (fun r _ => Finset.sum_nonneg fun j _ => nn _ j) (Finset.mem_univ (sub d))
  simp only [chan_grp] at h2
  have e : 98304 * var X b (grp d) = ∑ r, ∑ j, (X b (chan (grp d) r) j - mu X b (grp (chan (grp d) r))) * (X b (chan (grp d) r) j - mu X b (grp (chan (grp d) r))) := by
    rw [var, tot]; ring
  rw [e]
  exact h1.trans h2

theorem var_pos (b : Fin 6) (g : Fin 32) : 0 < var X b g + eps := by
  have h : 0 ≤ var X b g := div_nonneg (Finset.sum_nonneg fun _ _ => Finset.sum_nonneg fun _ _ => mul_self_nonneg _) (by norm_num)
  have := eps_pos
  linarith

/-- A normalised entry, before gain and offset, is at most 314 (`√98304` is below it). -/
theorem unit_le (b : Fin 6) (d : Fin 512) (i : Fin 6144) : |(X b d i - mu X b (grp d)) * rs X b (grp d)| ≤ 314 := by
  have hv := var_pos X b (grp d)
  have h := sq_le_tot X b d i
  have he := eps_pos
  refine abs_le_of_sq_le_sq ?_ (by norm_num)
  have e : ((X b d i - mu X b (grp d)) * rs X b (grp d)) ^ 2 = ((X b d i - mu X b (grp d)) * (X b d i - mu X b (grp d))) / (var X b (grp d) + eps) := by
    rw [mul_pow, rs, inv_pow, Real.sq_sqrt hv.le, div_eq_mul_inv]; ring
  rw [e, div_le_iff₀ hv]
  nlinarith

theorem norm_le (hG : ∀ d, |G d| ≤ 2 ^ 126) (hB : ∀ d, |B d| ≤ 2 ^ 126) (b : Fin 6) (d : Fin 512) (i : Fin 6144) :
    |norm X G B b d i| ≤ 315 * 2 ^ 126 := by
  have h : |(X b d i - mu X b (grp d)) * rs X b (grp d) * G d| ≤ 314 * 2 ^ 126 := by
    rw [abs_mul]
    exact mul_le_mul (unit_le X b d i) (hG d) (abs_nonneg _) (by norm_num)
  refine (abs_add_le _ _).trans ?_
  have := hB d
  linarith
end Norm

/-! ### Any image

The same over the extended reals. A group with an infinite pixel has an infinite mean and variance, so its deviation's reciprocal
is zero and the offset is all that is left.
-/

section Any
variable (x : Fin 6 → Fin 512 → Fin 6144 → EReal) (G B : Fin 512 → ℝ)

/-- A group's mean, -/
def emu (b : Fin 6) (g : Fin 32) : EReal := tot (x b) g * ((1 / 98304 : ℝ) : EReal)

/-- its variance -/
def evar (b : Fin 6) (g : Fin 32) : EReal :=
  tot (fun d j => (x b d j - emu x b (grp d)) * (x b d j - emu x b (grp d))) g * ((1 / 98304 : ℝ) : EReal)

/-- and the reciprocal of its standard deviation. -/
def ers (b : Fin 6) (g : Fin 32) : EReal := Ideal.rsqrt (evar x b g + (eps : EReal))

/-- The normalised image. -/
def enorm (b : Fin 6) (d : Fin 512) (i : Fin 6144) : EReal :=
  (x b d i - emu x b (grp d)) * ers x b (grp d) * (G d : EReal) + (B d : EReal)

theorem tot_coe {f : Fin 512 → Fin 6144 → EReal} {r : Fin 512 → Fin 6144 → ℝ} {g : Fin 32} (h : ∀ k j, f (chan g k) j = (r (chan g k) j : EReal)) :
    tot f g = ((tot r g : ℝ) : EReal) := by
  simp only [tot, h, coe_sum]

variable {x} {X : Fin 6 → Fin 512 → Fin 6144 → ℝ} {b : Fin 6} {g : Fin 32}

theorem emu_real (h : ∀ k j, x b (chan g k) j = (X b (chan g k) j : EReal)) : emu x b g = ((mu X b g : ℝ) : EReal) := by
  rw [emu, tot_coe h, ← EReal.coe_mul, mul_one_div, mu]

theorem ers_real (h : ∀ k j, x b (chan g k) j = (X b (chan g k) j : EReal)) : ers x b g = ((rs X b g : ℝ) : EReal) := by
  have hp := var_pos X b g
  have e : evar x b g = ((var X b g : ℝ) : EReal) := by
    rw [evar, tot_coe (r := fun d j => (X b d j - mu X b (grp d)) * (X b d j - mu X b (grp d))) fun k j => by
      rw [grp_chan, emu_real h, h, ← EReal.coe_sub, ← EReal.coe_mul], ← EReal.coe_mul, mul_one_div, var]
  rw [ers, e, ← EReal.coe_add, Ideal.rsqrt_coe, if_neg (not_lt.2 hp.le), if_neg hp.ne', rs]

/-- Infinite, of either sign. -/
def Inf (a : EReal) : Prop := a = ⊤ ∨ a = ⊥

theorem inf_add {a : EReal} (h : Inf a) (c : EReal) : Inf (a + c) := by
  obtain rfl | rfl := h
  · induction c using EReal.rec with
    | bot => exact Or.inr rfl
    | top => exact Or.inl rfl
    | coe r => exact Or.inl (EReal.top_add_coe r)
  · exact Or.inr (EReal.bot_add c)

theorem inf_sum {ι : Type} {s : Finset ι} {f : ι → EReal} {k : ι} (hk : k ∈ s) (h : Inf (f k)) : Inf (∑ i ∈ s, f i) := by
  classical
  rw [← Finset.add_sum_erase s f hk]
  exact inf_add h _

theorem inf_sub (a : EReal) {c : EReal} (h : Inf c) : Inf (a - c) := by
  rw [sub_eq_add_neg, add_comm]
  refine inf_add ?_ a
  obtain rfl | rfl := h
  · exact Or.inr rfl
  · exact Or.inl rfl

theorem inf_sq {a : EReal} (h : Inf a) : a * a = ⊤ := by
  obtain rfl | rfl := h <;> rfl

theorem sum_top {ι : Type} {s : Finset ι} (hs : s.Nonempty) {f : ι → EReal} (h : ∀ i ∈ s, f i = ⊤) : ∑ i ∈ s, f i = ⊤ := by
  classical
  rw [Finset.sum_congr rfl h]
  induction hs using Finset.Nonempty.cons_induction with
  | singleton a => simp
  | cons a s ha hs ih => rw [Finset.sum_cons, ih fun i hi => h i (Finset.mem_cons_of_mem hi)]; rfl

theorem emu_inf {k : Fin 16} {j : Fin 6144} (h : Inf (x b (chan g k) j)) : Inf (emu x b g) := by
  have ht : Inf (tot (x b) g) := inf_sum (Finset.mem_univ k) (inf_sum (Finset.mem_univ j) h)
  have hp : (0 : ℝ) < 1 / 98304 := by norm_num
  rw [emu]
  obtain e | e := ht <;> rw [e]
  · exact Or.inl (EReal.top_mul_coe_of_pos hp)
  · exact Or.inr (EReal.bot_mul_coe_of_pos hp)

theorem ers_inf (h : Inf (emu x b g)) : ers x b g = 0 := by
  have e : evar x b g = ⊤ := by
    rw [evar, tot, sum_top ⟨(0 : Fin 16), Finset.mem_univ _⟩ fun k _ => sum_top ⟨(0 : Fin 6144), Finset.mem_univ _⟩ fun j _ => by
      rw [grp_chan]; exact inf_sq (inf_sub _ h)]
    exact EReal.top_mul_coe_of_pos (by norm_num)
  rw [ers, e, EReal.top_add_coe]
  rfl

/-- The normalised image is real and bounded, whatever the image. -/
theorem enorm_real (x : Fin 6 → Fin 512 → Fin 6144 → EReal) (hG : ∀ d, |G d| ≤ 2 ^ 126) (hB : ∀ d, |B d| ≤ 2 ^ 126) :
    ∃ H : Fin 6 → Fin 512 → Fin 6144 → ℝ, (∀ b d i, enorm x G B b d i = (H b d i : EReal)) ∧ ∀ b d i, |H b d i| ≤ 315 * 2 ^ 126 := by
  have key : ∀ b d i, ∃ r : ℝ, enorm x G B b d i = (r : EReal) ∧ |r| ≤ 315 * 2 ^ 126 := fun b d i => by
    by_cases hf : ∃ k j, Inf (x b (chan (grp d) k) j)
    · obtain ⟨k, j, h⟩ := hf
      refine ⟨B d, ?_, (hB d).trans (by norm_num)⟩
      rw [enorm, ers_inf (emu_inf h), mul_zero, zero_mul, zero_add]
    · have hr : ∀ k j, x b (chan (grp d) k) j = ((x b (chan (grp d) k) j).toReal : EReal) := fun k j =>
        (EReal.coe_toReal (fun e => hf ⟨k, j, Or.inl e⟩) fun e => hf ⟨k, j, Or.inr e⟩).symm
      refine ⟨norm (fun b d j => (x b d j).toReal) G B b d i, ?_, norm_le _ _ _ hG hB b d i⟩
      have hd := hr (sub d) i
      rw [chan_grp] at hd
      rw [enorm, emu_real (X := fun b d j => (x b d j).toReal) hr, ers_real (X := fun b d j => (x b d j).toReal) hr, hd, ← EReal.coe_sub,
        ← EReal.coe_mul, ← EReal.coe_mul, ← EReal.coe_add, norm]
  choose H h hb using key
  exact ⟨H, h, hb⟩
end Any

/-! ### The quantiser -/

section Quant
variable (H : Fin 6 → Fin 512 → Fin 6144 → ℝ)

/-- The largest absolute value of a column. -/
def amax (b : Fin 6) (i : Fin 6144) : ℝ :=
  (Finset.fold max (⊥ : EReal) (fun d => ((|H b d i| : ℝ) : EReal)) Finset.univ).toReal

/-- The exponent of the column's scale. -/
def expn (b : Fin 6) (i : Fin 6144) : ℤ := expo2 (amax H b i / 448)

/-- The column's scale, a power of two. -/
def scl (b : Fin 6) (i : Fin 6144) : EReal := (((2:ℝ) ^ expn H b i : ℝ) : EReal)

/-- The column's codes: the entries over the scale, clipped to `[−448, 448]`. -/
def code (b : Fin 6) (d : Fin 512) (i : Fin 6144) : EReal :=
  min ((448 : ℝ) : EReal) (max ((-448 : ℝ) : EReal) ((H b d i * (2:ℝ) ^ (-expn H b i) : ℝ) : EReal))

/-- The projection of the dequantised column by the weights `w`, with the channels' scales `s`. -/
def proj (w : Fin 512 → Fin 512 → EReal) (s : Fin 512 → EReal) (b : Fin 6) (d : Fin 512) (i : Fin 6144) : EReal :=
  (∑ x, w x d * code H b x i) * scl H b i * s d

theorem amax_eq (b : Fin 6) (i : Fin 6144) :
    Finset.fold max (⊥ : EReal) (fun d => ((|H b d i| : ℝ) : EReal)) Finset.univ = (amax H b i : EReal) := by
  obtain ⟨r, h, -⟩ := fold_real Finset.univ ⟨(0 : Fin 512), Finset.mem_univ _⟩ fun d => |H b d i|
  rw [amax, h, EReal.toReal_coe]

theorem amax_mem (b : Fin 6) (i : Fin 6144) : ∃ d, amax H b i = |H b d i| := by
  obtain ⟨r, h, d, -, e⟩ := fold_real Finset.univ ⟨(0 : Fin 512), Finset.mem_univ _⟩ fun d => |H b d i|
  exact ⟨d, by rw [amax, h, EReal.toReal_coe, e]⟩

theorem amax_nonneg (b : Fin 6) (i : Fin 6144) : 0 ≤ amax H b i := by
  obtain ⟨d, h⟩ := amax_mem H b i
  rw [h]; exact abs_nonneg _

theorem amax_div_nonneg (b : Fin 6) (i : Fin 6144) : 0 ≤ amax H b i / 448 :=
  div_nonneg (amax_nonneg H b i) (by norm_num)

variable {H}

/-- Entries of at most `315 · 2 ^ 126` have a maximum over 448 below `2 ^ 126`. -/
theorem amax_lt (hH : ∀ b d i, |H b d i| ≤ 315 * 2 ^ 126) (b : Fin 6) (i : Fin 6144) : amax H b i / 448 < 2 ^ 126 := by
  obtain ⟨d, h⟩ := amax_mem H b i
  rw [h, div_lt_iff₀ (by norm_num)]
  refine (hH b d i).trans_lt ?_
  norm_num
end Quant

/-! ### Sums over pieces of the pixels -/

/-- Pixel `128 k + l`. -/
def pix (k : Fin 48) (l : Fin 128) : Fin 6144 := ⟨128 * k.val + l.val, by have := k.isLt; have := l.isLt; omega⟩

/-- The sum over lanes, channels and pieces is the group's sum. -/
theorem tot_pieces {M : Type} [AddCommMonoid M] (f : Fin 512 → Fin 6144 → M) (g : Fin 32) :
    ∑ l : Fin 128, ∑ r : Fin 16, ∑ k : Fin 48, f (chan g r) (pix k l) = tot f g := by
  rw [Finset.sum_comm, tot]
  refine Finset.sum_congr rfl fun r _ => ?_
  rw [Finset.sum_comm]
  have e := Fintype.sum_equiv (finProdFinEquiv (m := 48) (n := 128)) (fun p => f (chan g r) (pix p.1 p.2))
    (fun j : Fin (48 * 128) => f (chan g r) (Fin.cast (by norm_num) j)) (fun p => by
      refine congrArg (f (chan g r)) (Fin.ext ?_)
      show 128 * p.1.val + p.2.val = (finProdFinEquiv p).val
      rw [finProdFinEquiv_apply_val]; omega)
  rw [Fintype.sum_prod_type] at e
  exact e

/-! ### Literals -/

theorem lit_98304 : Ideal.ofBits .f32 0x47C00000#32 = ((98304 : ℝ) : EReal) := by
  simp [Ideal.ofBits, Ideal.ieee, -EReal.coe_mul]; norm_num
theorem lit_top : Ideal.ofBits .f32 0x7E800000#32 = ((2 ^ 126 : ℝ) : EReal) := by
  rw [show (2 ^ 126 : ℝ) = 85070591730234615865843651857942052864 by norm_num]
  simp [Ideal.ofBits, Ideal.ieee, -EReal.coe_mul]; norm_num

end Cert.Prl
end
-- ==== Proof.PrlPay.lean ====
module

public import proofs.«01_k».proof.Proof.PrlSpec
public import proofs.«01_k».proof.Proof.PrlRun
public import Idealize.ShloMosaic.Lib.Pointwise

@[expose] public section

/-!
The prologue kernel's vectors, entry by entry, over the extended reals.
-/

set_option maxRecDepth 16384

noncomputable section
namespace Cert.Prl
open Cert.PrologueIdeal Cert.PrologueIdeal.Gen Idealize.ShloMosaic Idealize.ShloMosaic.TcCoe Idealize.SL.Sem
open Cert.Attn (step search)

variable (p : Vec Ideal S1x512x128 .bf16) (a u : FVec Ideal S512x128 .f32) (x1 : Vec Ideal S512x1 .f32)

/-- The kernel's constant for the division by 98304. -/
theorem named_98304 : (Named.named κ "inv_98304" (φ := .f32) 0x372AAAAB#32 : Ideal .f32) = ((1 / 98304 : ℝ) : EReal) :=
  IdealRules.named_const.ideal_named_scalar _ _ _ _ rfl

/-- The kernel's constant for the division by 448. -/
theorem named_448 : (Named.named κ "inv_448" (φ := .f32) 0x3B124925#32 : Ideal .f32) = ((1 / 448 : ℝ) : EReal) :=
  IdealRules.named_const.ideal_named_scalar _ _ _ _ rfl

theorem pay2_at (d : Fin 512) (l : Fin 128) : k0_pay2 (F := Ideal) (ix2 d l) = 0 := by
  have : k0_pay2 (F := Ideal) (ix2 d l) = Ideal.ofBits .f32 0x00000000#32 := rfl
  rw [this]; simp

/-- One trip of the sums. -/
theorem pay3_at (d : Fin 512) (l : Fin 128) : k0_pay3 a p (ix2 d l) = a (ix2 d l) + p (ix3 0 d l) := by
  pointwise [k0_pay3]

/-- A channel's group mean from the sums. -/
theorem pay4_at (d : Fin 512) : k0_pay4 a (ix2 d 0) = (∑ l : Fin 128, ∑ r : Fin 16, a (ix2 (chan (grp d) r) l)) * ((1 / 98304 : ℝ) : EReal) := by
  rw [← named_98304]
  pointwise [k0_pay4]
  rfl

/-- One trip of the squared deviations' sums. -/
theorem pay5_at (d : Fin 512) (l : Fin 128) : k0_pay5 u a p (ix2 d l)
    = a (ix2 d l) + (p (ix3 0 d l) - k0_pay4 u (ix2 d 0)) * (p (ix3 0 d l) - k0_pay4 u (ix2 d 0)) := by
  pointwise [k0_pay5]

theorem pay6_at (d : Fin 512) : k0_pay6 a (ix2 d 0) = k0_pay4 a (ix2 d 0) := by
  pointwise [k0_pay6]

/-- A channel's multiplier from the squared deviations' sums. -/
theorem pay7_at (d : Fin 512) : k0_pay7 a x1 (ix2 d 0)
    = Ideal.rsqrt ((∑ l : Fin 128, ∑ r : Fin 16, a (ix2 (chan (grp d) r) l)) * ((1 / 98304 : ℝ) : EReal) + Ideal.ofBits .f32 0x358637BD#32) * x1 (ix2 d 0) := by
  rw [← named_98304]
  pointwise [k0_pay7]
  rfl

variable (x : Vec Ideal S1x512x512 .bf16) (mn ml x2 : Vec Ideal S512x1 .f32)

/-- The normalised tile. -/
theorem pay8_at (d i : Fin 512) : k0_pay8 x mn ml x2 (ix2 d i) = (x (ix3 0 d i) - mn (ix2 d 0)) * ml (ix2 d 0) + x2 (ix2 d 0) := by
  pointwise [k0_pay8]

/-- The column's largest absolute value, over 448. -/
theorem pay9_at (i : Fin 512) : k0_pay9 x mn ml x2 (ix2 0 i)
    = Finset.fold max (Ideal.ofBits .f32 0xFF800000#32) (fun d => FloatOps.absf (φ := .f32) (k0_pay8 x mn ml x2 (ix2 d i))) Finset.univ
      * ((1 / 448 : ℝ) : EReal) := by
  rw [← named_448]
  pointwise [k0_pay9]

/-- One step of the exponent's search, on a row. -/
def stepRow (v : FVec Ideal S1x512 .f32) (n q : IVec S1x512 32) : IVec S1x512 32 :=
  select (cmpf .olt v (bitcastToFloat .f32 (shli (addi n q) (broadcast S1x512 23#32)))) n (addi n q)

theorem stepRow_at (v : FVec Ideal S1x512 .f32) (n : IVec S1x512 32) (q : BitVec 32) (i : Fin 512) :
    stepRow v n (broadcast S1x512 q) (ix2 0 i) = step (v (ix2 0 i)) (n (ix2 0 i)) q := rfl

theorem pay10_row : k0_pay10 x mn ml x2 = stepRow (k0_pay9 x mn ml x2) (stepRow (k0_pay9 x mn ml x2) (broadcast S1x512 0#32)
    (broadcast S1x512 128#32)) (broadcast S1x512 64#32) := rfl

theorem pay11_row (v : FVec Ideal S1x512 .f32) (n : IVec S1x512 32) : k0_pay11 v n = subi (stepRow v (stepRow v (stepRow v (stepRow v (stepRow v (stepRow v n
    (broadcast S1x512 32#32)) (broadcast S1x512 16#32)) (broadcast S1x512 8#32)) (broadcast S1x512 4#32)) (broadcast S1x512 2#32))
    (broadcast S1x512 1#32)) (broadcast S1x512 126#32) := rfl

/-- The exponent found by the search. -/
theorem pay11_at (i : Fin 512) : k0_pay11 (k0_pay9 x mn ml x2) (k0_pay10 x mn ml x2) (ix2 0 i)
    = IntOp.subi (search (k0_pay9 x mn ml x2 (ix2 0 i))) 126#32 := by
  rw [pay11_row, pay10_row]
  generalize k0_pay9 x mn ml x2 = v
  have h : ∀ x y : IVec S1x512 32, subi x y (ix2 0 i) = IntOp.subi (x (ix2 0 i)) (y (ix2 0 i)) := fun _ _ => rfl
  rw [h]
  simp only [stepRow_at]
  rfl

theorem pay12_at (v : FVec Ideal S1x512 .f32) (i : Fin 512) : k0_pay12 v (ix2 0 i) = BitVec.ofBool (decide (v (ix2 0 i) = (0 : EReal))) := by
  pointwise [k0_pay12]

variable (o : FVec Ideal S512x512 .f32) (e : IVec S1x512 32) (z : IVec S1x512 1)

/-- The scale. -/
theorem pay15_at (i : Fin 512) : k0_pay15 (F := Ideal) e z (ix2 0 i)
    = Ideal.ofBits .f32 (IntOp.shli .vector (IntOp.addi (Scalar.select (z (ix2 0 i)) 0#32 (e (ix2 0 i))) 127#32) 23#32) := by
  pointwise [k0_pay15, k0_pay13]

/-- The codes. -/
theorem pay14_at (d i : Fin 512) : k0_pay14 o e z (ix2 d i)
    = min (Ideal.ofBits .f32 0x43E00000#32) (max (Ideal.ofBits .f32 0xC3E00000#32) (o (ix2 d i)
      * Ideal.ofBits .f32 (IntOp.shli .vector (IntOp.addi (IntOp.subi 0#32 (Scalar.select (z (ix2 0 i)) 0#32 (e (ix2 0 i)))) 127#32) 23#32))) := by
  pointwise [k0_pay14, k0_pay13]

theorem pay16_at (d i : Fin 512) : k0_pay16 o e z (ix3 0 d i) = k0_pay14 o e z (ix2 d i) := by
  pointwise [k0_pay16]

variable (w : Vec Ideal S512x512 .fp8e4m3) (s t : Vec Ideal S512x1 .f32) (k : FVec Ideal S512x512 .fp8e4m3) (r : FVec Ideal S1x512 .f32)

/-- The queries. -/
theorem pay19_at (d i : Fin 512) : k0_pay19 (k0_pay17 o e z w s) (k0_pay18 t) (ix3 0 d i)
    = (∑ y, w (ix2 y d) * k0_pay14 o e z (ix2 y i)) * k0_pay15 (F := Ideal) e z (ix2 0 i) * s (ix2 d 0) + t (ix2 d 0) := by
  pointwise [k0_pay19, k0_pay17, k0_pay18]

/-- The keys. -/
theorem pay20_at (i d : Fin 512) : k0_pay20 k r w s (ix3 0 i d)
    = (∑ y, w (ix2 y d) * k (ix2 y i)) * r (ix2 0 i) * s (ix2 d 0) := by
  pointwise [k0_pay20]

/-- The values. -/
theorem pay21_at (d i : Fin 512) : k0_pay1 (k0_pay21 k r w s t) (ix3 0 d i)
    = (∑ y, w (ix2 y d) * k (ix2 y i)) * r (ix2 0 i) * s (ix2 d 0) + t (ix2 d 0) := by
  pointwise [k0_pay1, k0_pay21]

end Cert.Prl
end
-- ==== Proof.PrlKernel.lean ====
module

public import proofs.«01_k».proof.Proof.PrlPay
public import proofs.«01_k».proof.Proof.PrlBlocks

@[expose] public section

/-!
The prologue kernel's block functions: its statistics are the group's mean and deviation, its tile the normalised image,
and its blocks the codes, scales and projections of that tile.
-/

set_option maxRecDepth 16384

noncomputable section
namespace Cert.Prl
open Cert.PrologueIdeal Cert.PrologueIdeal.Gen Idealize.ShloMosaic Idealize.ShloMosaic.TcCoe Idealize.SL.Sem
open Finset (range)
open Cert.Attn (coe_sum abs_real lit_bot lit_448 lit_neg448 expo2 expo2_range select_expo ofBits_expo neg_expo)

theorem off1 : ∀ k : Fin k0_t1_loop.trips, k0_off1 k = ![0, 0, 128 * k.val] := by decide +kernel
theorem off2 : ∀ k : Fin k0_t2_loop.trips, k0_off2 k = ![0, 0, 128 * k.val] := by decide +kernel
theorem off3 : ∀ t : Fin 72, k0_off3 (grid0.coords t) = ![0, 0, 512 * (t.val % 12)] := by decide +kernel
theorem trips1 : k0_t1_loop.trips = 48 := by decide +kernel
theorem trips2 : k0_t2_loop.trips = 48 := by decide +kernel

theorem piece1_at (x0 : Vec Ideal S1x512x6144 .bf16) (k : Fin k0_t1_loop.trips) (d : Fin 512) (l : Fin 128) :
    piece1 x0 k (ix3 0 d l) = x0 (ix3 0 d (pix (k.cast trips1) l)) := by
  unfold piece1
  refine congrArg x0 (funext fun n => Fin.ext ?_)
  have h := off1 k
  match n with
  | 0 => show k0_off1 k 0 + 1 * 0 = 0; rw [h]; rfl
  | 1 => show k0_off1 k 1 + 1 * d.val = d.val; rw [h, one_mul]; exact Nat.zero_add _
  | 2 => show k0_off1 k 2 + 1 * l.val = 128 * k.val + l.val; rw [h, one_mul]; rfl

theorem piece2_at (x0 : Vec Ideal S1x512x6144 .bf16) (k : Fin k0_t2_loop.trips) (d : Fin 512) (l : Fin 128) :
    piece2 x0 k (ix3 0 d l) = x0 (ix3 0 d (pix (k.cast trips2) l)) := by
  unfold piece2
  refine congrArg x0 (funext fun n => Fin.ext ?_)
  have h := off2 k
  match n with
  | 0 => show k0_off2 k 0 + 1 * 0 = 0; rw [h]; rfl
  | 1 => show k0_off2 k 1 + 1 * d.val = d.val; rw [h, one_mul]; exact Nat.zero_add _
  | 2 => show k0_off2 k 2 + 1 * l.val = 128 * k.val + l.val; rw [h, one_mul]; rfl

theorem tile_at (x0 : Vec Ideal S1x512x6144 .bf16) (t : Fin cfg0.N) (d i : Fin 512) :
    tile (grid0.coords t) x0 (ix3 0 d i) = x0 (ix3 0 d (place t i)) := by
  unfold tile
  refine congrArg x0 (funext fun n => Fin.ext ?_)
  have h := off3 t
  match n with
  | 0 => show k0_off3 (grid0.coords t) 0 + 1 * 0 = 0; rw [h]; rfl
  | 1 => show k0_off3 (grid0.coords t) 1 + 1 * d.val = d.val; rw [h, one_mul]; exact Nat.zero_add _
  | 2 => show k0_off3 (grid0.coords t) 2 + 1 * i.val = 512 * (t.val % 12) + i.val; rw [h, one_mul]; rfl

/-! ### The statistics -/

/-- The sum over the first `n` of 48 pieces. -/
def part (f : Fin 48 → EReal) (n : ℕ) : EReal := ∑ k ∈ range n, if h : k < 48 then f ⟨k, h⟩ else 0

theorem part_succ (f : Fin 48 → EReal) (k : Fin 48) : part f (k.val + 1) = part f k.val + f k := by
  rw [part, Finset.sum_range_succ, dif_pos k.isLt, part]

theorem part_all (f : Fin 48 → EReal) : part f 48 = ∑ k, f k := by
  rw [part, Finset.sum_range]
  exact Finset.sum_congr rfl fun k _ => dif_pos k.isLt

variable {x : Fin 6 → Fin 512 → Fin 6144 → EReal} {G B : Fin 512 → ℝ} {b : Fin 6}
variable {x0 : Vec Ideal S1x512x6144 .bf16} {x1 x2 : Vec Ideal S512x1 .f32}

theorem sacc_at (h0 : ∀ d j, x0 (ix3 0 d j) = x b d j) (d : Fin 512) (l : Fin 128) :
    ∀ n ≤ k0_t1_loop.trips, sacc x0 n (ix2 d l) = part (fun k => x b d (pix k l)) n
  | 0, _ => by
    refine (pay2_at d l).trans ?_
    simp [part]
  | n + 1, hn => by
    have e := sacc_succ x0 ⟨n, hn⟩
    have p := part_succ (fun k => x b d (pix k l)) (Fin.cast trips1 ⟨n, hn⟩)
    simp only [Fin.val_cast] at e p
    rw [e, pay3_at, sacc_at h0 d l n (Nat.le_of_succ_le hn), piece1_at, h0, p]

/-- The sums' entries. -/
theorem sums_at (h0 : ∀ d j, x0 (ix3 0 d j) = x b d j) (d : Fin 512) (l : Fin 128) :
    sums x0 (ix2 d l) = ∑ k, x b d (pix k l) := by
  unfold sums
  rw [sacc_at h0 d l _ le_rfl, trips1, part_all]

/-- A channel's mean from the sums. -/
theorem pay4_sums (h0 : ∀ d j, x0 (ix3 0 d j) = x b d j) (d : Fin 512) :
    k0_pay4 (sums x0) (ix2 d 0) = emu x b (grp d) := by
  rw [pay4_at]
  simp only [sums_at h0]
  rw [tot_pieces, emu]

theorem mean_at (h0 : ∀ d j, x0 (ix3 0 d j) = x b d j) (d : Fin 512) :
    mean x0 (ix2 d 0) = emu x b (grp d) := by
  unfold mean
  rw [pay6_at, pay4_sums h0]

theorem qacc_at (h0 : ∀ d j, x0 (ix3 0 d j) = x b d j) (d : Fin 512) (l : Fin 128) :
    ∀ n ≤ k0_t2_loop.trips, qacc (sums x0) x0 n (ix2 d l)
      = part (fun k => (x b d (pix k l) - emu x b (grp d)) * (x b d (pix k l) - emu x b (grp d))) n
  | 0, _ => by
    refine (pay2_at d l).trans ?_
    simp [part]
  | n + 1, hn => by
    have e := qacc_succ (sums x0) x0 ⟨n, hn⟩
    have p := part_succ (fun k => (x b d (pix k l) - emu x b (grp d)) * (x b d (pix k l) - emu x b (grp d))) (Fin.cast trips2 ⟨n, hn⟩)
    simp only [Fin.val_cast] at e p
    rw [e, pay5_at, qacc_at h0 d l n (Nat.le_of_succ_le hn), piece2_at, h0, pay4_sums h0, p]

/-- The squared deviations' sums. -/
theorem devs_at (h0 : ∀ d j, x0 (ix3 0 d j) = x b d j) (d : Fin 512) (l : Fin 128) :
    devs x0 (ix2 d l) = ∑ k, (x b d (pix k l) - emu x b (grp d)) * (x b d (pix k l) - emu x b (grp d)) := by
  unfold devs
  rw [qacc_at h0 d l _ le_rfl, trips2, part_all]

/-- A channel's multiplier. -/
theorem mult_at (h0 : ∀ d j, x0 (ix3 0 d j) = x b d j) (h1 : ∀ d, x1 (ix2 d 0) = (G d : EReal)) (d : Fin 512) :
    mult x0 x1 (ix2 d 0) = ers x b (grp d) * (G d : EReal) := by
  unfold mult
  rw [pay7_at]
  simp only [devs_at h0]
  rw [tot_pieces (fun d j => (x b d j - emu x b (grp d)) * (x b d j - emu x b (grp d))), lit_eps, h1]
  rfl

/-! ### The tile, its scale and its codes -/

section Tile
variable {H : Fin 6 → Fin 512 → Fin 6144 → ℝ} {I : Fin 512 → Fin 6144}
variable {xt : Vec Ideal S1x512x512 .bf16} {mn ml : Vec Ideal S512x1 .f32}

/-- The normalised tile. -/
theorem outH_at (hx : ∀ d i, xt (ix3 0 d i) = x b d (I i)) (hm : ∀ d, mn (ix2 d 0) = emu x b (grp d))
    (hl : ∀ d, ml (ix2 d 0) = ers x b (grp d) * (G d : EReal)) (h2 : ∀ d, x2 (ix2 d 0) = (B d : EReal)) (d i : Fin 512) :
    outH xt mn ml x2 (ix2 d i) = enorm x G B b d (I i) := by
  unfold outH
  rw [pay8_at, hx, hm, hl, h2, enorm, mul_assoc]

/-- The column's largest absolute value, over 448. -/
theorem vMax_at (h : ∀ d i, outH xt mn ml x2 (ix2 d i) = ((H b d (I i) : ℝ) : EReal)) (i : Fin 512) :
    vMax xt mn ml x2 (ix2 0 i) = ((amax H b (I i) / 448 : ℝ) : EReal) := by
  unfold outH at h
  unfold vMax
  rw [pay9_at, lit_bot]
  simp only [h, Ideal.absf_def, abs_real]
  rw [amax_eq, ← EReal.coe_mul, mul_one_div]

/-- The exponent chosen for the column. -/
theorem expo_at (hH : ∀ b d i, |H b d i| ≤ 315 * 2 ^ 126) (h : ∀ d i, outH xt mn ml x2 (ix2 d i) = ((H b d (I i) : ℝ) : EReal)) (i : Fin 512) :
    Scalar.select (isZ xt mn ml x2 (ix2 0 i)) 0#32 (expo xt mn ml x2 (ix2 0 i)) = BitVec.ofInt 32 (expn H b (I i)) := by
  have h := vMax_at h i
  unfold isZ expo
  rw [pay12_at, show vMax xt mn ml x2 = k0_pay9 xt mn ml x2 from rfl, pay11_at, ← show vMax xt mn ml x2 = k0_pay9 xt mn ml x2 from rfl, h]
  exact select_expo (amax_div_nonneg H b (I i)) (amax_lt hH b (I i))

/-- The scale. -/
theorem outS_at (hH : ∀ b d i, |H b d i| ≤ 315 * 2 ^ 126) (h : ∀ d i, outH xt mn ml x2 (ix2 d i) = ((H b d (I i) : ℝ) : EReal)) (i : Fin 512) :
    outS xt mn ml x2 (ix2 0 i) = scl H b (I i) := by
  have hr : -126 ≤ expn H b (I i) ∧ expn H b (I i) ≤ 126 := expo2_range (amax_div_nonneg H b (I i)) (amax_lt hH b (I i))
  unfold outS
  rw [pay15_at, expo_at hH h, ofBits_expo hr.1 (by omega), scl]

/-- The codes. -/
theorem outC_at (hH : ∀ b d i, |H b d i| ≤ 315 * 2 ^ 126) (h : ∀ d i, outH xt mn ml x2 (ix2 d i) = ((H b d (I i) : ℝ) : EReal)) (d i : Fin 512) :
    outC xt mn ml x2 (ix2 d i) = code H b d (I i) := by
  have hr : -126 ≤ expn H b (I i) ∧ expn H b (I i) ≤ 126 := expo2_range (amax_div_nonneg H b (I i)) (amax_lt hH b (I i))
  unfold outC
  rw [pay14_at, expo_at hH h, neg_expo, ofBits_expo (by omega) (by omega), h, lit_448, lit_neg448, ← EReal.coe_mul, code]

theorem outB_at (hH : ∀ b d i, |H b d i| ≤ 315 * 2 ^ 126) (h : ∀ d i, outH xt mn ml x2 (ix2 d i) = ((H b d (I i) : ℝ) : EReal)) (d i : Fin 512) :
    outB xt mn ml x2 (ix3 0 d i) = code H b d (I i) := by
  unfold outB
  rw [pay16_at]
  exact outC_at hH h d i

/-! ### The projections -/

variable {w : Vec Ideal S512x512 .fp8e4m3} {s t : Vec Ideal S512x1 .f32}

/-- The queries' block. -/
theorem outQ_at (hH : ∀ b d i, |H b d i| ≤ 315 * 2 ^ 126) (h : ∀ d i, outH xt mn ml x2 (ix2 d i) = ((H b d (I i) : ℝ) : EReal)) (d i : Fin 512) :
    outQ xt mn ml x2 w s t (ix3 0 d i) = @HAdd.hAdd EReal EReal EReal _ (proj H (fun x d => w (ix2 x d)) (fun d => s (ix2 d 0)) b d (I i)) (t (ix2 d 0)) := by
  have hs := outS_at hH h i
  have hc := fun x => outC_at hH h x i
  unfold outS at hs
  unfold outC at hc
  unfold outQ
  rw [pay19_at, hs, proj]
  simp only [hc]

/-- The keys' block. -/
theorem outK_at (hH : ∀ b d i, |H b d i| ≤ 315 * 2 ^ 126) (h : ∀ d i, outH xt mn ml x2 (ix2 d i) = ((H b d (I i) : ℝ) : EReal)) (i d : Fin 512) :
    outK xt mn ml x2 w s (ix3 0 i d) = proj H (fun x d => w (ix2 x d)) (fun d => s (ix2 d 0)) b d (I i) := by
  unfold outK
  rw [pay20_at, outS_at hH h, proj]
  simp only [outC_at hH h]

/-- The values' block. -/
theorem outV_at (hH : ∀ b d i, |H b d i| ≤ 315 * 2 ^ 126) (h : ∀ d i, outH xt mn ml x2 (ix2 d i) = ((H b d (I i) : ℝ) : EReal)) (d i : Fin 512) :
    outV xt mn ml x2 w s t (ix3 0 d i) = @HAdd.hAdd EReal EReal EReal _ (proj H (fun x d => w (ix2 x d)) (fun d => s (ix2 d 0)) b d (I i)) (t (ix2 d 0)) := by
  unfold outV
  rw [pay21_at, outS_at hH h, proj]
  simp only [outC_at hH h]
end Tile

end Cert.Prl
end
-- ==== Proof.PrlPre.lean ====
module

public import proofs.«01_k».proof.Proof.AttnPre
public import proofs.«01_k».proof.Proof.PrlSpec
public import proofs.«01_k».proof.Proof.Gen.Pre_bounded_gn
public import Idealize.ShloMosaic.Lib.Pointwise

@[expose] public section

/-!
The precondition: each gain and offset is a real of at most `2^126`.
-/

set_option maxRecDepth 16384

noncomputable section
namespace Cert.Prl
open Cert.Pre_bounded_gn Cert.Pre_bounded_gn.Gen Idealize.ShloMosaic Idealize.ShloMosaic.TcCoe Idealize.SL.Sem
open Cert.Attn (real_of_le)

theorem vector_real {x : FVec Ideal S512 .f32}
    (h : cmpf .ole (Host.absf x) (broadcastInDim S512 ![] bcast_S_S512 (constant S_ .f32 0x7E800000#32 : FVec Ideal S_ .f32)) = fun _ => 1#1)
    (d : Fin 512) : ∃ r : ℝ, x (ix1 d) = (r : EReal) ∧ |r| ≤ 2 ^ 126 := by
  have h := congrFun h (ix1 d)
  apply real_of_le
  rw [← lit_top, ← h]
  pointwise
  rfl

/-- Under the precondition the gain and the offset are bounded reals. -/
theorem reals {x : FVec Ideal S6x512x6144 .bf16} {ga be : FVec Ideal S512 .f32} {w3 w4 w5 : FVec Ideal S512x512 .fp8e4m3} {s6 s7 s8 b9 b10 : FVec Ideal S512 .f32}
    (h1 : (Cert.Pre_bounded_gn.fn (F := Ideal) x ga be w3 w4 w5 s6 s7 s8 b9 b10).1 = fun _ => 1#1)
    (h2 : (Cert.Pre_bounded_gn.fn (F := Ideal) x ga be w3 w4 w5 s6 s7 s8 b9 b10).2 = fun _ => 1#1) :
    ∃ G B : Fin 512 → ℝ, (∀ d, ga (ix1 d) = (G d : EReal)) ∧ (∀ d, be (ix1 d) = (B d : EReal)) ∧ (∀ d, |G d| ≤ 2 ^ 126) ∧ ∀ d, |B d| ≤ 2 ^ 126 := by
  choose G hG hg using vector_real h1
  choose B hB hb using vector_real h2
  exact ⟨G, B, hG, hB, hg, hb⟩

end Cert.Prl
end
-- ==== Proof.PrlHost.lean ====
module
public import proofs.«01_k».proof.Proof.Gen.PrologueRefIdeal.Value
public import Idealize.ShloMosaic.Lib.Claim
@[expose] public section
set_option maxRecDepth 16384
/-!
What the reference's host operations compute before its last call: one equation for each quantity of interest, over the
quantities that it is computed from. Any float instance.
-/

noncomputable section
namespace Cert.Prl.Ref
open Cert.PrologueRefIdeal Cert.PrologueRefIdeal.Gen Idealize.ShloMosaic Idealize.ShloMosaic.TcCoe Idealize.SL.Sem
variable {F : FTy → Type} [FloatOps F] (m : (ℓ : Loc nD τ sig) → Buf (Elt F) ℓ) (c : Dev nD)

/-- The image in float, its channels in groups of sixteen. -/
theorem v1_eq : (V m c main_v1 : FVec F S6x32x16x6144 .f32) = shapeCast S6x32x16x6144 ((extf .f32 · bitsLt_bf16_f32) (V m c main_arg0 : FVec F S6x512x6144 .bf16)) shapeCasts_S6x512x6144_S6x32x16x6144 := by
  simp only [V, hostOps0, hostOps0_1, hostOps0_2, hostOps0_3, List.flatten_cons, List.flatten_nil, List.append_nil,
    List.cons_append, List.nil_append]
  entry_read
  rfl

/-- Each group's sum. -/
theorem v2_eq : (V m c main_v2 : FVec F S6x32 .f32) = Host.reduceAdd (V m c main_v1 : FVec F S6x32x16x6144 .f32) (constant S_ .f32 0x00000000#32 : FVec F S_ .f32) reducesTo_S6x32x16x6144_S6x32_d2_3 h_S_ := by
  simp only [V, hostOps0, hostOps0_1, hostOps0_2, hostOps0_3, List.flatten_cons, List.flatten_nil, List.append_nil,
    List.cons_append, List.nil_append]
  entry_read
  rfl

/-- Each group's mean. -/
theorem v5_eq : (V m c main_v5 : FVec F S6x32x1x1 .f32) = Host.divf (broadcastInDim S6x32x1x1 ![0, 1] bcast_S6x32_S6x32x1x1_0_1 (V m c main_v2 : FVec F S6x32 .f32)) (broadcastInDim S6x32x1x1 ![] bcast_S_S6x32x1x1 (constant S_ .f32 0x47C00000#32 : FVec F S_ .f32)) := by
  simp only [V, hostOps0, hostOps0_1, hostOps0_2, hostOps0_3, List.flatten_cons, List.flatten_nil, List.append_nil,
    List.cons_append, List.nil_append]
  entry_read
  rfl

/-- The squared deviations' sum. -/
theorem v9_eq : (V m c main_v9 : FVec F S6x32 .f32) = Host.reduceAdd (mulf (subf (V m c main_v1 : FVec F S6x32x16x6144 .f32) (broadcastInDim S6x32x16x6144 ![0, 1, 2, 3] bcast_S6x32x1x1_S6x32x16x6144_0_1_2_3 (V m c main_v5 : FVec F S6x32x1x1 .f32))) (subf (V m c main_v1 : FVec F S6x32x16x6144 .f32) (broadcastInDim S6x32x16x6144 ![0, 1, 2, 3] bcast_S6x32x1x1_S6x32x16x6144_0_1_2_3 (V m c main_v5 : FVec F S6x32x1x1 .f32)))) (constant S_ .f32 0x00000000#32 : FVec F S_ .f32) reducesTo_S6x32x16x6144_S6x32_d2_3 h_S_ := by
  simp only [V, hostOps0, hostOps0_1, hostOps0_2, hostOps0_3, List.flatten_cons, List.flatten_nil, List.append_nil,
    List.cons_append, List.nil_append]
  entry_read
  rfl

/-- The reciprocal of the deviation. -/
theorem v17_eq : (V m c main_v17 : FVec F S6x32x1x1 .f32) = Host.rsqrt (addf (Host.divf (broadcastInDim S6x32x1x1 ![0, 1] bcast_S6x32_S6x32x1x1_0_1 (V m c main_v9 : FVec F S6x32 .f32)) (broadcastInDim S6x32x1x1 ![] bcast_S_S6x32x1x1 (constant S_ .f32 0x47C00000#32 : FVec F S_ .f32))) (broadcastInDim S6x32x1x1 ![] bcast_S_S6x32x1x1 (constant S_ .f32 0x358637BD#32 : FVec F S_ .f32))) := by
  simp only [V, hostOps0, hostOps0_1, hostOps0_2, hostOps0_3, List.flatten_cons, List.flatten_nil, List.append_nil,
    List.cons_append, List.nil_append]
  entry_read
  rfl

/-- The image less the mean, over the deviation. -/
theorem v19_eq : (V m c main_v19 : FVec F S6x32x16x6144 .f32) = mulf (subf (V m c main_v1 : FVec F S6x32x16x6144 .f32) (broadcastInDim S6x32x16x6144 ![0, 1, 2, 3] bcast_S6x32x1x1_S6x32x16x6144_0_1_2_3 (V m c main_v5 : FVec F S6x32x1x1 .f32))) (broadcastInDim S6x32x16x6144 ![0, 1, 2, 3] bcast_S6x32x1x1_S6x32x16x6144_0_1_2_3 (V m c main_v17 : FVec F S6x32x1x1 .f32)) := by
  simp only [V, hostOps0, hostOps0_1, hostOps0_2, hostOps0_3, List.flatten_cons, List.flatten_nil, List.append_nil,
    List.cons_append, List.nil_append]
  entry_read
  rfl

/-- The normalised image. -/
theorem v26_eq : (V m c main_v26 : FVec F S6x512x6144 .f32) = addf (mulf (shapeCast S6x512x6144 (V m c main_v19 : FVec F S6x32x16x6144 .f32) shapeCasts_S6x32x16x6144_S6x512x6144) (broadcastInDim S6x512x6144 ![0, 1, 2] bcast_S1x512x1_S6x512x6144_0_1_2 (broadcastInDim S1x512x1 ![1] bcast_S512_S1x512x1_1 (V m c main_arg1 : FVec F S512 .f32)))) (broadcastInDim S6x512x6144 ![0, 1, 2] bcast_S1x512x1_S6x512x6144_0_1_2 (broadcastInDim S1x512x1 ![1] bcast_S512_S1x512x1_1 (V m c main_arg2 : FVec F S512 .f32))) := by
  simp only [V, hostOps0, hostOps0_1, hostOps0_2, hostOps0_3, List.flatten_cons, List.flatten_nil, List.append_nil,
    List.cons_append, List.nil_append]
  entry_read
  rfl

/-- The largest absolute value of each column. -/
theorem v28_eq : (V m c main_v28 : FVec F S6x6144 .f32) = Host.reduce FloatOps.maximumf (Host.absf (V m c main_v26 : FVec F S6x512x6144 .f32)) (constant S_ .f32 0xFF800000#32 : FVec F S_ .f32) reducesTo_S6x512x6144_S6x6144_d1 h_S_ := by
  simp only [V, hostOps0, hostOps0_1, hostOps0_2, hostOps0_3, List.flatten_cons, List.flatten_nil, List.append_nil,
    List.cons_append, List.nil_append]
  entry_read
  rfl

/-- The exponent before clamping. -/
theorem v37_eq : (V m c main_v37 : FVec F S6x6144 .f32) = addf (Host.floor (Host.divf (Host.log (Host.divf (V m c main_v28 : FVec F S6x6144 .f32) (broadcastInDim S6x6144 ![] bcast_S_S6x6144 (constant S_ .f32 0x43E00000#32 : FVec F S_ .f32)))) (broadcastInDim S6x6144 ![] bcast_S_S6x6144 (Host.log (constant S_ .f32 0x40000000#32 : FVec F S_ .f32))))) (broadcastInDim S6x6144 ![] bcast_S_S6x6144 (constant S_ .f32 0x3F800000#32 : FVec F S_ .f32)) := by
  simp only [V, hostOps0, hostOps0_1, hostOps0_2, hostOps0_3, List.flatten_cons, List.flatten_nil, List.append_nil,
    List.cons_append, List.nil_append]
  entry_read
  rfl

/-- The exponent of the scale. -/
theorem v42_eq : (V m c main_v42 : FVec F S6x6144 .f32) = select (cmpf .oeq (V m c main_v28 : FVec F S6x6144 .f32) (broadcastInDim S6x6144 ![] bcast_S_S6x6144 (constant S_ .f32 0x00000000#32 : FVec F S_ .f32))) (broadcastInDim S6x6144 ![] bcast_S_S6x6144 (constant S_ .f32 0x00000000#32 : FVec F S_ .f32)) (maximumf (V m c main_v37 : FVec F S6x6144 .f32) (broadcastInDim S6x6144 ![] bcast_S_S6x6144 (constant S_ .f32 0xC2FC0000#32 : FVec F S_ .f32))) := by
  simp only [V, hostOps0, hostOps0_1, hostOps0_2, hostOps0_3, List.flatten_cons, List.flatten_nil, List.append_nil,
    List.cons_append, List.nil_append]
  entry_read
  rfl

/-- The scale. -/
theorem v44_eq : (V m c main_v44 : FVec F S6x6144 .f32) = Host.powf (broadcastInDim S6x6144 ![] bcast_S_S6x6144 (constant S_ .f32 0x40000000#32 : FVec F S_ .f32)) (V m c main_v42 : FVec F S6x6144 .f32) := by
  simp only [V, hostOps0, hostOps0_1, hostOps0_2, hostOps0_3, List.flatten_cons, List.flatten_nil, List.append_nil,
    List.cons_append, List.nil_append]
  entry_read
  rfl

/-- The normalised image over the scale, clipped to the range of the codes. -/
theorem v51_eq : (V m c main_v51 : FVec F S6x512x6144 .f32) = minimumf (broadcastInDim S6x512x6144 ![] bcast_S_S6x512x6144 (constant S_ .f32 0x43E00000#32 : FVec F S_ .f32)) (maximumf (broadcastInDim S6x512x6144 ![] bcast_S_S6x512x6144 (constant S_ .f32 0xC3E00000#32 : FVec F S_ .f32)) (mulf (V m c main_v26 : FVec F S6x512x6144 .f32) (broadcastInDim S6x512x6144 ![0, 1, 2] bcast_S6x1x6144_S6x512x6144_0_1_2 (broadcastInDim S6x1x6144 ![0, 2] bcast_S6x6144_S6x1x6144_0_2 (Host.powf (broadcastInDim S6x6144 ![] bcast_S_S6x6144 (constant S_ .f32 0x40000000#32 : FVec F S_ .f32)) (Host.negf (V m c main_v42 : FVec F S6x6144 .f32))))))) := by
  simp only [V, hostOps0, hostOps0_1, hostOps0_2, hostOps0_3, List.flatten_cons, List.flatten_nil, List.append_nil,
    List.cons_append, List.nil_append]
  entry_read
  rfl

end Cert.Prl.Ref
end
-- ==== Proof.PrlRef.lean ====
module

public import proofs.«01_k».proof.Proof.AttnRef
public import proofs.«01_k».proof.Proof.PrlSpec
public import proofs.«01_k».proof.Proof.Gen.PrologueRefIdeal
public import Idealize.ShloMosaic.Lib.Pointwise

@[expose] public section

/-!
The reference's host operations: from the group sums to the normalised image, its scales and the clipped quotients.
-/

set_option maxRecDepth 16384

noncomputable section
namespace Cert.Prl.Ref
open Cert.PrologueRefIdeal Cert.PrologueRefIdeal.Gen Idealize.ShloMosaic Idealize.ShloMosaic.TcCoe Idealize.SL.Sem
open Cert.Attn (coe_sum abs_real lit_bot lit_2 lit_448 lit_neg448 lit_neg126 lg expo2)
open Cert.Attn.Ref (div_real)

variable {y : Fin 6 → Fin 512 → Fin 6144 → EReal} {H : Fin 6 → Fin 512 → Fin 6144 → ℝ} {G B : Fin 512 → ℝ}
variable {x : FVec Ideal S6x512x6144 .bf16} {ga be : FVec Ideal S512 .f32}
variable {v1 v19 : FVec Ideal S6x32x16x6144 .f32} {v2 v9 : FVec Ideal S6x32 .f32} {v5 v17 : FVec Ideal S6x32x1x1 .f32}
variable {v26 v51 : FVec Ideal S6x512x6144 .f32} {v28 v37 v42 v44 : FVec Ideal S6x6144 .f32}

/-- A sum over the last two axes. -/
theorem sum_last (u : FVec Ideal S6x32x16x6144 .f32) (b : Fin 6) (g : Fin 32) :
    (Host.reduceAdd u (constant S_ .f32 0x00000000#32 : FVec Ideal S_ .f32) reducesTo_S6x32x16x6144_S6x32_d2_3 h_S_) (ix2 b g) = ∑ r, ∑ j, u (ix4 b g r j) := by
  pointwise

/-- A group's mean of a quantity. -/
theorem mean_div (u : FVec Ideal S6x32 .f32) (b : Fin 6) (g : Fin 32) :
    (Host.divf (broadcastInDim S6x32x1x1 ![0, 1] bcast_S6x32_S6x32x1x1_0_1 u) (broadcastInDim S6x32x1x1 ![] bcast_S_S6x32x1x1 (constant S_ .f32 0x47C00000#32 : FVec Ideal S_ .f32))) (ix4 b g 0 0) = Ideal.div (u (ix2 b g)) (Ideal.ofBits .f32 0x47C00000#32) := by
  pointwise

/-- Division by the number of entries in a group. -/
theorem div_count (a : EReal) : Ideal.div a ((98304 : ℝ) : EReal) = a * ((1 / 98304 : ℝ) : EReal) := by
  rw [Ideal.div, if_neg (by rw [EReal.coe_eq_zero]; norm_num), ← EReal.coe_inv, one_div]

/-- The image in groups. -/
theorem groups (hx : ∀ b d i, x (ix3 b d i) = y b d i)
    (h1 : v1 = shapeCast S6x32x16x6144 ((extf .f32 · bitsLt_bf16_f32) x) shapeCasts_S6x512x6144_S6x32x16x6144)
    (b : Fin 6) (g : Fin 32) (r : Fin 16) (i : Fin 6144) : v1 (ix4 b g r i) = y b (chan g r) i := by
  rw [h1, ← hx]; pointwise
  rfl

/-- The means. -/
theorem means (e1 : ∀ b g r i, v1 (ix4 b g r i) = y b (chan g r) i)
    (h2 : v2 = Host.reduceAdd v1 (constant S_ .f32 0x00000000#32 : FVec Ideal S_ .f32) reducesTo_S6x32x16x6144_S6x32_d2_3 h_S_)
    (h5 : v5 = Host.divf (broadcastInDim S6x32x1x1 ![0, 1] bcast_S6x32_S6x32x1x1_0_1 v2) (broadcastInDim S6x32x1x1 ![] bcast_S_S6x32x1x1 (constant S_ .f32 0x47C00000#32 : FVec Ideal S_ .f32)))
    (b : Fin 6) (g : Fin 32) : v5 (ix4 b g 0 0) = emu y b g := by
  rw [h5, mean_div, h2, sum_last]
  simp only [e1]
  rw [lit_98304, div_count, emu, tot]

/-- The reciprocal deviations. -/
theorem devs (e1 : ∀ b g r i, v1 (ix4 b g r i) = y b (chan g r) i) (e5 : ∀ b g, v5 (ix4 b g 0 0) = emu y b g)
    (h9 : v9 = Host.reduceAdd (mulf (subf v1 (broadcastInDim S6x32x16x6144 ![0, 1, 2, 3] bcast_S6x32x1x1_S6x32x16x6144_0_1_2_3 v5)) (subf v1 (broadcastInDim S6x32x16x6144 ![0, 1, 2, 3] bcast_S6x32x1x1_S6x32x16x6144_0_1_2_3 v5))) (constant S_ .f32 0x00000000#32 : FVec Ideal S_ .f32) reducesTo_S6x32x16x6144_S6x32_d2_3 h_S_)
    (h17 : v17 = Host.rsqrt (addf (Host.divf (broadcastInDim S6x32x1x1 ![0, 1] bcast_S6x32_S6x32x1x1_0_1 v9) (broadcastInDim S6x32x1x1 ![] bcast_S_S6x32x1x1 (constant S_ .f32 0x47C00000#32 : FVec Ideal S_ .f32))) (broadcastInDim S6x32x1x1 ![] bcast_S_S6x32x1x1 (constant S_ .f32 0x358637BD#32 : FVec Ideal S_ .f32))))
    (b : Fin 6) (g : Fin 32) : v17 (ix4 b g 0 0) = ers y b g := by
  have es : ∀ r i, mulf (subf v1 (broadcastInDim S6x32x16x6144 ![0, 1, 2, 3] bcast_S6x32x1x1_S6x32x16x6144_0_1_2_3 v5)) (subf v1 (broadcastInDim S6x32x16x6144 ![0, 1, 2, 3] bcast_S6x32x1x1_S6x32x16x6144_0_1_2_3 v5)) (ix4 b g r i)
      = (y b (chan g r) i - emu y b g) * (y b (chan g r) i - emu y b g) := fun r i => by
    pointwise
    rw [e1, e5]
  have e9 : v9 (ix2 b g) = tot (fun d i => (y b d i - emu y b (grp d)) * (y b d i - emu y b (grp d))) g := by
    rw [h9, sum_last]
    simp only [es, tot, grp_chan]
  have e17 : v17 (ix4 b g 0 0) = Ideal.rsqrt (@HAdd.hAdd EReal EReal EReal _ (Ideal.div (v9 (ix2 b g)) (Ideal.ofBits .f32 0x47C00000#32)) (Ideal.ofBits .f32 0x358637BD#32)) := by
    rw [h17]; pointwise
  rw [e17, e9, lit_98304, div_count, lit_eps, ers, evar]

/-- The quotients by the deviation. -/
theorem units (e1 : ∀ b g r i, v1 (ix4 b g r i) = y b (chan g r) i) (e5 : ∀ b g, v5 (ix4 b g 0 0) = emu y b g)
    (e17 : ∀ b g, v17 (ix4 b g 0 0) = ers y b g)
    (h19 : v19 = mulf (subf v1 (broadcastInDim S6x32x16x6144 ![0, 1, 2, 3] bcast_S6x32x1x1_S6x32x16x6144_0_1_2_3 v5)) (broadcastInDim S6x32x16x6144 ![0, 1, 2, 3] bcast_S6x32x1x1_S6x32x16x6144_0_1_2_3 v17))
    (b : Fin 6) (g : Fin 32) (r : Fin 16) (i : Fin 6144) : v19 (ix4 b g r i) = (y b (chan g r) i - emu y b g) * ers y b g := by
  rw [h19]; pointwise
  rw [e1, e5, e17]

/-- The groups laid out as channels again. -/
theorem channels (u : FVec Ideal S6x32x16x6144 .f32) (b : Fin 6) (d : Fin 512) (i : Fin 6144) :
    shapeCast S6x512x6144 u shapeCasts_S6x32x16x6144_S6x512x6144 (ix3 b d i) = u (ix4 b (grp d) (sub d) i) := by
  pointwise
  rfl

/-- A gain and an offset per channel. -/
theorem affine (u : FVec Ideal S6x512x6144 .f32) (b : Fin 6) (d : Fin 512) (i : Fin 6144) :
    addf (mulf u (broadcastInDim S6x512x6144 ![0, 1, 2] bcast_S1x512x1_S6x512x6144_0_1_2 (broadcastInDim S1x512x1 ![1] bcast_S512_S1x512x1_1 ga))) (broadcastInDim S6x512x6144 ![0, 1, 2] bcast_S1x512x1_S6x512x6144_0_1_2 (broadcastInDim S1x512x1 ![1] bcast_S512_S1x512x1_1 be)) (ix3 b d i) = @HAdd.hAdd EReal EReal EReal _ (u (ix3 b d i) * ga (ix1 d)) (be (ix1 d)) := by
  pointwise

/-- The normalised image. -/
theorem image (e19 : ∀ b g r i, v19 (ix4 b g r i) = (y b (chan g r) i - emu y b g) * ers y b g)
    (hg : ∀ d, ga (ix1 d) = (G d : EReal)) (hb : ∀ d, be (ix1 d) = (B d : EReal))
    (h26 : v26 = addf (mulf (shapeCast S6x512x6144 v19 shapeCasts_S6x32x16x6144_S6x512x6144) (broadcastInDim S6x512x6144 ![0, 1, 2] bcast_S1x512x1_S6x512x6144_0_1_2 (broadcastInDim S1x512x1 ![1] bcast_S512_S1x512x1_1 ga))) (broadcastInDim S6x512x6144 ![0, 1, 2] bcast_S1x512x1_S6x512x6144_0_1_2 (broadcastInDim S1x512x1 ![1] bcast_S512_S1x512x1_1 be)))
    (b : Fin 6) (d : Fin 512) (i : Fin 6144) : v26 (ix3 b d i) = enorm y G B b d i := by
  rw [h26, affine, channels, e19, chan_grp, hg, hb, enorm]

/-- The column maxima. -/
theorem maxima (h : ∀ b d i, v26 (ix3 b d i) = (H b d i : EReal))
    (h28 : v28 = Host.reduce FloatOps.maximumf (Host.absf v26) (constant S_ .f32 0xFF800000#32 : FVec Ideal S_ .f32) reducesTo_S6x512x6144_S6x6144_d1 h_S_)
    (b : Fin 6) (i : Fin 6144) : v28 (ix2 b i) = ((amax H b i : ℝ) : EReal) := by
  rw [h28]; pointwise
  rw [← amax_eq]
  simp only [lit_bot, h, Ideal.absf_def, abs_real]

/-- The exponents. -/
theorem exponents (h : ∀ b i, v28 (ix2 b i) = ((amax H b i : ℝ) : EReal))
    (h37 : v37 = addf (Host.floor (Host.divf (Host.log (Host.divf v28 (broadcastInDim S6x6144 ![] bcast_S_S6x6144 (constant S_ .f32 0x43E00000#32 : FVec Ideal S_ .f32)))) (broadcastInDim S6x6144 ![] bcast_S_S6x6144 (Host.log (constant S_ .f32 0x40000000#32 : FVec Ideal S_ .f32))))) (broadcastInDim S6x6144 ![] bcast_S_S6x6144 (constant S_ .f32 0x3F800000#32 : FVec Ideal S_ .f32)))
    (h42 : v42 = select (cmpf .oeq v28 (broadcastInDim S6x6144 ![] bcast_S_S6x6144 (constant S_ .f32 0x00000000#32 : FVec Ideal S_ .f32))) (broadcastInDim S6x6144 ![] bcast_S_S6x6144 (constant S_ .f32 0x00000000#32 : FVec Ideal S_ .f32)) (maximumf v37 (broadcastInDim S6x6144 ![] bcast_S_S6x6144 (constant S_ .f32 0xC2FC0000#32 : FVec Ideal S_ .f32))))
    (b : Fin 6) (i : Fin 6144) : v42 (ix2 b i) = (((expn H b i : ℤ) : ℝ) : EReal) := by
  have e42 : v42 (ix2 b i) = if v28 (ix2 b i) = 0 then (0 : EReal) else max (v37 (ix2 b i)) ((-126 : ℝ) : EReal) := by
    rw [h42, ← lit_neg126]; pointwise
  rw [e42, h]
  by_cases h0 : amax H b i = 0
  · rw [if_pos (by rw [h0]; rfl), expn, expo2, if_pos (by rw [h0]; norm_num)]; simp
  · have hp : 0 < amax H b i / 448 := div_pos (lt_of_le_of_ne (amax_nonneg H b i) (Ne.symm h0)) (by norm_num)
    have e37 : v37 (ix2 b i) = (((lg (amax H b i / 448) + 1 : ℤ) : ℝ) : EReal) := by
      rw [h37]; pointwise
      rw [h, lit_448, lit_2, div_real _ _ (by norm_num), Ideal.log_coe, Ideal.log_coe, if_neg (not_le.2 hp), if_neg (by norm_num),
        div_real _ _ (Real.log_pos one_lt_two).ne', Ideal.liftRound_coe]
      rw [lg]; push_cast; rfl
    rw [if_neg (by simpa using h0), e37, expn, expo2, if_neg hp.ne', Int.cast_max, EReal.coe_strictMono.monotone.map_max]
    norm_num

/-- The scales. -/
theorem scales (h : ∀ b i, v42 (ix2 b i) = (((expn H b i : ℤ) : ℝ) : EReal))
    (h44 : v44 = Host.powf (broadcastInDim S6x6144 ![] bcast_S_S6x6144 (constant S_ .f32 0x40000000#32 : FVec Ideal S_ .f32)) v42)
    (b : Fin 6) (i : Fin 6144) : v44 (ix2 b i) = scl H b i := by
  rw [h44]; pointwise
  rw [h, lit_2, Ideal.pow_coe_coe, scl]
  exact congrArg _ (Real.rpow_intCast 2 _)

/-- The clipped quotients. -/
theorem codes (h : ∀ b i, v42 (ix2 b i) = (((expn H b i : ℤ) : ℝ) : EReal))
    (ho : ∀ b d i, v26 (ix3 b d i) = (H b d i : EReal))
    (h51 : v51 = minimumf (broadcastInDim S6x512x6144 ![] bcast_S_S6x512x6144 (constant S_ .f32 0x43E00000#32 : FVec Ideal S_ .f32)) (maximumf (broadcastInDim S6x512x6144 ![] bcast_S_S6x512x6144 (constant S_ .f32 0xC3E00000#32 : FVec Ideal S_ .f32)) (mulf v26 (broadcastInDim S6x512x6144 ![0, 1, 2] bcast_S6x1x6144_S6x512x6144_0_1_2 (broadcastInDim S6x1x6144 ![0, 2] bcast_S6x6144_S6x1x6144_0_2 (Host.powf (broadcastInDim S6x6144 ![] bcast_S_S6x6144 (constant S_ .f32 0x40000000#32 : FVec Ideal S_ .f32)) (Host.negf v42)))))))
    (b : Fin 6) (d : Fin 512) (i : Fin 6144) : v51 (ix3 b d i) = code H b d i := by
  rw [h51]; pointwise
  rw [h, ho, lit_2, lit_448, lit_neg448, ← EReal.coe_neg, Ideal.pow_coe_coe, code, ← Int.cast_neg, ← EReal.coe_mul]
  rw [show Real.rpow 2 ((-expn H b i : ℤ) : ℝ) = (2:ℝ) ^ (-expn H b i) from Real.rpow_intCast 2 _]

end Cert.Prl.Ref
end
-- ==== Proof.PrlRefEnds.lean ====
module

public import proofs.«01_k».proof.Proof.PrlHost
public import proofs.«01_k».proof.Proof.PrlRef
public import Idealize.ShloMosaic.Lib.Pipeline.ValueKit

@[expose] public section

/-!
The reference's results on a real image: the codes, the scales and the three projections.
-/

set_option maxRecDepth 16384

noncomputable section
namespace Cert.Prl.Ref
open Cert.PrologueRefIdeal Cert.PrologueRefIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)
variable {x : Fin 6 → Fin 512 → Fin 6144 → EReal} {G B : Fin 512 → ℝ} {H : Fin 6 → Fin 512 → Fin 6144 → ℝ}

/-- The launch has image `x`, and real gain `G` and offset `B`, and the normalised image is the real `H`. -/
structure Reals (m : (ℓ : Loc nD τ sig) → Buf (Elt Ideal) ℓ) (c : Dev nD) (x : Fin 6 → Fin 512 → Fin 6144 → EReal)
    (G B : Fin 512 → ℝ) (H : Fin 6 → Fin 512 → Fin 6144 → ℝ) : Prop where
  image : ∀ b d i, (m ((c.tc : Thread nD τ).loc main_arg0) : FVec Ideal S6x512x6144 .bf16) (ix3 b d i) = x b d i
  gain : ∀ d, (m ((c.tc : Thread nD τ).loc main_arg1) : FVec Ideal S512 .f32) (ix1 d) = (G d : EReal)
  offset : ∀ d, (m ((c.tc : Thread nD τ).loc main_arg2) : FVec Ideal S512 .f32) (ix1 d) = (B d : EReal)
  norm : ∀ b d i, enorm x G B b d i = (H b d i : EReal)

variable {m c}

theorem group_at (h : Reals m c x G B H) (b : Fin 6) (g : Fin 32) (r : Fin 16) (i : Fin 6144) :
    (V m c main_v1 : FVec Ideal S6x32x16x6144 .f32) (ix4 b g r i) = x b (chan g r) i :=
  groups (fun b d i => (congrFun (V_main_arg0 m c) _).trans (h.image b d i)) (v1_eq m c) b g r i

theorem mu_at (h : Reals m c x G B H) (b : Fin 6) (g : Fin 32) :
    (V m c main_v5 : FVec Ideal S6x32x1x1 .f32) (ix4 b g 0 0) = emu x b g :=
  means (group_at h) (v2_eq m c) (v5_eq m c) b g

theorem rs_at (h : Reals m c x G B H) (b : Fin 6) (g : Fin 32) :
    (V m c main_v17 : FVec Ideal S6x32x1x1 .f32) (ix4 b g 0 0) = ers x b g :=
  devs (group_at h) (mu_at h) (v9_eq m c) (v17_eq m c) b g

/-- The normalised image. -/
theorem norm_at (h : Reals m c x G B H) (b : Fin 6) (d : Fin 512) (i : Fin 6144) :
    (V m c main_v26 : FVec Ideal S6x512x6144 .f32) (ix3 b d i) = (H b d i : EReal) :=
  (image (units (group_at h) (mu_at h) (rs_at h) (v19_eq m c)) (fun d => (congrFun (V_main_arg1 m c) _).trans (h.gain d))
    (fun d => (congrFun (V_main_arg2 m c) _).trans (h.offset d)) (v26_eq m c) b d i).trans (h.norm b d i)

theorem expn_at (h : Reals m c x G B H) (b : Fin 6) (i : Fin 6144) :
    (V m c main_v42 : FVec Ideal S6x6144 .f32) (ix2 b i) = (((expn H b i : ℤ) : ℝ) : EReal) :=
  exponents (maxima (norm_at h) (v28_eq m c)) (v37_eq m c) (v42_eq m c) b i

/-- The scales. -/
theorem scl_at (h : Reals m c x G B H) (b : Fin 6) (i : Fin 6144) :
    (V m c main_v44 : FVec Ideal S6x6144 .f32) (ix2 b i) = scl H b i :=
  scales (expn_at h) (v44_eq m c) b i

/-- The clipped quotients. -/
theorem code_at (h : Reals m c x G B H) (b : Fin 6) (d : Fin 512) (i : Fin 6144) :
    (V m c main_v51 : FVec Ideal S6x512x6144 .f32) (ix3 b d i) = code H b d i :=
  codes (expn_at h) (norm_at h) (v51_eq m c) b d i

/-! ### The last call -/

section Last
variable (x0 : Vec Ideal S6x512x6144 .f32) (x1 : Vec Ideal S6x6144 .f32) (w : Vec Ideal S512x512 .fp8e4m3) (s t : Vec Ideal S512 .f32)

theorem pay2_at (b : Fin 6) (d : Fin 512) (i : Fin 6144) : k0_pay2 x0 (ix3 b d i) = x0 (ix3 b d i) := by
  pointwise [k0_pay2]

theorem pay4_at (b : Fin 6) (d : Fin 512) (i : Fin 6144) : k0_pay4 x0 x1 w s t (ix3 b d i)
    = (∑ x, w (ix2 x d) * x0 (ix3 b x i)) * x1 (ix2 b i) * s (ix1 d) + t (ix1 d) := by
  pointwise [k0_pay4, k0_pay2, k0_pay3]

theorem pay5_at (b : Fin 6) (i : Fin 6144) (d : Fin 512) : k0_pay5 x0 x1 w s (ix3 b i d)
    = (∑ x, w (ix2 x d) * x0 (ix3 b x i)) * x1 (ix2 b i) * s (ix1 d) := by
  pointwise [k0_pay5, k0_pay2, k0_pay3]

theorem pay1_at (b : Fin 6) (d : Fin 512) (i : Fin 6144) : k0_pay1 (k0_pay2 x0) (k0_pay3 x1) w s t (ix3 b d i)
    = (∑ x, w (ix2 x d) * x0 (ix3 b x i)) * x1 (ix2 b i) * s (ix1 d) + t (ix1 d) := by
  pointwise [k0_pay1, k0_pay2, k0_pay3]
end Last

variable (m c)

theorem idx : win0_0.index t0_0 = ![0, 0, 0] ∧ win0_1.index t0_0 = ![0, 0] ∧ win0_2.index t0_0 = ![0, 0] ∧ win0_3.index t0_0 = ![0, 0] ∧ win0_4.index t0_0 = ![0, 0] ∧ win0_5.index t0_0 = ![0] ∧ win0_6.index t0_0 = ![0] ∧ win0_7.index t0_0 = ![0] ∧ win0_8.index t0_0 = ![0] ∧ win0_9.index t0_0 = ![0] := by decide +kernel

theorem whole0 (v : FVec Ideal S6x512x6144 .f32) : ((cfg0.win 0).blk t0_0).view.read (Elt Ideal) v = v := by
  blk_ext! [idx]
theorem blk0 : iblk m c 0 t0_0 = V m c main_v51 := whole0 _

theorem whole1 (v : FVec Ideal S6x6144 .f32) : ((cfg0.win 1).blk t0_0).view.read (Elt Ideal) v = v := by
  blk_ext! [idx]
theorem blk1 : iblk m c 1 t0_0 = V m c main_v44 := whole1 _

theorem whole2 (v : FVec Ideal S512x512 .fp8e4m3) : ((cfg0.win 2).blk t0_0).view.read (Elt Ideal) v = v := by
  blk_ext! [idx]
theorem blk2 : iblk m c 2 t0_0 = V m c main_arg3 := whole2 _

theorem whole3 (v : FVec Ideal S512x512 .fp8e4m3) : ((cfg0.win 3).blk t0_0).view.read (Elt Ideal) v = v := by
  blk_ext! [idx]
theorem blk3 : iblk m c 3 t0_0 = V m c main_arg4 := whole3 _

theorem whole4 (v : FVec Ideal S512x512 .fp8e4m3) : ((cfg0.win 4).blk t0_0).view.read (Elt Ideal) v = v := by
  blk_ext! [idx]
theorem blk4 : iblk m c 4 t0_0 = V m c main_arg5 := whole4 _

theorem whole5 (v : FVec Ideal S512 .f32) : ((cfg0.win 5).blk t0_0).view.read (Elt Ideal) v = v := by
  blk_ext! [idx]
theorem blk5 : iblk m c 5 t0_0 = V m c main_arg6 := whole5 _

theorem whole6 (v : FVec Ideal S512 .f32) : ((cfg0.win 6).blk t0_0).view.read (Elt Ideal) v = v := by
  blk_ext! [idx]
theorem blk6 : iblk m c 6 t0_0 = V m c main_arg7 := whole6 _

theorem whole7 (v : FVec Ideal S512 .f32) : ((cfg0.win 7).blk t0_0).view.read (Elt Ideal) v = v := by
  blk_ext! [idx]
theorem blk7 : iblk m c 7 t0_0 = V m c main_arg8 := whole7 _

theorem whole8 (v : FVec Ideal S512 .f32) : ((cfg0.win 8).blk t0_0).view.read (Elt Ideal) v = v := by
  blk_ext! [idx]
theorem blk8 : iblk m c 8 t0_0 = V m c main_arg9 := whole8 _

theorem whole9 (v : FVec Ideal S512 .f32) : ((cfg0.win 9).blk t0_0).view.read (Elt Ideal) v = v := by
  blk_ext! [idx]
theorem blk9 : iblk m c 9 t0_0 = V m c main_arg10 := whole9 _

section Out
variable (x0 : Vec Ideal S6x512x6144 .f32) (x1 : Vec Ideal S6x6144 .f32) (x2 x3 x4 : Vec Ideal S512x512 .fp8e4m3) (x5 x6 x7 x8 x9 : Vec Ideal S512 .f32)

theorem out10 : out0_10 x0 x1 x2 x3 x4 x5 x6 x7 x8 x9 = k0_pay2 x0 := by
  unfold out0_10
  rw [View.ld_unit_lit (X := x0) _ (by decide)]
  exact View.canon_cons_unit_lit _ _ _ (by decide)

theorem out11 : out0_11 x0 x1 x2 x3 x4 x5 x6 x7 x8 x9 = k0_pay4 x0 x1 x2 x5 x8 := by
  unfold out0_11
  rw [View.ld_unit_lit (X := x0) _ (by decide), View.ld_unit_lit (X := x1) _ (by decide), View.ld_unit_lit (X := x2) _ (by decide), View.ld_unit_lit (X := x5) _ (by decide), View.ld_unit_lit (X := x8) _ (by decide)]
  exact View.canon_cons_unit_lit _ _ _ (by decide)

theorem out12 : out0_12 x0 x1 x2 x3 x4 x5 x6 x7 x8 x9 = k0_pay5 x0 x1 x3 x6 := by
  unfold out0_12
  rw [View.ld_unit_lit (X := x0) _ (by decide), View.ld_unit_lit (X := x1) _ (by decide), View.ld_unit_lit (X := x3) _ (by decide), View.ld_unit_lit (X := x6) _ (by decide)]
  exact View.canon_cons_unit_lit _ _ _ (by decide)

theorem out13 : out0_13 x0 x1 x2 x3 x4 x5 x6 x7 x8 x9 = k0_pay1 (k0_pay2 x0) (k0_pay3 x1) x4 x7 x9 := by
  unfold out0_13
  rw [View.ld_unit_lit (X := x0) _ (by decide), View.ld_unit_lit (X := x1) _ (by decide), View.ld_unit_lit (X := x4) _ (by decide), View.ld_unit_lit (X := x7) _ (by decide), View.ld_unit_lit (X := x9) _ (by decide)]
  exact View.canon_cons_unit_lit _ _ _ (by decide)

end Out

theorem end10 : (dats m 0 c).arrAt 10 cfg0.N = k0_pay2 (iblk m c 0 t0_0) := by
  refine (dats m 0 c).arrAt_eq_of_after_last 10 t0_0 (by decide +kernel) _ fun j => ?_
  blk_simp
  rw [after0_10, out10]

theorem end11 : (dats m 0 c).arrAt 11 cfg0.N = k0_pay4 (iblk m c 0 t0_0) (iblk m c 1 t0_0) (iblk m c 2 t0_0) (iblk m c 5 t0_0) (iblk m c 8 t0_0) := by
  refine (dats m 0 c).arrAt_eq_of_after_last 11 t0_0 (by decide +kernel) _ fun j => ?_
  blk_simp
  rw [after0_11, out11]

theorem end12 : (dats m 0 c).arrAt 12 cfg0.N = k0_pay5 (iblk m c 0 t0_0) (iblk m c 1 t0_0) (iblk m c 3 t0_0) (iblk m c 6 t0_0) := by
  refine (dats m 0 c).arrAt_eq_of_after_last 12 t0_0 (by decide +kernel) _ fun j => ?_
  blk_simp
  rw [after0_12, out12]

theorem end13 : (dats m 0 c).arrAt 13 cfg0.N = k0_pay1 (k0_pay2 (iblk m c 0 t0_0)) (k0_pay3 (iblk m c 1 t0_0)) (iblk m c 4 t0_0) (iblk m c 7 t0_0) (iblk m c 9 t0_0) := by
  refine (dats m 0 c).arrAt_eq_of_after_last 13 t0_0 (by decide +kernel) _ fun j => ?_
  blk_simp
  rw [after0_13, out13]

/-! ### The results -/

variable {m c}

/-- The codes. -/
theorem codes_at (h : Reals m c x G B H) (b : Fin 6) (d : Fin 512) (i : Fin 6144) :
    ((dats m 0 c).arrAt 10 cfg0.N : FVec Ideal S6x512x6144 .fp8e4m3) (ix3 b d i) = code H b d i := by
  rw [end10, blk0]
  exact (pay2_at _ b d i).trans (code_at h b d i)

/-- The queries. -/
theorem q_at (h : Reals m c x G B H) (b : Fin 6) (d : Fin 512) (i : Fin 6144) :
    ((dats m 0 c).arrAt 11 cfg0.N : FVec Ideal S6x512x6144 .bf16) (ix3 b d i)
      = @HAdd.hAdd EReal EReal EReal _ (proj H (fun x d => (m ((c.tc : Thread nD τ).loc main_arg3) : FVec Ideal S512x512 .fp8e4m3) (ix2 x d))
        (fun d => (m ((c.tc : Thread nD τ).loc main_arg6) : FVec Ideal S512 .f32) (ix1 d)) b d i)
        ((m ((c.tc : Thread nD τ).loc main_arg9) : FVec Ideal S512 .f32) (ix1 d)) := by
  rw [end11, blk0, blk1, blk2, blk5, blk8]
  refine (pay4_at _ _ _ _ _ b d i).trans ?_
  rw [scl_at h, V_main_arg3, V_main_arg6, V_main_arg9, proj]
  simp only [code_at h]

/-- The keys. -/
theorem k_at (h : Reals m c x G B H) (b : Fin 6) (i : Fin 6144) (d : Fin 512) :
    ((dats m 0 c).arrAt 12 cfg0.N : FVec Ideal S6x6144x512 .bf16) (ix3 b i d)
      = proj H (fun x d => (m ((c.tc : Thread nD τ).loc main_arg4) : FVec Ideal S512x512 .fp8e4m3) (ix2 x d))
        (fun d => (m ((c.tc : Thread nD τ).loc main_arg7) : FVec Ideal S512 .f32) (ix1 d)) b d i := by
  rw [end12, blk0, blk1, blk3, blk6]
  refine (pay5_at _ _ _ _ b i d).trans ?_
  rw [scl_at h, V_main_arg4, V_main_arg7, proj]
  simp only [code_at h]

/-- The values. -/
theorem v_at (h : Reals m c x G B H) (b : Fin 6) (d : Fin 512) (i : Fin 6144) :
    ((dats m 0 c).arrAt 13 cfg0.N : FVec Ideal S6x512x6144 .bf16) (ix3 b d i)
      = @HAdd.hAdd EReal EReal EReal _ (proj H (fun x d => (m ((c.tc : Thread nD τ).loc main_arg5) : FVec Ideal S512x512 .fp8e4m3) (ix2 x d))
        (fun d => (m ((c.tc : Thread nD τ).loc main_arg8) : FVec Ideal S512 .f32) (ix1 d)) b d i)
        ((m ((c.tc : Thread nD τ).loc main_arg10) : FVec Ideal S512 .f32) (ix1 d)) := by
  rw [end13, blk0, blk1, blk4, blk7, blk9]
  refine (pay1_at _ _ _ _ _ b d i).trans ?_
  rw [scl_at h, V_main_arg5, V_main_arg8, V_main_arg10, proj]
  simp only [code_at h]

/-- The run: each result as named, and the arguments unchanged. -/
theorem values : θ_run defs (onTc (τ := τ) (main (F := Ideal))) ⟨m, fun _ => 0, ρ⟩ (fun r => ∀ c : Dev nD,
      r.2.mem ((c.tc : Thread nD τ).loc main_v52_0) = (dats m 0 c).arrAt 10 cfg0.N
      ∧ r.2.mem ((c.tc : Thread nD τ).loc main_v44) = V m c main_v44
      ∧ r.2.mem ((c.tc : Thread nD τ).loc main_v52_1) = (dats m 0 c).arrAt 11 cfg0.N
      ∧ r.2.mem ((c.tc : Thread nD τ).loc main_v52_2) = (dats m 0 c).arrAt 12 cfg0.N
      ∧ r.2.mem ((c.tc : Thread nD τ).loc main_v52_3) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨Value.post10 m r h c, ((h c).1 1).trans (((dats m 0 c).arrAt_in 1 rfl _).trans (A_eq m c 1)),
    Value.post11 m r h c, Value.post12 m r h c, Value.post13 m r h c,
    Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c, Value.kept_main_arg9 m r h c, Value.kept_main_arg10 m r h c⟩) (run_main m ρ)

end Cert.Prl.Ref
end
-- ==== Proof.PrlValue.lean ====
module

public import proofs.«01_k».proof.Defs
public import proofs.«01_k».proof.Proof.PrlEnds
public import proofs.«01_k».proof.Proof.PrlKernel
public import proofs.«01_k».proof.Proof.PrlPre
public import proofs.«01_k».proof.Proof.PrlRefEnds

@[expose] public section

/-!
The prologue kernel's five results are the reference's.
-/

set_option maxRecDepth 16384

noncomputable section
namespace Cert.Prl
open Cert.PrologueIdeal Cert.PrologueIdeal.Gen Idealize.ShloMosaic Idealize.ShloMosaic.TcCoe Idealize.SL.Sem

variable {m : (ℓ : Loc nD τ sig) → Buf (Elt Ideal) ℓ} {c : Dev nD}
variable {x : Fin 6 → Fin 512 → Fin 6144 → EReal} {G B : Fin 512 → ℝ} {H : Fin 6 → Fin 512 → Fin 6144 → ℝ}

/-- The launch has image `x`, and real gain `G` and offset `B`, and the normalised image is the real `H`, which is bounded. -/
structure Reals (m : (ℓ : Loc nD τ sig) → Buf (Elt Ideal) ℓ) (c : Dev nD) (x : Fin 6 → Fin 512 → Fin 6144 → EReal)
    (G B : Fin 512 → ℝ) (H : Fin 6 → Fin 512 → Fin 6144 → ℝ) : Prop where
  image : ∀ b d i, (m ((c.tc : Thread nD τ).loc main_arg0) : FVec Ideal S6x512x6144 .bf16) (ix3 b d i) = x b d i
  gain : ∀ d, (m ((c.tc : Thread nD τ).loc main_arg1) : FVec Ideal S512 .f32) (ix1 d) = (G d : EReal)
  offset : ∀ d, (m ((c.tc : Thread nD τ).loc main_arg2) : FVec Ideal S512 .f32) (ix1 d) = (B d : EReal)
  norm : ∀ b d i, enorm x G B b d i = (H b d i : EReal)
  bound : ∀ b d i, |H b d i| ≤ 315 * 2 ^ 126

/-- Every point's tile is the normalised image's. -/
theorem tile_norm (h : Reals m c x G B H) (t : Fin cfg0.N) (d i : Fin 512) :
    outH (xt m c t) (stM m c t) (stL m c t) (iblk m c 2 t) (ix2 d i) = (H (batch t) d (place t i) : EReal) := by
  have h0 : ∀ d j, (iblk m c 0 t : Vec Ideal S1x512x6144 .bf16) (ix3 0 d j) = x (batch t) d j := fun d j => (read0 m c t d j).trans (h.image _ _ _)
  exact (outH_at (I := place t) (fun d i => (tile_at _ t d i).trans (h0 d _)) (mean_at h0) (mult_at h0 fun d => (read1 m c t d).trans (h.gain d))
    (fun d => (read2 m c t d).trans (h.offset d)) d i).trans (h.norm _ _ _)

/-- The codes. -/
theorem arrC_at (h : Reals m c x G B H) (b : Fin 6) (d : Fin 512) (n : Fin 6144) : arrC m c (ix3 b d n) = code H b d n := by
  have e := outB_at h.bound (tile_norm h (pt b n)) d (lane n)
  rw [place_pt, batch_pt] at e
  exact e

/-- The scales. -/
theorem arrS_at (h : Reals m c x G B H) (b : Fin 6) (n : Fin 6144) : arrS m c (ix2 b n) = scl H b n := by
  have e := outS_at h.bound (tile_norm h (pt b n)) (lane n)
  rw [place_pt, batch_pt] at e
  exact e

/-- The queries. -/
theorem arrQ_at (h : Reals m c x G B H) (b : Fin 6) (d : Fin 512) (n : Fin 6144) : arrQ m c (ix3 b d n)
    = @HAdd.hAdd EReal EReal EReal _ (proj H (fun x d => (m ((c.tc : Thread nD τ).loc main_arg3) : FVec Ideal S512x512 .fp8e4m3) (ix2 x d))
        (fun d => (m ((c.tc : Thread nD τ).loc main_arg6) : FVec Ideal S512 .f32) (ix1 d)) b d n)
        ((m ((c.tc : Thread nD τ).loc main_arg9) : FVec Ideal S512 .f32) (ix1 d)) := by
  have e := outQ_at (w := iblk m c 3 (pt b n)) (s := iblk m c 6 (pt b n)) (t := iblk m c 9 (pt b n)) h.bound (tile_norm h (pt b n)) d (lane n)
  simp only [place_pt, batch_pt, read3, read6, read9] at e
  exact e

/-- The keys. -/
theorem arrK_at (h : Reals m c x G B H) (b : Fin 6) (n : Fin 6144) (d : Fin 512) : arrK m c (ix3 b n d)
    = proj H (fun x d => (m ((c.tc : Thread nD τ).loc main_arg4) : FVec Ideal S512x512 .fp8e4m3) (ix2 x d))
        (fun d => (m ((c.tc : Thread nD τ).loc main_arg7) : FVec Ideal S512 .f32) (ix1 d)) b d n := by
  have e := outK_at (w := iblk m c 4 (pt b n)) (s := iblk m c 7 (pt b n)) h.bound (tile_norm h (pt b n)) (lane n) d
  simp only [place_pt, batch_pt, read4, read7] at e
  exact e

/-- The values. -/
theorem arrV_at (h : Reals m c x G B H) (b : Fin 6) (d : Fin 512) (n : Fin 6144) : arrV m c (ix3 b d n)
    = @HAdd.hAdd EReal EReal EReal _ (proj H (fun x d => (m ((c.tc : Thread nD τ).loc main_arg5) : FVec Ideal S512x512 .fp8e4m3) (ix2 x d))
        (fun d => (m ((c.tc : Thread nD τ).loc main_arg8) : FVec Ideal S512 .f32) (ix1 d)) b d n)
        ((m ((c.tc : Thread nD τ).loc main_arg10) : FVec Ideal S512 .f32) (ix1 d)) := by
  have e := outV_at (w := iblk m c 5 (pt b n)) (s := iblk m c 8 (pt b n)) (t := iblk m c 10 (pt b n)) h.bound (tile_norm h (pt b n)) d (lane n)
  simp only [place_pt, batch_pt, read5, read8, read10] at e
  exact e

set_option maxHeartbeats 1000000 in
/-- On arguments that agree, the five results agree. -/
theorem agree {m' : (ℓ : Loc Cert.PrologueRefIdeal.nD Cert.PrologueRefIdeal.τ Cert.PrologueRefIdeal.sig) → Buf (Elt Ideal) ℓ} (hp : Cert.Pre_PrologueIdeal_bounded_gn m) (c : Dev nD)
    (e0 : m' ((c.tc : Thread Cert.PrologueRefIdeal.nD Cert.PrologueRefIdeal.τ).loc Cert.PrologueRefIdeal.main_arg0) = m ((c.tc : Thread nD τ).loc main_arg0))
    (e1 : m' ((c.tc : Thread Cert.PrologueRefIdeal.nD Cert.PrologueRefIdeal.τ).loc Cert.PrologueRefIdeal.main_arg1) = m ((c.tc : Thread nD τ).loc main_arg1))
    (e2 : m' ((c.tc : Thread Cert.PrologueRefIdeal.nD Cert.PrologueRefIdeal.τ).loc Cert.PrologueRefIdeal.main_arg2) = m ((c.tc : Thread nD τ).loc main_arg2))
    (e3 : m' ((c.tc : Thread Cert.PrologueRefIdeal.nD Cert.PrologueRefIdeal.τ).loc Cert.PrologueRefIdeal.main_arg3) = m ((c.tc : Thread nD τ).loc main_arg3))
    (e4 : m' ((c.tc : Thread Cert.PrologueRefIdeal.nD Cert.PrologueRefIdeal.τ).loc Cert.PrologueRefIdeal.main_arg4) = m ((c.tc : Thread nD τ).loc main_arg4))
    (e5 : m' ((c.tc : Thread Cert.PrologueRefIdeal.nD Cert.PrologueRefIdeal.τ).loc Cert.PrologueRefIdeal.main_arg5) = m ((c.tc : Thread nD τ).loc main_arg5))
    (e6 : m' ((c.tc : Thread Cert.PrologueRefIdeal.nD Cert.PrologueRefIdeal.τ).loc Cert.PrologueRefIdeal.main_arg6) = m ((c.tc : Thread nD τ).loc main_arg6))
    (e7 : m' ((c.tc : Thread Cert.PrologueRefIdeal.nD Cert.PrologueRefIdeal.τ).loc Cert.PrologueRefIdeal.main_arg7) = m ((c.tc : Thread nD τ).loc main_arg7))
    (e8 : m' ((c.tc : Thread Cert.PrologueRefIdeal.nD Cert.PrologueRefIdeal.τ).loc Cert.PrologueRefIdeal.main_arg8) = m ((c.tc : Thread nD τ).loc main_arg8))
    (e9 : m' ((c.tc : Thread Cert.PrologueRefIdeal.nD Cert.PrologueRefIdeal.τ).loc Cert.PrologueRefIdeal.main_arg9) = m ((c.tc : Thread nD τ).loc main_arg9))
    (e10 : m' ((c.tc : Thread Cert.PrologueRefIdeal.nD Cert.PrologueRefIdeal.τ).loc Cert.PrologueRefIdeal.main_arg10) = m ((c.tc : Thread nD τ).loc main_arg10)) :
    (Cert.PrologueRefIdeal.Gen.dats m' 0 c).arrAt 10 Cert.PrologueRefIdeal.cfg0.N = arrC m c
    ∧ Cert.PrologueRefIdeal.Gen.V m' c Cert.PrologueRefIdeal.main_v44 = arrS m c
    ∧ (Cert.PrologueRefIdeal.Gen.dats m' 0 c).arrAt 11 Cert.PrologueRefIdeal.cfg0.N = arrQ m c
    ∧ (Cert.PrologueRefIdeal.Gen.dats m' 0 c).arrAt 12 Cert.PrologueRefIdeal.cfg0.N = arrK m c
    ∧ (Cert.PrologueRefIdeal.Gen.dats m' 0 c).arrAt 13 Cert.PrologueRefIdeal.cfg0.N = arrV m c := by
  obtain ⟨G, B, hg, hb, hG, hB⟩ := reals (hp c).1 (hp c).2
  let x : Fin 6 → Fin 512 → Fin 6144 → EReal := fun b d i => (m ((c.tc : Thread nD τ).loc main_arg0) : FVec Ideal S6x512x6144 .bf16) (ix3 b d i)
  obtain ⟨H, hH, hb'⟩ := enorm_real G B x hG hB
  have h : Reals m c x G B H := ⟨fun _ _ _ => rfl, hg, hb, hH, hb'⟩
  have h' : Ref.Reals m' c x G B H := ⟨fun _ _ _ => congrFun e0 _, fun d => (congrFun e1 _).trans (hg d), fun d => (congrFun e2 _).trans (hb d), hH⟩
  refine ⟨funext fun i => ?_, funext fun i => ?_, funext fun i => ?_, funext fun i => ?_, funext fun i => ?_⟩
  · rw [eq_ix3 i]
    exact (Ref.codes_at h' _ _ _).trans (arrC_at h _ _ _).symm
  · rw [eq_ix2 i]
    exact (Ref.scl_at h' _ _).trans (arrS_at h _ _).symm
  · rw [eq_ix3 i]
    refine (Ref.q_at h' _ _ _).trans (Eq.trans ?_ (arrQ_at h _ _ _).symm)
    rw [e3, e6, e9]
  · rw [eq_ix3 i]
    refine (Ref.k_at h' _ _ _).trans (Eq.trans ?_ (arrK_at h _ _ _).symm)
    rw [e4, e7]
  · rw [eq_ix3 i]
    refine (Ref.v_at h' _ _ _).trans (Eq.trans ?_ (arrV_at h _ _ _).symm)
    rw [e5, e8, e10]

/-- The value claim of the prologue call. -/
theorem algebraic : Cert.algebraic_PrologueIdeal_PrologueRefIdeal_pre_bounded_gn := by
  intro m g m' g' hp hm
  have ha := fun c => by
    obtain ⟨e0, e1, e2, e3, e4, e5, e6, e7, e8, e9, e10⟩ := hm c
    exact agree hp c e0 e1 e2 e3 e4 e5 e6 e7 e8 e9 e10
  refine ⟨arrC m, arrS m, arrQ m, arrK m, arrV m, values m g, ?_⟩
  refine (θ_run _ _ _).mono (fun r h c => ?_) (Ref.values (m := m') g')
  obtain ⟨h0, h1, h2, h3, h4, hk⟩ := h c
  obtain ⟨a0, a1, a2, a3, a4⟩ := ha c
  exact ⟨h0.trans a0, h1.trans a1, h2.trans a2, h3.trans a3, h4.trans a4, hk⟩

end Cert.Prl
end
-- ==== Proof.lean ====
module

public import proofs.«01_k».proof.Defs
public import proofs.«01_k».proof.Proof.Gen.Attention
public import proofs.«01_k».proof.Proof.Gen.Attention.Skeleton
public import proofs.«01_k».proof.Proof.Gen.Attention.Loops
public import proofs.«01_k».proof.Proof.Gen.Attention.Launch
public import proofs.«01_k».proof.Proof.Gen.Attention.Points
public import proofs.«01_k».proof.Proof.AttentionFrame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.Prologue
public import proofs.«01_k».proof.Proof.Gen.Prologue.Skeleton
public import proofs.«01_k».proof.Proof.Gen.Prologue.Loops
public import proofs.«01_k».proof.Proof.Gen.Prologue.Launch
public import proofs.«01_k».proof.Proof.Gen.Prologue.Points
public import proofs.«01_k».proof.Proof.PrologueFrame
public import proofs.«01_k».proof.Proof.Gen.PrologueIdeal
public import proofs.«01_k».proof.Proof.Gen.PrologueIdeal.Skeleton
public import proofs.«01_k».proof.Proof.Gen.PrologueIdeal.Loops
public import proofs.«01_k».proof.Proof.Gen.PrologueIdeal.Launch
public import proofs.«01_k».proof.Proof.Gen.PrologueIdeal.Points
public import proofs.«01_k».proof.Proof.Gen.PrologueIdeal.Frame
public import proofs.«01_k».proof.Proof.Gen.PrologueRefIdeal
public import proofs.«01_k».proof.Proof.Gen.PrologueRefIdeal.Skeleton
public import proofs.«01_k».proof.Proof.Gen.PrologueRefIdeal.Launch
public import proofs.«01_k».proof.Proof.Gen.PrologueRefIdeal.Points
public import proofs.«01_k».proof.Proof.Gen.PrologueRefIdeal.Frame
public import proofs.«01_k».proof.Proof.Gen.PrologueRefIdeal.Value
public import proofs.«01_k».proof.Proof.Gen.Pre_bounded_gn
public import proofs.«01_k».proof.Proof.AttnEnds
public import proofs.«01_k».proof.Proof.AttnValue
public import proofs.«01_k».proof.Proof.PrlEnds
public import proofs.«01_k».proof.Proof.PrlValue
public import proofs.«01_k».proof.Proof.Gen.AttentionRefIdeal
public import proofs.«01_k».proof.Proof.Gen.AttentionRefIdeal.Value
public import proofs.«01_k».proof.Proof.Gen.AttentionRefIdeal.Skeleton
public import proofs.«01_k».proof.Proof.Gen.AttentionRefIdeal.Launch
public import proofs.«01_k».proof.Proof.Gen.AttentionRefIdeal.Points
public import proofs.«01_k».proof.Proof.Gen.AttentionRefIdeal.Frame
public import proofs.«01_k».proof.Proof.Gen.Pre_finite_qkv
public import Idealize.ShloMosaic.Adequacy
public import Idealize.ShloMosaic.Init

@[expose] public section

noncomputable section

namespace Cert.Proof

open Idealize.ShloMosaic Idealize.SL.Sem Cert.Attention

theorem claim : Cert.Claim := ⟨Cert.Attention.Gen.facts, Cert.AttentionIdeal.Gen.facts, Cert.Prologue.Gen.facts, Cert.PrologueIdeal.Gen.facts, Cert.AttentionRefIdeal.Gen.facts, Cert.PrologueRefIdeal.Gen.facts, Cert.Pre_finite_qkv.Gen.facts, Cert.Pre_bounded_gn.Gen.facts,
  fun m ρ _ => Cert.Attention.Quiet.frame m ρ, fun m ρ _ => Cert.Attn.frame m ρ, fun m ρ _ => Cert.Attn.frame m ρ,
  fun m ρ _ => Cert.Prologue.Quiet.frame m ρ, fun m ρ _ => Cert.Prl.frame m ρ, fun m ρ _ => Cert.Prl.frame m ρ,
  fun m ρ _ => Cert.AttentionRefIdeal.Gen.frame m ρ, fun m ρ _ => Cert.PrologueRefIdeal.Gen.frame m ρ,
  ⟨IdealRules.named_const.statement Cert.AttentionIdeal.κ "c2" .f32 0x3D8293EE#32 (((Real.sqrt 512)⁻¹ * (Real.log 2)⁻¹ : ℝ) : EReal) rfl,
    IdealRules.named_const.statement Cert.AttentionIdeal.κ "inv_448" .f32 0x3B124925#32 ((1 / 448 : ℝ) : EReal) rfl⟩,
  ⟨IdealRules.named_const.statement Cert.PrologueIdeal.κ "inv_98304" .f32 0x372AAAAB#32 ((1 / 98304 : ℝ) : EReal) rfl,
    IdealRules.named_const.statement Cert.PrologueIdeal.κ "inv_448" .f32 0x3B124925#32 ((1 / 448 : ℝ) : EReal) rfl⟩,
  Cert.Attn.algebraic, Cert.Prl.algebraic⟩

end Cert.Proof

end
